-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S2x256x64x128 : Shape := ⟨4, ![2, 256, 64, 128]⟩
abbrev S512x512 : Shape := ⟨2, ![512, 512]⟩
abbrev S992x512 : Shape := ⟨2, ![992, 512]⟩
abbrev S2x128x64x128 : Shape := ⟨4, ![2, 128, 64, 128]⟩
abbrev S2x256x256 : Shape := ⟨3, ![2, 256, 256]⟩
abbrev S2 : Shape := ⟨1, ![2]⟩
abbrev S14 : Shape := ⟨1, ![14]⟩
abbrev S1 : Shape := ⟨1, ![1]⟩
abbrev S_ : Shape := ⟨0, ![]⟩
abbrev S1x128x64x128 : Shape := ⟨4, ![1, 128, 64, 128]⟩
abbrev S128x64x128 : Shape := ⟨3, ![128, 64, 128]⟩
abbrev S256x256 : Shape := ⟨2, ![256, 256]⟩
abbrev S4x128 : Shape := ⟨2, ![4, 128]⟩
abbrev S8192x128 : Shape := ⟨2, ![8192, 128]⟩
abbrev S128x8192 : Shape := ⟨2, ![128, 8192]⟩
abbrev S4x8192 : Shape := ⟨2, ![4, 8192]⟩
abbrev S4x128x64 : Shape := ⟨3, ![4, 128, 64]⟩
abbrev S1x128x64 : Shape := ⟨3, ![1, 128, 64]⟩
abbrev S128x64 : Shape := ⟨2, ![128, 64]⟩
abbrev S256x64 : Shape := ⟨2, ![256, 64]⟩
abbrev S1x256x64 : Shape := ⟨3, ![1, 256, 64]⟩
abbrev S64x256 : Shape := ⟨2, ![64, 256]⟩
abbrev S256 : Shape := ⟨1, ![256]⟩
abbrev S256x1 : Shape := ⟨2, ![256, 1]⟩
abbrev S64x512 : Shape := ⟨2, ![64, 512]⟩
abbrev S16x512 : Shape := ⟨2, ![16, 512]⟩

abbrev nBuf : Space → Nat
  | .hbm => 9
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S2x256x64x128, .f32⟩
  | .hbm, ⟨6, _⟩ => ⟨S2x256x64x128, .f32⟩
  | .hbm, ⟨7, _⟩ => ⟨S512x512, .f32⟩
  | .hbm, ⟨8, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S512x512, .f32⟩
  | .local _ .vmem, ⟨4, _⟩ => ⟨S992x512, .bf16⟩
  | .local _ .vmem, ⟨5, _⟩ => ⟨S256x512, .bf16⟩
  | .local _ .vmem, ⟨6, _⟩ => ⟨S2x128x64x128, .f32⟩
  | .local _ .vmem, ⟨7, _⟩ => ⟨S2x256x256, .bf16⟩
  | .local _ .vmem, ⟨8, _⟩ => ⟨S2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_453 : BitVec 32 := 0#32
  let c8_i32_419 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v656 : BitVec 32 := Scalar.muli c8_i32_419 v19
  let c2_i32_420 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v657 : BitVec 32 := Scalar.muli c2_i32_420 v37
  let v658 : BitVec 32 := Scalar.addi v656 v657
  let c1_i32_418 : BitVec 32 := 1#32
  let v38 : BitVec 32 := Scalar.addi v20 v37
  let c2_i32_12 : BitVec 32 := 2#32
  let v39 : BitVec 32 := Scalar.remsi v38 c2_i32_12
  let v655 : BitVec 32 := Scalar.subi c1_i32_418 v39
  let v659 : BitVec 32 := Scalar.addi v655 v37
  let c2_i32_421 : BitVec 32 := 2#32
  let v660 : BitVec 32 := Scalar.remsi v659 c2_i32_421
  let v661 : BitVec 32 := Scalar.addi v658 v660
  let c1_i32_452 : BitVec 32 := 1#32
  let v711 : BitVec 32 := Scalar.muli v661 c1_i32_452
  let v712 : BitVec 32 := Scalar.addi c0_i32_453 v711
  v712.toNat
def k0_dev2 (d0 : Dev nD) : Nat :=
  let c0_i32_456 : BitVec 32 := 0#32
  let c8_i32_424 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v664 : BitVec 32 := Scalar.muli c8_i32_424 v19
  let c2_i32_425 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_422 : BitVec 32 := 1#32
  let v662 : BitVec 32 := Scalar.addi v37 c1_i32_422
  let c4_i32_423 : BitVec 32 := 4#32
  let v663 : BitVec 32 := Scalar.remsi v662 c4_i32_423
  let v665 : BitVec 32 := Scalar.muli c2_i32_425 v663
  let v666 : BitVec 32 := Scalar.addi v664 v665
  let v38 : BitVec 32 := Scalar.addi v20 v37
  let c2_i32_12 : BitVec 32 := 2#32
  let v39 : BitVec 32 := Scalar.remsi v38 c2_i32_12
  let v667 : BitVec 32 := Scalar.addi v39 v663
  let c2_i32_426 : BitVec 32 := 2#32
  let v668 : BitVec 32 := Scalar.remsi v667 c2_i32_426
  let v669 : BitVec 32 := Scalar.addi v666 v668
  let c1_i32_455 : BitVec 32 := 1#32
  let v713 : BitVec 32 := Scalar.muli v669 c1_i32_455
  let v714 : BitVec 32 := Scalar.addi c0_i32_456 v713
  v714.toNat
def k0_dev3 (d0 : Dev nD) : Nat :=
  let c0_i32_459 : BitVec 32 := 0#32
  let c8_i32_429 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v672 : BitVec 32 := Scalar.muli c8_i32_429 v19
  let c2_i32_430 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_427 : BitVec 32 := 2#32
  let v670 : BitVec 32 := Scalar.addi v37 c2_i32_427
  let c4_i32_428 : BitVec 32 := 4#32
  let v671 : BitVec 32 := Scalar.remsi v670 c4_i32_428
  let v673 : BitVec 32 := Scalar.muli c2_i32_430 v671
  let v674 : BitVec 32 := Scalar.addi v672 v673
  let v38 : BitVec 32 := Scalar.addi v20 v37
  let c2_i32_12 : BitVec 32 := 2#32
  let v39 : BitVec 32 := Scalar.remsi v38 c2_i32_12
  let v675 : BitVec 32 := Scalar.addi v39 v671
  let c2_i32_431 : BitVec 32 := 2#32
  let v676 : BitVec 32 := Scalar.remsi v675 c2_i32_431
  let v677 : BitVec 32 := Scalar.addi v674 v676
  let c1_i32_458 : BitVec 32 := 1#32
  let v715 : BitVec 32 := Scalar.muli v677 c1_i32_458
  let v716 : BitVec 32 := Scalar.addi c0_i32_459 v715
  v716.toNat
def k0_dev4 (d0 : Dev nD) : Nat :=
  let c0_i32_462 : BitVec 32 := 0#32
  let c8_i32_433 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v680 : BitVec 32 := Scalar.muli c8_i32_433 v19
  let c2_i32_434 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v678 : BitVec 32 := Scalar.addi v37 c3_i32
  let c4_i32_432 : BitVec 32 := 4#32
  let v679 : BitVec 32 := Scalar.remsi v678 c4_i32_432
  let v681 : BitVec 32 := Scalar.muli c2_i32_434 v679
  let v682 : BitVec 32 := Scalar.addi v680 v681
  let v38 : BitVec 32 := Scalar.addi v20 v37
  let c2_i32_12 : BitVec 32 := 2#32
  let v39 : BitVec 32 := Scalar.remsi v38 c2_i32_12
  let v683 : BitVec 32 := Scalar.addi v39 v679
  let c2_i32_435 : BitVec 32 := 2#32
  let v684 : BitVec 32 := Scalar.remsi v683 c2_i32_435
  let v685 : BitVec 32 := Scalar.addi v682 v684
  let c1_i32_461 : BitVec 32 := 1#32
  let v717 : BitVec 32 := Scalar.muli v685 c1_i32_461
  let v718 : BitVec 32 := Scalar.addi c0_i32_462 v717
  v718.toNat
def k0_dev5 (d0 : Dev nD) : Nat :=
  let c0_i32_465 : BitVec 32 := 0#32
  let c8_i32_438 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_436 : BitVec 32 := 1#32
  let v686 : BitVec 32 := Scalar.addi v19 c1_i32_436
  let c4_i32_437 : BitVec 32 := 4#32
  let v687 : BitVec 32 := Scalar.remsi v686 c4_i32_437
  let v688 : BitVec 32 := Scalar.muli c8_i32_438 v687
  let c2_i32_439 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v689 : BitVec 32 := Scalar.muli c2_i32_439 v37
  let v690 : BitVec 32 := Scalar.addi v688 v689
  let v38 : BitVec 32 := Scalar.addi v20 v37
  let c2_i32_12 : BitVec 32 := 2#32
  let v39 : BitVec 32 := Scalar.remsi v38 c2_i32_12
  let v691 : BitVec 32 := Scalar.addi v39 v37
  let c2_i32_440 : BitVec 32 := 2#32
  let v692 : BitVec 32 := Scalar.remsi v691 c2_i32_440
  let v693 : BitVec 32 := Scalar.addi v690 v692
  let c1_i32_464 : BitVec 32 := 1#32
  let v719 : BitVec 32 := Scalar.muli v693 c1_i32_464
  let v720 : BitVec 32 := Scalar.addi c0_i32_465 v719
  v720.toNat
def k0_dev6 (d0 : Dev nD) : Nat :=
  let c0_i32_468 : BitVec 32 := 0#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_441 : BitVec 32 := 2#32
  let v694 : BitVec 32 := Scalar.addi v19 c2_i32_441
  let c4_i32_442 : BitVec 32 := 4#32
  let v695 : BitVec 32 := Scalar.remsi v694 c4_i32_442
  let v696 : BitVec 32 := Scalar.muli c8_i32_443 v695
  let c2_i32_444 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v697 : BitVec 32 := Scalar.muli c2_i32_444 v37
  let v698 : BitVec 32 := Scalar.addi v696 v697
  let v38 : BitVec 32 := Scalar.addi v20 v37
  let c2_i32_12 : BitVec 32 := 2#32
  let v39 : BitVec 32 := Scalar.remsi v38 c2_i32_12
  let v699 : BitVec 32 := Scalar.addi v39 v37
  let c2_i32_445 : BitVec 32 := 2#32
  let v700 : BitVec 32 := Scalar.remsi v699 c2_i32_445
  let v701 : BitVec 32 := Scalar.addi v698 v700
  let c1_i32_467 : BitVec 32 := 1#32
  let v721 : BitVec 32 := Scalar.muli v701 c1_i32_467
  let v722 : BitVec 32 := Scalar.addi c0_i32_468 v721
  v722.toNat
def k0_dev7 (d0 : Dev nD) : Nat :=
  let c0_i32_471 : BitVec 32 := 0#32
  let c8_i32_448 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_446 : BitVec 32 := 3#32
  let v702 : BitVec 32 := Scalar.addi v19 c3_i32_446
  let c4_i32_447 : BitVec 32 := 4#32
  let v703 : BitVec 32 := Scalar.remsi v702 c4_i32_447
  let v704 : BitVec 32 := Scalar.muli c8_i32_448 v703
  let c2_i32_449 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v705 : BitVec 32 := Scalar.muli c2_i32_449 v37
  let v706 : BitVec 32 := Scalar.addi v704 v705
  let v38 : BitVec 32 := Scalar.addi v20 v37
  let c2_i32_12 : BitVec 32 := 2#32
  let v39 : BitVec 32 := Scalar.remsi v38 c2_i32_12
  let v707 : BitVec 32 := Scalar.addi v39 v37
  let c2_i32_450 : BitVec 32 := 2#32
  let v708 : BitVec 32 := Scalar.remsi v707 c2_i32_450
  let v709 : BitVec 32 := Scalar.addi v706 v708
  let c1_i32_470 : BitVec 32 := 1#32
  let v723 : BitVec 32 := Scalar.muli v709 c1_i32_470
  let v724 : BitVec 32 := Scalar.addi c0_i32_471 v723
  v724.toNat
def k0_off1 (d0 : Dev nD) : Fin 2 → Nat :=
  let c1_i32_472 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v725 : BitVec 32 := Scalar.subi c1_i32_472 v39
  let c256_i32 : BitVec 32 := 256#32
  let v726 : BitVec 32 := Scalar.muli v725 c256_i32
  let v727 : Index := Scalar.indexCast v726
  let c0_473 : Index := 0#32
  ![v727.toNat, 0]
def k0_dev8 (d0 : Dev nD) : Nat :=
  let c0_i32_479 : BitVec 32 := 0#32
  let c8_i32_419 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v656 : BitVec 32 := Scalar.muli c8_i32_419 v19
  let c2_i32_420 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v657 : BitVec 32 := Scalar.muli c2_i32_420 v37
  let v658 : BitVec 32 := Scalar.addi v656 v657
  let c1_i32_418 : BitVec 32 := 1#32
  let v38 : BitVec 32 := Scalar.addi v20 v37
  let c2_i32_12 : BitVec 32 := 2#32
  let v39 : BitVec 32 := Scalar.remsi v38 c2_i32_12
  let v655 : BitVec 32 := Scalar.subi c1_i32_418 v39
  let v659 : BitVec 32 := Scalar.addi v655 v37
  let c2_i32_421 : BitVec 32 := 2#32
  let v660 : BitVec 32 := Scalar.remsi v659 c2_i32_421
  let v661 : BitVec 32 := Scalar.addi v658 v660
  let c1_i32_478 : BitVec 32 := 1#32
  let v734 : BitVec 32 := Scalar.muli v661 c1_i32_478
  let v735 : BitVec 32 := Scalar.addi c0_i32_479 v734
  v735.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_499 : BitVec 32 := 256#32
  let v752 : BitVec 32 := Scalar.muli v39 c256_i32_499
  let v753 : Index := Scalar.indexCast v752
  let c0_500 : Index := 0#32
  ![v753.toNat, 0]
def k0_off3 (d0 : Dev nD) (c1_i32_506 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_505 : BitVec 32 := 256#32
  let v762 : BitVec 32 := Scalar.muli v39 c256_i32_505
  let v763 : BitVec 32 := Scalar.addi v37 c1_i32_506
  let c4_i32_507 : BitVec 32 := 4#32
  let v764 : BitVec 32 := Scalar.remsi v763 c4_i32_507
  let c2_i32_508 : BitVec 32 := 2#32
  let v765 : BitVec 32 := Scalar.remsi v764 c2_i32_508
  let c128_i32_509 : BitVec 32 := 128#32
  let v766 : BitVec 32 := Scalar.muli v765 c128_i32_509
  let c0_i32_511 : BitVec 32 := 0#32
  let v768 : BitVec 1 := Scalar.cmpi .sgt v764 c0_i32_511
  let v769 : BitVec 32 := Scalar.extui v768
  let c0_i32_512 : BitVec 32 := 0#32
  let v770 : BitVec 1 := Scalar.cmpi .slt v764 c0_i32_512
  let v771 : BitVec 32 := Scalar.extui v770
  let v772 : BitVec 32 := Scalar.subi v769 v771
  let c2_i32_510 : BitVec 32 := 2#32
  let c0_i32_513 : BitVec 32 := 0#32
  let v773 : BitVec 1 := Scalar.cmpi .sgt c2_i32_510 c0_i32_513
  let v774 : BitVec 32 := Scalar.extui v773
  let c0_i32_514 : BitVec 32 := 0#32
  let v775 : BitVec 1 := Scalar.cmpi .slt c2_i32_510 c0_i32_514
  let v776 : BitVec 32 := Scalar.extui v775
  let v777 : BitVec 32 := Scalar.subi v774 v776
  let v778 : BitVec 1 := Scalar.cmpi .ne v772 v777
  let v779 : BitVec 32 := Scalar.remsi v764 c2_i32_510
  let c0_i32_515 : BitVec 32 := 0#32
  let v780 : BitVec 1 := Scalar.cmpi .ne v779 c0_i32_515
  let v781 : BitVec 1 := Scalar.andi v778 v780
  let v767 : BitVec 32 := Scalar.divsi v764 c2_i32_510
  let c1_i32_516 : BitVec 32 := 1#32
  let v782 : BitVec 32 := Scalar.subi v767 c1_i32_516
  let v783 : BitVec 32 := Scalar.select v781 v782 v767
  let c64_i32_517 : BitVec 32 := 64#32
  let v784 : BitVec 32 := Scalar.muli v783 c64_i32_517
  let v785 : BitVec 32 := Scalar.addi v766 v784
  let v786 : BitVec 32 := Scalar.addi v762 v785
  let v835 : Index := Scalar.indexCast v786
  let c0_542 : Index := 0#32
  ![v835.toNat, 0]
def k0_dev9 (d0 : Dev nD) : Nat :=
  let c0_i32_554 : BitVec 32 := 0#32
  let c8_i32_424 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v664 : BitVec 32 := Scalar.muli c8_i32_424 v19
  let c2_i32_425 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_422 : BitVec 32 := 1#32
  let v662 : BitVec 32 := Scalar.addi v37 c1_i32_422
  let c4_i32_423 : BitVec 32 := 4#32
  let v663 : BitVec 32 := Scalar.remsi v662 c4_i32_423
  let v665 : BitVec 32 := Scalar.muli c2_i32_425 v663
  let v666 : BitVec 32 := Scalar.addi v664 v665
  let v38 : BitVec 32 := Scalar.addi v20 v37
  let c2_i32_12 : BitVec 32 := 2#32
  let v39 : BitVec 32 := Scalar.remsi v38 c2_i32_12
  let v667 : BitVec 32 := Scalar.addi v39 v663
  let c2_i32_426 : BitVec 32 := 2#32
  let v668 : BitVec 32 := Scalar.remsi v667 c2_i32_426
  let v669 : BitVec 32 := Scalar.addi v666 v668
  let c1_i32_553 : BitVec 32 := 1#32
  let v856 : BitVec 32 := Scalar.muli v669 c1_i32_553
  let v857 : BitVec 32 := Scalar.addi c0_i32_554 v856
  v857.toNat
def k0_dev10 (d0 : Dev nD) : Nat :=
  let c0_i32_562 : BitVec 32 := 0#32
  let c8_i32_429 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v672 : BitVec 32 := Scalar.muli c8_i32_429 v19
  let c2_i32_430 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_427 : BitVec 32 := 2#32
  let v670 : BitVec 32 := Scalar.addi v37 c2_i32_427
  let c4_i32_428 : BitVec 32 := 4#32
  let v671 : BitVec 32 := Scalar.remsi v670 c4_i32_428
  let v673 : BitVec 32 := Scalar.muli c2_i32_430 v671
  let v674 : BitVec 32 := Scalar.addi v672 v673
  let v38 : BitVec 32 := Scalar.addi v20 v37
  let c2_i32_12 : BitVec 32 := 2#32
  let v39 : BitVec 32 := Scalar.remsi v38 c2_i32_12
  let v675 : BitVec 32 := Scalar.addi v39 v671
  let c2_i32_431 : BitVec 32 := 2#32
  let v676 : BitVec 32 := Scalar.remsi v675 c2_i32_431
  let v677 : BitVec 32 := Scalar.addi v674 v676
  let c1_i32_561 : BitVec 32 := 1#32
  let v864 : BitVec 32 := Scalar.muli v677 c1_i32_561
  let v865 : BitVec 32 := Scalar.addi c0_i32_562 v864
  v865.toNat
def k0_dev11 (d0 : Dev nD) : Nat :=
  let c0_i32_569 : BitVec 32 := 0#32
  let c8_i32_433 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v680 : BitVec 32 := Scalar.muli c8_i32_433 v19
  let c2_i32_434 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v678 : BitVec 32 := Scalar.addi v37 c3_i32
  let c4_i32_432 : BitVec 32 := 4#32
  let v679 : BitVec 32 := Scalar.remsi v678 c4_i32_432
  let v681 : BitVec 32 := Scalar.muli c2_i32_434 v679
  let v682 : BitVec 32 := Scalar.addi v680 v681
  let v38 : BitVec 32 := Scalar.addi v20 v37
  let c2_i32_12 : BitVec 32 := 2#32
  let v39 : BitVec 32 := Scalar.remsi v38 c2_i32_12
  let v683 : BitVec 32 := Scalar.addi v39 v679
  let c2_i32_435 : BitVec 32 := 2#32
  let v684 : BitVec 32 := Scalar.remsi v683 c2_i32_435
  let v685 : BitVec 32 := Scalar.addi v682 v684
  let c1_i32_568 : BitVec 32 := 1#32
  let v872 : BitVec 32 := Scalar.muli v685 c1_i32_568
  let v873 : BitVec 32 := Scalar.addi c0_i32_569 v872
  v873.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_505 : BitVec 32 := 256#32
  let v762 : BitVec 32 := Scalar.muli v39 c256_i32_505
  let c2_i32_618 : BitVec 32 := 2#32
  let v910 : BitVec 32 := Scalar.remsi v37 c2_i32_618
  let c128_i32_619 : BitVec 32 := 128#32
  let v911 : BitVec 32 := Scalar.muli v910 c128_i32_619
  let c0_i32_621 : BitVec 32 := 0#32
  let v913 : BitVec 1 := Scalar.cmpi .sgt v37 c0_i32_621
  let v914 : BitVec 32 := Scalar.extui v913
  let c0_i32_622 : BitVec 32 := 0#32
  let v915 : BitVec 1 := Scalar.cmpi .slt v37 c0_i32_622
  let v916 : BitVec 32 := Scalar.extui v915
  let v917 : BitVec 32 := Scalar.subi v914 v916
  let c2_i32_620 : BitVec 32 := 2#32
  let c0_i32_623 : BitVec 32 := 0#32
  let v918 : BitVec 1 := Scalar.cmpi .sgt c2_i32_620 c0_i32_623
  let v919 : BitVec 32 := Scalar.extui v918
  let c0_i32_624 : BitVec 32 := 0#32
  let v920 : BitVec 1 := Scalar.cmpi .slt c2_i32_620 c0_i32_624
  let v921 : BitVec 32 := Scalar.extui v920
  let v922 : BitVec 32 := Scalar.subi v919 v921
  let v923 : BitVec 1 := Scalar.cmpi .ne v917 v922
  let v924 : BitVec 32 := Scalar.remsi v37 c2_i32_620
  let c0_i32_625 : BitVec 32 := 0#32
  let v925 : BitVec 1 := Scalar.cmpi .ne v924 c0_i32_625
  let v926 : BitVec 1 := Scalar.andi v923 v925
  let v912 : BitVec 32 := Scalar.divsi v37 c2_i32_620
  let c1_i32_626 : BitVec 32 := 1#32
  let v927 : BitVec 32 := Scalar.subi v912 c1_i32_626
  let v928 : BitVec 32 := Scalar.select v926 v927 v912
  let c64_i32_627 : BitVec 32 := 64#32
  let v929 : BitVec 32 := Scalar.muli v928 c64_i32_627
  let v930 : BitVec 32 := Scalar.addi v911 v929
  let v931 : BitVec 32 := Scalar.addi v762 v930
  let v932 : Index := Scalar.indexCast v931
  let c0_628 : Index := 0#32
  ![v932.toNat, 0]
def k0_off5 (d0 : Dev nD) (c1_i32_643 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_505 : BitVec 32 := 256#32
  let v762 : BitVec 32 := Scalar.muli v39 c256_i32_505
  let c2_i32_633 : BitVec 32 := 2#32
  let v946 : BitVec 32 := Scalar.remsi v37 c2_i32_633
  let c128_i32_634 : BitVec 32 := 128#32
  let v947 : BitVec 32 := Scalar.muli v946 c128_i32_634
  let c0_i32_636 : BitVec 32 := 0#32
  let v949 : BitVec 1 := Scalar.cmpi .sgt v37 c0_i32_636
  let v950 : BitVec 32 := Scalar.extui v949
  let c0_i32_637 : BitVec 32 := 0#32
  let v951 : BitVec 1 := Scalar.cmpi .slt v37 c0_i32_637
  let v952 : BitVec 32 := Scalar.extui v951
  let v953 : BitVec 32 := Scalar.subi v950 v952
  let c2_i32_635 : BitVec 32 := 2#32
  let c0_i32_638 : BitVec 32 := 0#32
  let v954 : BitVec 1 := Scalar.cmpi .sgt c2_i32_635 c0_i32_638
  let v955 : BitVec 32 := Scalar.extui v954
  let c0_i32_639 : BitVec 32 := 0#32
  let v956 : BitVec 1 := Scalar.cmpi .slt c2_i32_635 c0_i32_639
  let v957 : BitVec 32 := Scalar.extui v956
  let v958 : BitVec 32 := Scalar.subi v955 v957
  let v959 : BitVec 1 := Scalar.cmpi .ne v953 v958
  let v960 : BitVec 32 := Scalar.remsi v37 c2_i32_635
  let c0_i32_640 : BitVec 32 := 0#32
  let v961 : BitVec 1 := Scalar.cmpi .ne v960 c0_i32_640
  let v962 : BitVec 1 := Scalar.andi v959 v961
  let v948 : BitVec 32 := Scalar.divsi v37 c2_i32_635
  let c1_i32_641 : BitVec 32 := 1#32
  let v963 : BitVec 32 := Scalar.subi v948 c1_i32_641
  let v964 : BitVec 32 := Scalar.select v962 v963 v948
  let c64_i32_642 : BitVec 32 := 64#32
  let v965 : BitVec 32 := Scalar.muli v964 c64_i32_642
  let v966 : BitVec 32 := Scalar.addi v947 v965
  let v967 : BitVec 32 := Scalar.addi v762 v966
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v968 : BitVec 32 := Scalar.addi v19 c1_i32_643
  let c4_i32_644 : BitVec 32 := 4#32
  let v969 : BitVec 32 := Scalar.remsi v968 c4_i32_644
  let c2_i32_645 : BitVec 32 := 2#32
  let v970 : BitVec 32 := Scalar.remsi v969 c2_i32_645
  let c32_i32_646 : BitVec 32 := 32#32
  let v971 : BitVec 32 := Scalar.muli v970 c32_i32_646
  let c0_i32_648 : BitVec 32 := 0#32
  let v973 : BitVec 1 := Scalar.cmpi .sgt v969 c0_i32_648
  let v974 : BitVec 32 := Scalar.extui v973
  let c0_i32_649 : BitVec 32 := 0#32
  let v975 : BitVec 1 := Scalar.cmpi .slt v969 c0_i32_649
  let v976 : BitVec 32 := Scalar.extui v975
  let v977 : BitVec 32 := Scalar.subi v974 v976
  let c2_i32_647 : BitVec 32 := 2#32
  let c0_i32_650 : BitVec 32 := 0#32
  let v978 : BitVec 1 := Scalar.cmpi .sgt c2_i32_647 c0_i32_650
  let v979 : BitVec 32 := Scalar.extui v978
  let c0_i32_651 : BitVec 32 := 0#32
  let v980 : BitVec 1 := Scalar.cmpi .slt c2_i32_647 c0_i32_651
  let v981 : BitVec 32 := Scalar.extui v980
  let v982 : BitVec 32 := Scalar.subi v979 v981
  let v983 : BitVec 1 := Scalar.cmpi .ne v977 v982
  let v984 : BitVec 32 := Scalar.remsi v969 c2_i32_647
  let c0_i32_652 : BitVec 32 := 0#32
  let v985 : BitVec 1 := Scalar.cmpi .ne v984 c0_i32_652
  let v986 : BitVec 1 := Scalar.andi v983 v985
  let v972 : BitVec 32 := Scalar.divsi v969 c2_i32_647
  let c1_i32_653 : BitVec 32 := 1#32
  let v987 : BitVec 32 := Scalar.subi v972 c1_i32_653
  let v988 : BitVec 32 := Scalar.select v986 v987 v972
  let c16_i32 : BitVec 32 := 16#32
  let v989 : BitVec 32 := Scalar.muli v988 c16_i32
  let v990 : BitVec 32 := Scalar.addi v971 v989
  let v991 : BitVec 32 := Scalar.addi v967 v990
  let v1040 : Index := Scalar.indexCast v991
  let c0_678 : Index := 0#32
  ![v1040.toNat, 0]
def k0_dev12 (d0 : Dev nD) : Nat :=
  let c0_i32_688 : BitVec 32 := 0#32
  let c8_i32_438 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_436 : BitVec 32 := 1#32
  let v686 : BitVec 32 := Scalar.addi v19 c1_i32_436
  let c4_i32_437 : BitVec 32 := 4#32
  let v687 : BitVec 32 := Scalar.remsi v686 c4_i32_437
  let v688 : BitVec 32 := Scalar.muli c8_i32_438 v687
  let c2_i32_439 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v689 : BitVec 32 := Scalar.muli c2_i32_439 v37
  let v690 : BitVec 32 := Scalar.addi v688 v689
  let v38 : BitVec 32 := Scalar.addi v20 v37
  let c2_i32_12 : BitVec 32 := 2#32
  let v39 : BitVec 32 := Scalar.remsi v38 c2_i32_12
  let v691 : BitVec 32 := Scalar.addi v39 v37
  let c2_i32_440 : BitVec 32 := 2#32
  let v692 : BitVec 32 := Scalar.remsi v691 c2_i32_440
  let v693 : BitVec 32 := Scalar.addi v690 v692
  let c1_i32_687 : BitVec 32 := 1#32
  let v1061 : BitVec 32 := Scalar.muli v693 c1_i32_687
  let v1062 : BitVec 32 := Scalar.addi c0_i32_688 v1061
  v1062.toNat
def k0_dev13 (d0 : Dev nD) : Nat :=
  let c0_i32_694 : BitVec 32 := 0#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_441 : BitVec 32 := 2#32
  let v694 : BitVec 32 := Scalar.addi v19 c2_i32_441
  let c4_i32_442 : BitVec 32 := 4#32
  let v695 : BitVec 32 := Scalar.remsi v694 c4_i32_442
  let v696 : BitVec 32 := Scalar.muli c8_i32_443 v695
  let c2_i32_444 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v697 : BitVec 32 := Scalar.muli c2_i32_444 v37
  let v698 : BitVec 32 := Scalar.addi v696 v697
  let v38 : BitVec 32 := Scalar.addi v20 v37
  let c2_i32_12 : BitVec 32 := 2#32
  let v39 : BitVec 32 := Scalar.remsi v38 c2_i32_12
  let v699 : BitVec 32 := Scalar.addi v39 v37
  let c2_i32_445 : BitVec 32 := 2#32
  let v700 : BitVec 32 := Scalar.remsi v699 c2_i32_445
  let v701 : BitVec 32 := Scalar.addi v698 v700
  let c1_i32_693 : BitVec 32 := 1#32
  let v1069 : BitVec 32 := Scalar.muli v701 c1_i32_693
  let v1070 : BitVec 32 := Scalar.addi c0_i32_694 v1069
  v1070.toNat
def k0_dev14 (d0 : Dev nD) : Nat :=
  let c0_i32_700 : BitVec 32 := 0#32
  let c8_i32_448 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_446 : BitVec 32 := 3#32
  let v702 : BitVec 32 := Scalar.addi v19 c3_i32_446
  let c4_i32_447 : BitVec 32 := 4#32
  let v703 : BitVec 32 := Scalar.remsi v702 c4_i32_447
  let v704 : BitVec 32 := Scalar.muli c8_i32_448 v703
  let c2_i32_449 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v705 : BitVec 32 := Scalar.muli c2_i32_449 v37
  let v706 : BitVec 32 := Scalar.addi v704 v705
  let v38 : BitVec 32 := Scalar.addi v20 v37
  let c2_i32_12 : BitVec 32 := 2#32
  let v39 : BitVec 32 := Scalar.remsi v38 c2_i32_12
  let v707 : BitVec 32 := Scalar.addi v39 v37
  let c2_i32_450 : BitVec 32 := 2#32
  let v708 : BitVec 32 := Scalar.remsi v707 c2_i32_450
  let v709 : BitVec 32 := Scalar.addi v706 v708
  let c1_i32_699 : BitVec 32 := 1#32
  let v1077 : BitVec 32 := Scalar.muli v709 c1_i32_699
  let v1078 : BitVec 32 := Scalar.addi c0_i32_700 v1077
  v1078.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_505 : BitVec 32 := 256#32
  let v762 : BitVec 32 := Scalar.muli v39 c256_i32_505
  let c2_i32_633 : BitVec 32 := 2#32
  let v946 : BitVec 32 := Scalar.remsi v37 c2_i32_633
  let c128_i32_634 : BitVec 32 := 128#32
  let v947 : BitVec 32 := Scalar.muli v946 c128_i32_634
  let c0_i32_636 : BitVec 32 := 0#32
  let v949 : BitVec 1 := Scalar.cmpi .sgt v37 c0_i32_636
  let v950 : BitVec 32 := Scalar.extui v949
  let c0_i32_637 : BitVec 32 := 0#32
  let v951 : BitVec 1 := Scalar.cmpi .slt v37 c0_i32_637
  let v952 : BitVec 32 := Scalar.extui v951
  let v953 : BitVec 32 := Scalar.subi v950 v952
  let c2_i32_635 : BitVec 32 := 2#32
  let c0_i32_638 : BitVec 32 := 0#32
  let v954 : BitVec 1 := Scalar.cmpi .sgt c2_i32_635 c0_i32_638
  let v955 : BitVec 32 := Scalar.extui v954
  let c0_i32_639 : BitVec 32 := 0#32
  let v956 : BitVec 1 := Scalar.cmpi .slt c2_i32_635 c0_i32_639
  let v957 : BitVec 32 := Scalar.extui v956
  let v958 : BitVec 32 := Scalar.subi v955 v957
  let v959 : BitVec 1 := Scalar.cmpi .ne v953 v958
  let v960 : BitVec 32 := Scalar.remsi v37 c2_i32_635
  let c0_i32_640 : BitVec 32 := 0#32
  let v961 : BitVec 1 := Scalar.cmpi .ne v960 c0_i32_640
  let v962 : BitVec 1 := Scalar.andi v959 v961
  let v948 : BitVec 32 := Scalar.divsi v37 c2_i32_635
  let c1_i32_641 : BitVec 32 := 1#32
  let v963 : BitVec 32 := Scalar.subi v948 c1_i32_641
  let v964 : BitVec 32 := Scalar.select v962 v963 v948
  let c64_i32_642 : BitVec 32 := 64#32
  let v965 : BitVec 32 := Scalar.muli v964 c64_i32_642
  let v966 : BitVec 32 := Scalar.addi v947 v965
  let v967 : BitVec 32 := Scalar.addi v762 v966
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_749 : BitVec 32 := 2#32
  let v1115 : BitVec 32 := Scalar.remsi v19 c2_i32_749
  let c32_i32_750 : BitVec 32 := 32#32
  let v1116 : BitVec 32 := Scalar.muli v1115 c32_i32_750
  let c0_i32_752 : BitVec 32 := 0#32
  let v1118 : BitVec 1 := Scalar.cmpi .sgt v19 c0_i32_752
  let v1119 : BitVec 32 := Scalar.extui v1118
  let c0_i32_753 : BitVec 32 := 0#32
  let v1120 : BitVec 1 := Scalar.cmpi .slt v19 c0_i32_753
  let v1121 : BitVec 32 := Scalar.extui v1120
  let v1122 : BitVec 32 := Scalar.subi v1119 v1121
  let c2_i32_751 : BitVec 32 := 2#32
  let c0_i32_754 : BitVec 32 := 0#32
  let v1123 : BitVec 1 := Scalar.cmpi .sgt c2_i32_751 c0_i32_754
  let v1124 : BitVec 32 := Scalar.extui v1123
  let c0_i32_755 : BitVec 32 := 0#32
  let v1125 : BitVec 1 := Scalar.cmpi .slt c2_i32_751 c0_i32_755
  let v1126 : BitVec 32 := Scalar.extui v1125
  let v1127 : BitVec 32 := Scalar.subi v1124 v1126
  let v1128 : BitVec 1 := Scalar.cmpi .ne v1122 v1127
  let v1129 : BitVec 32 := Scalar.remsi v19 c2_i32_751
  let c0_i32_756 : BitVec 32 := 0#32
  let v1130 : BitVec 1 := Scalar.cmpi .ne v1129 c0_i32_756
  let v1131 : BitVec 1 := Scalar.andi v1128 v1130
  let v1117 : BitVec 32 := Scalar.divsi v19 c2_i32_751
  let c1_i32_757 : BitVec 32 := 1#32
  let v1132 : BitVec 32 := Scalar.subi v1117 c1_i32_757
  let v1133 : BitVec 32 := Scalar.select v1131 v1132 v1117
  let c16_i32_758 : BitVec 32 := 16#32
  let v1134 : BitVec 32 := Scalar.muli v1133 c16_i32_758
  let v1135 : BitVec 32 := Scalar.addi v1116 v1134
  let v1136 : BitVec 32 := Scalar.addi v967 v1135
  let v1137 : Index := Scalar.indexCast v1136
  let c0_759 : Index := 0#32
  ![v1137.toNat, 0]
def k0_dev15 (d0 : Dev nD) : Nat :=
  let c0_i32_786 : BitVec 32 := 0#32
  let c8_i32_438 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_436 : BitVec 32 := 1#32
  let v686 : BitVec 32 := Scalar.addi v19 c1_i32_436
  let c4_i32_437 : BitVec 32 := 4#32
  let v687 : BitVec 32 := Scalar.remsi v686 c4_i32_437
  let v688 : BitVec 32 := Scalar.muli c8_i32_438 v687
  let c2_i32_439 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v689 : BitVec 32 := Scalar.muli c2_i32_439 v37
  let v690 : BitVec 32 := Scalar.addi v688 v689
  let v38 : BitVec 32 := Scalar.addi v20 v37
  let c2_i32_12 : BitVec 32 := 2#32
  let v39 : BitVec 32 := Scalar.remsi v38 c2_i32_12
  let v691 : BitVec 32 := Scalar.addi v39 v37
  let c2_i32_440 : BitVec 32 := 2#32
  let v692 : BitVec 32 := Scalar.remsi v691 c2_i32_440
  let v693 : BitVec 32 := Scalar.addi v690 v692
  let c1_i32_785 : BitVec 32 := 1#32
  let v1194 : BitVec 32 := Scalar.muli v693 c1_i32_785
  let v1195 : BitVec 32 := Scalar.addi c0_i32_786 v1194
  v1195.toNat
def k0_dev16 (d0 : Dev nD) : Nat :=
  let c0_i32_793 : BitVec 32 := 0#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_441 : BitVec 32 := 2#32
  let v694 : BitVec 32 := Scalar.addi v19 c2_i32_441
  let c4_i32_442 : BitVec 32 := 4#32
  let v695 : BitVec 32 := Scalar.remsi v694 c4_i32_442
  let v696 : BitVec 32 := Scalar.muli c8_i32_443 v695
  let c2_i32_444 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v697 : BitVec 32 := Scalar.muli c2_i32_444 v37
  let v698 : BitVec 32 := Scalar.addi v696 v697
  let v38 : BitVec 32 := Scalar.addi v20 v37
  let c2_i32_12 : BitVec 32 := 2#32
  let v39 : BitVec 32 := Scalar.remsi v38 c2_i32_12
  let v699 : BitVec 32 := Scalar.addi v39 v37
  let c2_i32_445 : BitVec 32 := 2#32
  let v700 : BitVec 32 := Scalar.remsi v699 c2_i32_445
  let v701 : BitVec 32 := Scalar.addi v698 v700
  let c1_i32_792 : BitVec 32 := 1#32
  let v1202 : BitVec 32 := Scalar.muli v701 c1_i32_792
  let v1203 : BitVec 32 := Scalar.addi c0_i32_793 v1202
  v1203.toNat
def k0_dev17 (d0 : Dev nD) : Nat :=
  let c0_i32_799 : BitVec 32 := 0#32
  let c8_i32_448 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_446 : BitVec 32 := 3#32
  let v702 : BitVec 32 := Scalar.addi v19 c3_i32_446
  let c4_i32_447 : BitVec 32 := 4#32
  let v703 : BitVec 32 := Scalar.remsi v702 c4_i32_447
  let v704 : BitVec 32 := Scalar.muli c8_i32_448 v703
  let c2_i32_449 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v705 : BitVec 32 := Scalar.muli c2_i32_449 v37
  let v706 : BitVec 32 := Scalar.addi v704 v705
  let v38 : BitVec 32 := Scalar.addi v20 v37
  let c2_i32_12 : BitVec 32 := 2#32
  let v39 : BitVec 32 := Scalar.remsi v38 c2_i32_12
  let v707 : BitVec 32 := Scalar.addi v39 v37
  let c2_i32_450 : BitVec 32 := 2#32
  let v708 : BitVec 32 := Scalar.remsi v707 c2_i32_450
  let v709 : BitVec 32 := Scalar.addi v706 v708
  let c1_i32_798 : BitVec 32 := 1#32
  let v1210 : BitVec 32 := Scalar.muli v709 c1_i32_798
  let v1211 : BitVec 32 := Scalar.addi c0_i32_799 v1210
  v1211.toNat
def k0_off7 (d0 : Dev nD) (c1_i32_848 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_505 : BitVec 32 := 256#32
  let v762 : BitVec 32 := Scalar.muli v39 c256_i32_505
  let c2_i32_633 : BitVec 32 := 2#32
  let v946 : BitVec 32 := Scalar.remsi v37 c2_i32_633
  let c128_i32_634 : BitVec 32 := 128#32
  let v947 : BitVec 32 := Scalar.muli v946 c128_i32_634
  let c0_i32_636 : BitVec 32 := 0#32
  let v949 : BitVec 1 := Scalar.cmpi .sgt v37 c0_i32_636
  let v950 : BitVec 32 := Scalar.extui v949
  let c0_i32_637 : BitVec 32 := 0#32
  let v951 : BitVec 1 := Scalar.cmpi .slt v37 c0_i32_637
  let v952 : BitVec 32 := Scalar.extui v951
  let v953 : BitVec 32 := Scalar.subi v950 v952
  let c2_i32_635 : BitVec 32 := 2#32
  let c0_i32_638 : BitVec 32 := 0#32
  let v954 : BitVec 1 := Scalar.cmpi .sgt c2_i32_635 c0_i32_638
  let v955 : BitVec 32 := Scalar.extui v954
  let c0_i32_639 : BitVec 32 := 0#32
  let v956 : BitVec 1 := Scalar.cmpi .slt c2_i32_635 c0_i32_639
  let v957 : BitVec 32 := Scalar.extui v956
  let v958 : BitVec 32 := Scalar.subi v955 v957
  let v959 : BitVec 1 := Scalar.cmpi .ne v953 v958
  let v960 : BitVec 32 := Scalar.remsi v37 c2_i32_635
  let c0_i32_640 : BitVec 32 := 0#32
  let v961 : BitVec 1 := Scalar.cmpi .ne v960 c0_i32_640
  let v962 : BitVec 1 := Scalar.andi v959 v961
  let v948 : BitVec 32 := Scalar.divsi v37 c2_i32_635
  let c1_i32_641 : BitVec 32 := 1#32
  let v963 : BitVec 32 := Scalar.subi v948 c1_i32_641
  let v964 : BitVec 32 := Scalar.select v962 v963 v948
  let c64_i32_642 : BitVec 32 := 64#32
  let v965 : BitVec 32 := Scalar.muli v964 c64_i32_642
  let v966 : BitVec 32 := Scalar.addi v947 v965
  let v967 : BitVec 32 := Scalar.addi v762 v966
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1248 : BitVec 32 := Scalar.subi v19 c1_i32_848
  let c4_i32_849 : BitVec 32 := 4#32
  let v1249 : BitVec 32 := Scalar.addi v1248 c4_i32_849
  let c4_i32_850 : BitVec 32 := 4#32
  let v1250 : BitVec 32 := Scalar.remsi v1249 c4_i32_850
  let c2_i32_852 : BitVec 32 := 2#32
  let v1253 : BitVec 32 := Scalar.remsi v1250 c2_i32_852
  let c32_i32_853 : BitVec 32 := 32#32
  let v1254 : BitVec 32 := Scalar.muli v1253 c32_i32_853
  let c0_i32_855 : BitVec 32 := 0#32
  let v1256 : BitVec 1 := Scalar.cmpi .sgt v1250 c0_i32_855
  let v1257 : BitVec 32 := Scalar.extui v1256
  let c0_i32_856 : BitVec 32 := 0#32
  let v1258 : BitVec 1 := Scalar.cmpi .slt v1250 c0_i32_856
  let v1259 : BitVec 32 := Scalar.extui v1258
  let v1260 : BitVec 32 := Scalar.subi v1257 v1259
  let c2_i32_854 : BitVec 32 := 2#32
  let c0_i32_857 : BitVec 32 := 0#32
  let v1261 : BitVec 1 := Scalar.cmpi .sgt c2_i32_854 c0_i32_857
  let v1262 : BitVec 32 := Scalar.extui v1261
  let c0_i32_858 : BitVec 32 := 0#32
  let v1263 : BitVec 1 := Scalar.cmpi .slt c2_i32_854 c0_i32_858
  let v1264 : BitVec 32 := Scalar.extui v1263
  let v1265 : BitVec 32 := Scalar.subi v1262 v1264
  let v1266 : BitVec 1 := Scalar.cmpi .ne v1260 v1265
  let v1267 : BitVec 32 := Scalar.remsi v1250 c2_i32_854
  let c0_i32_859 : BitVec 32 := 0#32
  let v1268 : BitVec 1 := Scalar.cmpi .ne v1267 c0_i32_859
  let v1269 : BitVec 1 := Scalar.andi v1266 v1268
  let v1255 : BitVec 32 := Scalar.divsi v1250 c2_i32_854
  let c1_i32_860 : BitVec 32 := 1#32
  let v1270 : BitVec 32 := Scalar.subi v1255 c1_i32_860
  let v1271 : BitVec 32 := Scalar.select v1269 v1270 v1255
  let c16_i32_861 : BitVec 32 := 16#32
  let v1272 : BitVec 32 := Scalar.muli v1271 c16_i32_861
  let v1273 : BitVec 32 := Scalar.addi v1254 v1272
  let v1274 : BitVec 32 := Scalar.addi v967 v1273
  let v1275 : Index := Scalar.indexCast v1274
  let c0_862 : Index := 0#32
  ![v1275.toNat, 0]
def k0_dev18 (d0 : Dev nD) : Nat :=
  let c0_i32_904 : BitVec 32 := 0#32
  let c8_i32_424 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v664 : BitVec 32 := Scalar.muli c8_i32_424 v19
  let c2_i32_425 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_422 : BitVec 32 := 1#32
  let v662 : BitVec 32 := Scalar.addi v37 c1_i32_422
  let c4_i32_423 : BitVec 32 := 4#32
  let v663 : BitVec 32 := Scalar.remsi v662 c4_i32_423
  let v665 : BitVec 32 := Scalar.muli c2_i32_425 v663
  let v666 : BitVec 32 := Scalar.addi v664 v665
  let v38 : BitVec 32 := Scalar.addi v20 v37
  let c2_i32_12 : BitVec 32 := 2#32
  let v39 : BitVec 32 := Scalar.remsi v38 c2_i32_12
  let v667 : BitVec 32 := Scalar.addi v39 v663
  let c2_i32_426 : BitVec 32 := 2#32
  let v668 : BitVec 32 := Scalar.remsi v667 c2_i32_426
  let v669 : BitVec 32 := Scalar.addi v666 v668
  let c1_i32_903 : BitVec 32 := 1#32
  let v1356 : BitVec 32 := Scalar.muli v669 c1_i32_903
  let v1357 : BitVec 32 := Scalar.addi c0_i32_904 v1356
  v1357.toNat
def k0_dev19 (d0 : Dev nD) : Nat :=
  let c0_i32_910 : BitVec 32 := 0#32
  let c8_i32_429 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v672 : BitVec 32 := Scalar.muli c8_i32_429 v19
  let c2_i32_430 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_427 : BitVec 32 := 2#32
  let v670 : BitVec 32 := Scalar.addi v37 c2_i32_427
  let c4_i32_428 : BitVec 32 := 4#32
  let v671 : BitVec 32 := Scalar.remsi v670 c4_i32_428
  let v673 : BitVec 32 := Scalar.muli c2_i32_430 v671
  let v674 : BitVec 32 := Scalar.addi v672 v673
  let v38 : BitVec 32 := Scalar.addi v20 v37
  let c2_i32_12 : BitVec 32 := 2#32
  let v39 : BitVec 32 := Scalar.remsi v38 c2_i32_12
  let v675 : BitVec 32 := Scalar.addi v39 v671
  let c2_i32_431 : BitVec 32 := 2#32
  let v676 : BitVec 32 := Scalar.remsi v675 c2_i32_431
  let v677 : BitVec 32 := Scalar.addi v674 v676
  let c1_i32_909 : BitVec 32 := 1#32
  let v1364 : BitVec 32 := Scalar.muli v677 c1_i32_909
  let v1365 : BitVec 32 := Scalar.addi c0_i32_910 v1364
  v1365.toNat
def k0_dev20 (d0 : Dev nD) : Nat :=
  let c0_i32_916 : BitVec 32 := 0#32
  let c8_i32_433 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v680 : BitVec 32 := Scalar.muli c8_i32_433 v19
  let c2_i32_434 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v678 : BitVec 32 := Scalar.addi v37 c3_i32
  let c4_i32_432 : BitVec 32 := 4#32
  let v679 : BitVec 32 := Scalar.remsi v678 c4_i32_432
  let v681 : BitVec 32 := Scalar.muli c2_i32_434 v679
  let v682 : BitVec 32 := Scalar.addi v680 v681
  let v38 : BitVec 32 := Scalar.addi v20 v37
  let c2_i32_12 : BitVec 32 := 2#32
  let v39 : BitVec 32 := Scalar.remsi v38 c2_i32_12
  let v683 : BitVec 32 := Scalar.addi v39 v679
  let c2_i32_435 : BitVec 32 := 2#32
  let v684 : BitVec 32 := Scalar.remsi v683 c2_i32_435
  let v685 : BitVec 32 := Scalar.addi v682 v684
  let c1_i32_915 : BitVec 32 := 1#32
  let v1372 : BitVec 32 := Scalar.muli v685 c1_i32_915
  let v1373 : BitVec 32 := Scalar.addi c0_i32_916 v1372
  v1373.toNat
def k0_off8 (d0 : Dev nD) (c1_i32_965 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c256_i32_505 : BitVec 32 := 256#32
  let v762 : BitVec 32 := Scalar.muli v39 c256_i32_505
  let v1410 : BitVec 32 := Scalar.subi v37 c1_i32_965
  let c4_i32_966 : BitVec 32 := 4#32
  let v1411 : BitVec 32 := Scalar.addi v1410 c4_i32_966
  let c4_i32_967 : BitVec 32 := 4#32
  let v1412 : BitVec 32 := Scalar.remsi v1411 c4_i32_967
  let c2_i32_969 : BitVec 32 := 2#32
  let v1415 : BitVec 32 := Scalar.remsi v1412 c2_i32_969
  let c128_i32_970 : BitVec 32 := 128#32
  let v1416 : BitVec 32 := Scalar.muli v1415 c128_i32_970
  let c0_i32_972 : BitVec 32 := 0#32
  let v1418 : BitVec 1 := Scalar.cmpi .sgt v1412 c0_i32_972
  let v1419 : BitVec 32 := Scalar.extui v1418
  let c0_i32_973 : BitVec 32 := 0#32
  let v1420 : BitVec 1 := Scalar.cmpi .slt v1412 c0_i32_973
  let v1421 : BitVec 32 := Scalar.extui v1420
  let v1422 : BitVec 32 := Scalar.subi v1419 v1421
  let c2_i32_971 : BitVec 32 := 2#32
  let c0_i32_974 : BitVec 32 := 0#32
  let v1423 : BitVec 1 := Scalar.cmpi .sgt c2_i32_971 c0_i32_974
  let v1424 : BitVec 32 := Scalar.extui v1423
  let c0_i32_975 : BitVec 32 := 0#32
  let v1425 : BitVec 1 := Scalar.cmpi .slt c2_i32_971 c0_i32_975
  let v1426 : BitVec 32 := Scalar.extui v1425
  let v1427 : BitVec 32 := Scalar.subi v1424 v1426
  let v1428 : BitVec 1 := Scalar.cmpi .ne v1422 v1427
  let v1429 : BitVec 32 := Scalar.remsi v1412 c2_i32_971
  let c0_i32_976 : BitVec 32 := 0#32
  let v1430 : BitVec 1 := Scalar.cmpi .ne v1429 c0_i32_976
  let v1431 : BitVec 1 := Scalar.andi v1428 v1430
  let v1417 : BitVec 32 := Scalar.divsi v1412 c2_i32_971
  let c1_i32_977 : BitVec 32 := 1#32
  let v1432 : BitVec 32 := Scalar.subi v1417 c1_i32_977
  let v1433 : BitVec 32 := Scalar.select v1431 v1432 v1417
  let c64_i32_978 : BitVec 32 := 64#32
  let v1434 : BitVec 32 := Scalar.muli v1433 c64_i32_978
  let v1435 : BitVec 32 := Scalar.addi v1416 v1434
  let v1436 : BitVec 32 := Scalar.addi v762 v1435
  let v1437 : Index := Scalar.indexCast v1436
  let c0_979 : Index := 0#32
  ![v1437.toNat, 0]
def k0_dev21 (d0 : Dev nD) : Nat :=
  let c0_i32_1015 : BitVec 32 := 0#32
  let c8_i32_419 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v656 : BitVec 32 := Scalar.muli c8_i32_419 v19
  let c2_i32_420 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v657 : BitVec 32 := Scalar.muli c2_i32_420 v37
  let v658 : BitVec 32 := Scalar.addi v656 v657
  let c1_i32_418 : BitVec 32 := 1#32
  let v38 : BitVec 32 := Scalar.addi v20 v37
  let c2_i32_12 : BitVec 32 := 2#32
  let v39 : BitVec 32 := Scalar.remsi v38 c2_i32_12
  let v655 : BitVec 32 := Scalar.subi c1_i32_418 v39
  let v659 : BitVec 32 := Scalar.addi v655 v37
  let c2_i32_421 : BitVec 32 := 2#32
  let v660 : BitVec 32 := Scalar.remsi v659 c2_i32_421
  let v661 : BitVec 32 := Scalar.addi v658 v660
  let c1_i32_1014 : BitVec 32 := 1#32
  let v1504 : BitVec 32 := Scalar.muli v661 c1_i32_1014
  let v1505 : BitVec 32 := Scalar.addi c0_i32_1015 v1504
  v1505.toNat
def k0_dev22 (d0 : Dev nD) : Nat :=
  let c0_i32_1040_r0 : BitVec 32 := 0#32
  let c8_i32_419 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v656 : BitVec 32 := Scalar.muli c8_i32_419 v19
  let c2_i32_420 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v657 : BitVec 32 := Scalar.muli c2_i32_420 v37
  let v658 : BitVec 32 := Scalar.addi v656 v657
  let c1_i32_418 : BitVec 32 := 1#32
  let v38 : BitVec 32 := Scalar.addi v20 v37
  let c2_i32_12 : BitVec 32 := 2#32
  let v39 : BitVec 32 := Scalar.remsi v38 c2_i32_12
  let v655 : BitVec 32 := Scalar.subi c1_i32_418 v39
  let v659 : BitVec 32 := Scalar.addi v655 v37
  let c2_i32_421 : BitVec 32 := 2#32
  let v660 : BitVec 32 := Scalar.remsi v659 c2_i32_421
  let v661 : BitVec 32 := Scalar.addi v658 v660
  let c1_i32_1039_r0 : BitVec 32 := 1#32
  let v1529_r0 : BitVec 32 := Scalar.muli v661 c1_i32_1039_r0
  let v1530_r0 : BitVec 32 := Scalar.addi c0_i32_1040_r0 v1529_r0
  v1530_r0.toNat
def k0_dev23 (d0 : Dev nD) : Nat :=
  let c0_i32_1043_r0 : BitVec 32 := 0#32
  let c8_i32_424 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v664 : BitVec 32 := Scalar.muli c8_i32_424 v19
  let c2_i32_425 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_422 : BitVec 32 := 1#32
  let v662 : BitVec 32 := Scalar.addi v37 c1_i32_422
  let c4_i32_423 : BitVec 32 := 4#32
  let v663 : BitVec 32 := Scalar.remsi v662 c4_i32_423
  let v665 : BitVec 32 := Scalar.muli c2_i32_425 v663
  let v666 : BitVec 32 := Scalar.addi v664 v665
  let v38 : BitVec 32 := Scalar.addi v20 v37
  let c2_i32_12 : BitVec 32 := 2#32
  let v39 : BitVec 32 := Scalar.remsi v38 c2_i32_12
  let v667 : BitVec 32 := Scalar.addi v39 v663
  let c2_i32_426 : BitVec 32 := 2#32
  let v668 : BitVec 32 := Scalar.remsi v667 c2_i32_426
  let v669 : BitVec 32 := Scalar.addi v666 v668
  let c1_i32_1042_r0 : BitVec 32 := 1#32
  let v1531_r0 : BitVec 32 := Scalar.muli v669 c1_i32_1042_r0
  let v1532_r0 : BitVec 32 := Scalar.addi c0_i32_1043_r0 v1531_r0
  v1532_r0.toNat
def k0_dev24 (d0 : Dev nD) : Nat :=
  let c0_i32_1046_r0 : BitVec 32 := 0#32
  let c8_i32_429 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v672 : BitVec 32 := Scalar.muli c8_i32_429 v19
  let c2_i32_430 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_427 : BitVec 32 := 2#32
  let v670 : BitVec 32 := Scalar.addi v37 c2_i32_427
  let c4_i32_428 : BitVec 32 := 4#32
  let v671 : BitVec 32 := Scalar.remsi v670 c4_i32_428
  let v673 : BitVec 32 := Scalar.muli c2_i32_430 v671
  let v674 : BitVec 32 := Scalar.addi v672 v673
  let v38 : BitVec 32 := Scalar.addi v20 v37
  let c2_i32_12 : BitVec 32 := 2#32
  let v39 : BitVec 32 := Scalar.remsi v38 c2_i32_12
  let v675 : BitVec 32 := Scalar.addi v39 v671
  let c2_i32_431 : BitVec 32 := 2#32
  let v676 : BitVec 32 := Scalar.remsi v675 c2_i32_431
  let v677 : BitVec 32 := Scalar.addi v674 v676
  let c1_i32_1045_r0 : BitVec 32 := 1#32
  let v1533_r0 : BitVec 32 := Scalar.muli v677 c1_i32_1045_r0
  let v1534_r0 : BitVec 32 := Scalar.addi c0_i32_1046_r0 v1533_r0
  v1534_r0.toNat
def k0_dev25 (d0 : Dev nD) : Nat :=
  let c0_i32_1049_r0 : BitVec 32 := 0#32
  let c8_i32_433 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v680 : BitVec 32 := Scalar.muli c8_i32_433 v19
  let c2_i32_434 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v678 : BitVec 32 := Scalar.addi v37 c3_i32
  let c4_i32_432 : BitVec 32 := 4#32
  let v679 : BitVec 32 := Scalar.remsi v678 c4_i32_432
  let v681 : BitVec 32 := Scalar.muli c2_i32_434 v679
  let v682 : BitVec 32 := Scalar.addi v680 v681
  let v38 : BitVec 32 := Scalar.addi v20 v37
  let c2_i32_12 : BitVec 32 := 2#32
  let v39 : BitVec 32 := Scalar.remsi v38 c2_i32_12
  let v683 : BitVec 32 := Scalar.addi v39 v679
  let c2_i32_435 : BitVec 32 := 2#32
  let v684 : BitVec 32 := Scalar.remsi v683 c2_i32_435
  let v685 : BitVec 32 := Scalar.addi v682 v684
  let c1_i32_1048_r0 : BitVec 32 := 1#32
  let v1535_r0 : BitVec 32 := Scalar.muli v685 c1_i32_1048_r0
  let v1536_r0 : BitVec 32 := Scalar.addi c0_i32_1049_r0 v1535_r0
  v1536_r0.toNat
def k0_dev26 (d0 : Dev nD) : Nat :=
  let c0_i32_1052_r0 : BitVec 32 := 0#32
  let c8_i32_438 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_436 : BitVec 32 := 1#32
  let v686 : BitVec 32 := Scalar.addi v19 c1_i32_436
  let c4_i32_437 : BitVec 32 := 4#32
  let v687 : BitVec 32 := Scalar.remsi v686 c4_i32_437
  let v688 : BitVec 32 := Scalar.muli c8_i32_438 v687
  let c2_i32_439 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v689 : BitVec 32 := Scalar.muli c2_i32_439 v37
  let v690 : BitVec 32 := Scalar.addi v688 v689
  let v38 : BitVec 32 := Scalar.addi v20 v37
  let c2_i32_12 : BitVec 32 := 2#32
  let v39 : BitVec 32 := Scalar.remsi v38 c2_i32_12
  let v691 : BitVec 32 := Scalar.addi v39 v37
  let c2_i32_440 : BitVec 32 := 2#32
  let v692 : BitVec 32 := Scalar.remsi v691 c2_i32_440
  let v693 : BitVec 32 := Scalar.addi v690 v692
  let c1_i32_1051_r0 : BitVec 32 := 1#32
  let v1537_r0 : BitVec 32 := Scalar.muli v693 c1_i32_1051_r0
  let v1538_r0 : BitVec 32 := Scalar.addi c0_i32_1052_r0 v1537_r0
  v1538_r0.toNat
def k0_dev27 (d0 : Dev nD) : Nat :=
  let c0_i32_1055_r0 : BitVec 32 := 0#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_441 : BitVec 32 := 2#32
  let v694 : BitVec 32 := Scalar.addi v19 c2_i32_441
  let c4_i32_442 : BitVec 32 := 4#32
  let v695 : BitVec 32 := Scalar.remsi v694 c4_i32_442
  let v696 : BitVec 32 := Scalar.muli c8_i32_443 v695
  let c2_i32_444 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v697 : BitVec 32 := Scalar.muli c2_i32_444 v37
  let v698 : BitVec 32 := Scalar.addi v696 v697
  let v38 : BitVec 32 := Scalar.addi v20 v37
  let c2_i32_12 : BitVec 32 := 2#32
  let v39 : BitVec 32 := Scalar.remsi v38 c2_i32_12
  let v699 : BitVec 32 := Scalar.addi v39 v37
  let c2_i32_445 : BitVec 32 := 2#32
  let v700 : BitVec 32 := Scalar.remsi v699 c2_i32_445
  let v701 : BitVec 32 := Scalar.addi v698 v700
  let c1_i32_1054_r0 : BitVec 32 := 1#32
  let v1539_r0 : BitVec 32 := Scalar.muli v701 c1_i32_1054_r0
  let v1540_r0 : BitVec 32 := Scalar.addi c0_i32_1055_r0 v1539_r0
  v1540_r0.toNat
def k0_dev28 (d0 : Dev nD) : Nat :=
  let c0_i32_1058_r0 : BitVec 32 := 0#32
  let c8_i32_448 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_446 : BitVec 32 := 3#32
  let v702 : BitVec 32 := Scalar.addi v19 c3_i32_446
  let c4_i32_447 : BitVec 32 := 4#32
  let v703 : BitVec 32 := Scalar.remsi v702 c4_i32_447
  let v704 : BitVec 32 := Scalar.muli c8_i32_448 v703
  let c2_i32_449 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v705 : BitVec 32 := Scalar.muli c2_i32_449 v37
  let v706 : BitVec 32 := Scalar.addi v704 v705
  let v38 : BitVec 32 := Scalar.addi v20 v37
  let c2_i32_12 : BitVec 32 := 2#32
  let v39 : BitVec 32 := Scalar.remsi v38 c2_i32_12
  let v707 : BitVec 32 := Scalar.addi v39 v37
  let c2_i32_450 : BitVec 32 := 2#32
  let v708 : BitVec 32 := Scalar.remsi v707 c2_i32_450
  let v709 : BitVec 32 := Scalar.addi v706 v708
  let c1_i32_1057_r0 : BitVec 32 := 1#32
  let v1541_r0 : BitVec 32 := Scalar.muli v709 c1_i32_1057_r0
  let v1542_r0 : BitVec 32 := Scalar.addi c0_i32_1058_r0 v1541_r0
  v1542_r0.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x8192, .f32⟩
  | 2 => ⟨S2x256x128x64, .f32⟩
  | 3 => ⟨S2x256x128x64, .f32⟩
  | 4 => ⟨S8192x512, .f32⟩
  | 5 => ⟨S2x256x8192, .f32⟩
  | 6 => ⟨S2x256x128x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S1x256, .i32⟩
  | 47 => ⟨S256x256, .i32⟩
  | 48 => ⟨S256x256, .i32⟩
  | 49 => ⟨S256x256, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x256, .i32⟩
  | 57 => ⟨S1x256, .i32⟩
  | 58 => ⟨S_, .i32⟩
  | 59 => ⟨S1x256, .i32⟩
  | 60 => ⟨S1x256, .i1⟩
  | 61 => ⟨S_, .i32⟩
  | 62 => ⟨S1x256, .i32⟩
  | 63 => ⟨S1x256, .i1⟩
  | 64 => ⟨S_, .i32⟩
  | 65 => ⟨S_, .i1⟩
  | 66 => ⟨S1x256, .i1⟩
  | 67 => ⟨S1x256, .i1⟩
  | 68 => ⟨S1x256, .i1⟩
  | 69 => ⟨S1x256, .i32⟩
  | 70 => ⟨S1x256, .i32⟩
  | 71 => ⟨S1x256, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x256, .i32⟩
  | 95 => ⟨S256x256, .i32⟩
  | 96 => ⟨S256x256, .i1⟩
  | 97 => ⟨S256x256, .i1⟩
  | 98 => ⟨S2x128x256x256, .f32⟩
  | 99 => ⟨S_, .f32⟩
  | 100 => ⟨S2x128x256x256, .f32⟩
  | 101 => ⟨S2x128x256x256, .f32⟩
  | 102 => ⟨S1x1x256x256, .i1⟩
  | 103 => ⟨S_, .f32⟩
  | 104 => ⟨S_, .f32⟩
  | 105 => ⟨S2x128x256x256, .i1⟩
  | 106 => ⟨S2x128x256x256, .f32⟩
  | 107 => ⟨S2x128x256x256, .f32⟩
  | 108 => ⟨S_, .f32⟩
  | 109 => ⟨S2x128x256, .f32⟩
  | 110 => ⟨S2x128x256x1, .f32⟩
  | 111 => ⟨S2x128x256x256, .f32⟩
  | 112 => ⟨S2x128x256x256, .f32⟩
  | 113 => ⟨S2x128x256x256, .f32⟩
  | 114 => ⟨S_, .i1⟩
  | 115 => ⟨S256, .i1⟩
  | 116 => ⟨S1x1x256x1, .i1⟩
  | 117 => ⟨S_, .f32⟩
  | 118 => ⟨S2x128x256, .f32⟩
  | 119 => ⟨S2x128x256x1, .f32⟩
  | 120 => ⟨S_, .f32⟩
  | 121 => ⟨S_, .f32⟩
  | 122 => ⟨S2x128x256x1, .i1⟩
  | 123 => ⟨S2x128x256x1, .f32⟩
  | 124 => ⟨S2x128x256x1, .f32⟩
  | 125 => ⟨S2x128x256x256, .f32⟩
  | 126 => ⟨S2x128x256x256, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x128x256x256, .i1⟩
  | 3 => ⟨S2x128x256x256, .f32⟩
  | 4 => ⟨S2x128x256x256, .f32⟩
  | 5 => ⟨S2x128x64x256, .f32⟩
  | 6 => ⟨S2x256x128x64, .f32⟩
  | 7 => ⟨S2x256x8192, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Tactic.OpenCalls
public import Idealize.ShloMosaic.Lib.Tactic.Stretches

@[expose] public section

noncomputable section

namespace Cert.KernelIdeal.Body

open Cert.KernelIdeal Cert.KernelIdeal.Gen
open Idealize.ShloMosaic
open Idealize.ShloMosaic.TcCoe Idealize.SL Idealize.SL.Sem

variable {F : FTy → Type} [FloatOps F]

/-- The kernel's body on the buffers and semaphores that the region calls it with. -/
def body0 : Prog (TpuEff nD τ sig (Elt F) Λ₀ .tc) PUnit :=
  cc0_body (Memref.whole cc0_stg0_0) (Memref.isWhole_whole _) (Memref.whole cc0_stg1_0) (Memref.isWhole_whole _)
    (Memref.whole main_v1) (Memref.isWhole_whole _) (Memref.whole main_v2) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scoped0

set_option maxHeartbeats 2000000 in
open_calls flat := body0 [cc0_body, k0_part47, k0_part15, k0_part20, k0_part21, k0_part22, k0_part40, k0_part45, k0_part46]

set_option maxHeartbeats 2000000 in
cut_chain s := flat at 16, 23, 31, 38, 44, 48, 55, 68, 77

end Cert.KernelIdeal.Body

end
-- ==== Proof.Model.lean ====
module

public import proofs.«01_k».proof.Proof.Body
public import Idealize.ShloMosaic.Lib.Pipeline.Kit
public import Idealize.ShloMosaic.Lib.Rounds
public import Idealize.ShloMosaic.Lib.Transfers

/-!
The ghost state that the proof of the kernel uses: the pipeline's own, the protocol's (cells with rounds of duties, a
duty numbered by one of seven partners), and the counters of the local copies.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The protocol's share of the ghost state: cells with rounds, each duty numbered by a partner. -/
abbrev UT : Type := URounds (GSem nD τ sig) (Fin 7)

/-- All of the ghost state. -/
abbrev UU : Type := UR sig nD τ × (UT × Counters)

variable {F : FTy → Type} [FloatOps F]

local notation "𝕄" => MT nD τ sig Unit (Elt F) ℕ UU ℕ

/-- The pipeline's share. -/
abbrev EP : Emb (UR sig nD τ) (MT nD τ sig Unit (Elt F) ℕ UU ℕ) := embL

/-- The protocol's share. -/
def ET : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb

instance ET_landsIn : (ET : Emb UT 𝕄).LandsIn (upEmb : UEmb _ 𝕄) := by unfold ET; infer_instance

/-- A buffer of device `c`, whole, at the contents `f`. -/
abbrev pt (c : Dev nD) (b : Ref sig .tc) (f : b.ty.Contents (Elt F)) : sProp 𝕄 :=
  (Memref.whole b).view.loc (c : Thread nD τ) ↦{fullShare} f

abbrev 𝒱₀ : Variants := Variants.none

end Cert.KernelIdeal.Body

end
-- ==== Proof.Mesh.lean ====
module

public import proofs.«01_k».proof.Proof.Model

/-!
The mesh of 32 devices, 2 x 4 x 4: the coordinates of a device, its seven partners, whom it sends each of its fourteen
copies to and whom it receives them from. The kernel's device numbers in these terms.
-/

@[expose] public section

noncomputable section

namespace Cert.KernelIdeal.Body

open Cert.KernelIdeal Cert.KernelIdeal.Gen
open Idealize.ShloMosaic
open Idealize.ShloMosaic.TcCoe

/-- The coordinates of a device: the plane `z`, the row `y`, the side `x`. -/
def zOf (c : Dev nD) : ℕ := c.val / 8
def yOf (c : Dev nD) : ℕ := c.val / 2 % 4
def xOf (c : Dev nD) : ℕ := (c.val % 2 + yOf c) % 2

/-- The device at the coordinates `x`, `y`, `z` (taken modulo 2, 4, 4). -/
def devAt (x y z : ℕ) : Dev nD := ⟨8 * (z % 4) + 2 * (y % 4) + (x + y) % 2, by
  show 8 * (z % 4) + 2 * (y % 4) + (x + y) % 2 < 32
  omega⟩

/-- Partner `q` of a device: the other side for `q = 0`, the three other rows for 1 to 3, the three other planes for 4 to 6. -/
def partner (q : Fin 7) (c : Dev nD) : Dev nD :=
  if q.val = 0 then devAt (1 - xOf c) (yOf c) (zOf c)
  else if q.val ≤ 3 then devAt (xOf c) (yOf c + q.val) (zOf c)
  else devAt (xOf c) (yOf c) (zOf c + (q.val - 3))

/-- Which partner one is to one's partner `q`. -/
def inv (q : Fin 7) : Fin 7 := (![0, 3, 2, 1, 6, 5, 4] : Fin 7 → Fin 7) q

/-- Which partner the copy `k` goes to. -/
def pk (k : Fin 14) : Fin 7 := (![0, 1, 2, 3, 4, 5, 6, 4, 5, 6, 1, 2, 3, 0] : Fin 14 → Fin 7) k

theorem inv_inv (q : Fin 7) : inv (inv q) = q := by revert q; decide

theorem partner_inv (q : Fin 7) (c : Dev nD) : partner (inv q) (partner q c) = c := by
  revert q c; decide +kernel

theorem partner_inv' (q : Fin 7) (c : Dev nD) : partner q (partner (inv q) c) = c := by
  revert q c; decide +kernel

/-- Whom device `c` sends its copy `k` to, and whom it receives that copy from. -/
def dst (k : Fin 14) (c : Dev nD) : Dev nD := partner (pk k) c
def src (k : Fin 14) (c : Dev nD) : Dev nD := partner (inv (pk k)) c

theorem src_dst (k : Fin 14) (c : Dev nD) : src k (dst k c) = c := partner_inv _ _
theorem dst_src (k : Fin 14) (c : Dev nD) : dst k (src k c) = c := partner_inv' _ _

theorem dev1_eq (c : Dev nD) : (⟨k0_dev1 c, k0_dev1_lt c⟩ : Dev nD) = partner 0 c := by revert c; decide +kernel
theorem dev2_eq (c : Dev nD) : (⟨k0_dev2 c, k0_dev2_lt c⟩ : Dev nD) = partner 1 c := by revert c; decide +kernel
theorem dev3_eq (c : Dev nD) : (⟨k0_dev3 c, k0_dev3_lt c⟩ : Dev nD) = partner 2 c := by revert c; decide +kernel
theorem dev4_eq (c : Dev nD) : (⟨k0_dev4 c, k0_dev4_lt c⟩ : Dev nD) = partner 3 c := by revert c; decide +kernel
theorem dev5_eq (c : Dev nD) : (⟨k0_dev5 c, k0_dev5_lt c⟩ : Dev nD) = partner 4 c := by revert c; decide +kernel
theorem dev6_eq (c : Dev nD) : (⟨k0_dev6 c, k0_dev6_lt c⟩ : Dev nD) = partner 5 c := by revert c; decide +kernel
theorem dev7_eq (c : Dev nD) : (⟨k0_dev7 c, k0_dev7_lt c⟩ : Dev nD) = partner 6 c := by revert c; decide +kernel
theorem dev8_eq (c : Dev nD) : (⟨k0_dev8 c, k0_dev8_lt c⟩ : Dev nD) = dst 0 c := by revert c; decide +kernel
theorem dev9_eq (c : Dev nD) : (⟨k0_dev9 c, k0_dev9_lt c⟩ : Dev nD) = dst 1 c := by revert c; decide +kernel
theorem dev10_eq (c : Dev nD) : (⟨k0_dev10 c, k0_dev10_lt c⟩ : Dev nD) = dst 2 c := by revert c; decide +kernel
theorem dev11_eq (c : Dev nD) : (⟨k0_dev11 c, k0_dev11_lt c⟩ : Dev nD) = dst 3 c := by revert c; decide +kernel
theorem dev12_eq (c : Dev nD) : (⟨k0_dev12 c, k0_dev12_lt c⟩ : Dev nD) = dst 4 c := by revert c; decide +kernel
theorem dev13_eq (c : Dev nD) : (⟨k0_dev13 c, k0_dev13_lt c⟩ : Dev nD) = dst 5 c := by revert c; decide +kernel
theorem dev14_eq (c : Dev nD) : (⟨k0_dev14 c, k0_dev14_lt c⟩ : Dev nD) = dst 6 c := by revert c; decide +kernel
theorem dev15_eq (c : Dev nD) : (⟨k0_dev15 c, k0_dev15_lt c⟩ : Dev nD) = dst 7 c := by revert c; decide +kernel
theorem dev16_eq (c : Dev nD) : (⟨k0_dev16 c, k0_dev16_lt c⟩ : Dev nD) = dst 8 c := by revert c; decide +kernel
theorem dev17_eq (c : Dev nD) : (⟨k0_dev17 c, k0_dev17_lt c⟩ : Dev nD) = dst 9 c := by revert c; decide +kernel
theorem dev18_eq (c : Dev nD) : (⟨k0_dev18 c, k0_dev18_lt c⟩ : Dev nD) = dst 10 c := by revert c; decide +kernel
theorem dev19_eq (c : Dev nD) : (⟨k0_dev19 c, k0_dev19_lt c⟩ : Dev nD) = dst 11 c := by revert c; decide +kernel
theorem dev20_eq (c : Dev nD) : (⟨k0_dev20 c, k0_dev20_lt c⟩ : Dev nD) = dst 12 c := by revert c; decide +kernel
theorem dev21_eq (c : Dev nD) : (⟨k0_dev21 c, k0_dev21_lt c⟩ : Dev nD) = dst 13 c := by revert c; decide +kernel
theorem dev22_eq (c : Dev nD) : (⟨k0_dev22 c, k0_dev22_lt c⟩ : Dev nD) = partner 0 c := by revert c; decide +kernel
theorem dev23_eq (c : Dev nD) : (⟨k0_dev23 c, k0_dev23_lt c⟩ : Dev nD) = partner 1 c := by revert c; decide +kernel
theorem dev24_eq (c : Dev nD) : (⟨k0_dev24 c, k0_dev24_lt c⟩ : Dev nD) = partner 2 c := by revert c; decide +kernel
theorem dev25_eq (c : Dev nD) : (⟨k0_dev25 c, k0_dev25_lt c⟩ : Dev nD) = partner 3 c := by revert c; decide +kernel
theorem dev26_eq (c : Dev nD) : (⟨k0_dev26 c, k0_dev26_lt c⟩ : Dev nD) = partner 4 c := by revert c; decide +kernel
theorem dev27_eq (c : Dev nD) : (⟨k0_dev27 c, k0_dev27_lt c⟩ : Dev nD) = partner 5 c := by revert c; decide +kernel
theorem dev28_eq (c : Dev nD) : (⟨k0_dev28 c, k0_dev28_lt c⟩ : Dev nD) = partner 6 c := by revert c; decide +kernel

end Cert.KernelIdeal.Body

end
-- ==== Proof.Values.lean ====
module

public import proofs.«01_k».proof.Proof.Mesh
public import Idealize.ShloMosaic.Lib.ValueIdxCore

/-!
What the buffers hold through the six exchanges, as functions of the partial results `A0` that the devices have before
the first: the result's buffer after each exchange (`A1` to `A6`), the blocks that are sent in it (`S0` to `S5`), and the
whole receive buffer at the end (`Cm`).
-/

@[expose] public section

noncomputable section

namespace Cert.KernelIdeal.Body

open Cert.KernelIdeal Cert.KernelIdeal.Gen
open Idealize.ShloMosaic
open Idealize.ShloMosaic.TcCoe
open Idealize.ShloMosaic.ValueIdx

variable {F : FTy → Type} [FloatOps F]

/-- The contents of a result's buffer. -/
abbrev OutC (F : FTy → Type) [FloatOps F] : Type := (cc0_stg3_0 : Ref sig .tc).ty.Contents (Elt F)

/-- 256, 64 or 16 rows of the result's buffer, read from the place `off`. -/
abbrev rd256 (off : Fin 2 → ℕ) (h : ∀ a, off a + S256x512.size a ≤ S512x512.size a) (f : OutC F) : Vec F S256x512 .f32 :=
  View.readAt (Elt F) (Memref.whole cc0_stg3_0).view (Rect.unit (s := S512x512) off S256x512.size h).toLoadRect f
abbrev rd64 (off : Fin 2 → ℕ) (h : ∀ a, off a + S64x512.size a ≤ S512x512.size a) (f : OutC F) : Vec F S64x512 .f32 :=
  View.readAt (Elt F) (Memref.whole cc0_stg3_0).view (Rect.unit (s := S512x512) off S64x512.size h).toLoadRect f
abbrev rd16 (off : Fin 2 → ℕ) (h : ∀ a, off a + S16x512.size a ≤ S512x512.size a) (f : OutC F) : Vec F S16x512 .f32 :=
  View.readAt (Elt F) (Memref.whole cc0_stg3_0).view (Rect.unit (s := S512x512) off S16x512.size h).toLoadRect f

variable (A0 : Dev nD → OutC F)

/-- The half that goes to the other side. -/
def S0 (c : Dev nD) : Vec F S256x512 .bf16 := k0_pay65 (rd256 (k0_off1 c) (k0_off1_inb c) (A0 c))

/-- After the first exchange: the own half with the other side's added. -/
def A1 (c : Dev nD) : OutC F :=
  (Memref.whole cc0_stg3_0).view.writes (Elt F) (A0 c)
    [⟨Rect.unit (s := S512x512) (k0_off2 c) S256x512.size (k0_off2_inb c),
      k0_pay66 (rd256 (k0_off2 c) (k0_off2_inb c) (A0 c)) (S0 A0 (src 0 c))⟩]

/-- The three quarters that go to the other rows. -/
def S1 (i : Fin 3) (c : Dev nD) : Vec F S64x512 .bf16 :=
  k0_pay67 (rd64 (k0_off3 c (BitVec.ofNat 32 (1 + i.val))) (k0_off3_inb c i) (A1 A0 c))

/-- After the second exchange: the own quarter with the three others' added. -/
def A2 (c : Dev nD) : OutC F :=
  (Memref.whole cc0_stg3_0).view.writes (Elt F) (A1 A0 c)
    [⟨Rect.unit (s := S512x512) (k0_off4 c) S64x512.size (k0_off4_inb c),
      k0_pay70 (rd64 (k0_off4 c) (k0_off4_inb c) (A1 A0 c)) (S1 A0 0 (src 1 c)) (S1 A0 1 (src 2 c)) (S1 A0 2 (src 3 c))⟩]

/-- The three sixteenths that go to the other planes. -/
def S2 (i : Fin 3) (c : Dev nD) : Vec F S16x512 .bf16 :=
  k0_pay71 (rd16 (k0_off5 c (BitVec.ofNat 32 (1 + i.val))) (k0_off5_inb c i) (A2 A0 c))

/-- After the third exchange: the own sixteenth with the three others' added. -/
def A3 (c : Dev nD) : OutC F :=
  (Memref.whole cc0_stg3_0).view.writes (Elt F) (A2 A0 c)
    [⟨Rect.unit (s := S512x512) (k0_off6 c) S16x512.size (k0_off6_inb c),
      k0_pay74 (rd16 (k0_off6 c) (k0_off6_inb c) (A2 A0 c)) (S2 A0 0 (src 4 c)) (S2 A0 1 (src 5 c)) (S2 A0 2 (src 6 c))⟩]

/-- The own sixteenth, as it goes to the other planes. -/
def S3 (c : Dev nD) : Vec F S16x512 .bf16 := k0_pay75 (rd16 (k0_off6 c) (k0_off6_inb c) (A3 A0 c))

/-- After the fourth exchange: the other planes' sixteenths in their places. -/
def A4 (c : Dev nD) : OutC F :=
  (Memref.whole cc0_stg3_0).view.writes (Elt F) (A3 A0 c)
    [⟨Rect.unit (s := S512x512) (k0_off7 c (BitVec.ofNat 32 (1 + (2 : Fin 3).val))) S16x512.size (k0_off7_inb c 2), k0_pay79 (S3 A0 (src 9 c))⟩,
     ⟨Rect.unit (s := S512x512) (k0_off7 c (BitVec.ofNat 32 (1 + (1 : Fin 3).val))) S16x512.size (k0_off7_inb c 1), k0_pay79 (S3 A0 (src 8 c))⟩,
     ⟨Rect.unit (s := S512x512) (k0_off7 c (BitVec.ofNat 32 (1 + (0 : Fin 3).val))) S16x512.size (k0_off7_inb c 0), k0_pay79 (S3 A0 (src 7 c))⟩]

/-- The own quarter, as it goes to the other rows. -/
def S4 (c : Dev nD) : Vec F S64x512 .bf16 := k0_pay82 (rd64 (k0_off4 c) (k0_off4_inb c) (A4 A0 c))

/-- After the fifth exchange: the other rows' quarters in their places. -/
def A5 (c : Dev nD) : OutC F :=
  (Memref.whole cc0_stg3_0).view.writes (Elt F) (A4 A0 c)
    [⟨Rect.unit (s := S512x512) (k0_off8 c (BitVec.ofNat 32 (1 + (2 : Fin 3).val))) S64x512.size (k0_off8_inb c 2), k0_pay86 (S4 A0 (src 12 c))⟩,
     ⟨Rect.unit (s := S512x512) (k0_off8 c (BitVec.ofNat 32 (1 + (1 : Fin 3).val))) S64x512.size (k0_off8_inb c 1), k0_pay86 (S4 A0 (src 11 c))⟩,
     ⟨Rect.unit (s := S512x512) (k0_off8 c (BitVec.ofNat 32 (1 + (0 : Fin 3).val))) S64x512.size (k0_off8_inb c 0), k0_pay86 (S4 A0 (src 10 c))⟩]

/-- The own half, as it goes to the other side. -/
def S5 (c : Dev nD) : Vec F S256x512 .bf16 := k0_pay89 (rd256 (k0_off2 c) (k0_off2_inb c) (A5 A0 c))

/-- After the last exchange: the other side's half in its place. -/
def A6 (c : Dev nD) : OutC F :=
  (Memref.whole cc0_stg3_0).view.writes (Elt F) (A5 A0 c)
    [⟨Rect.unit (s := S512x512) (k0_off1 c) S256x512.size (k0_off1_inb c), k0_pay90 (S5 A0 (src 13 c))⟩]

/-- Where the part of the receive buffer that copy `k` goes to begins, and how many rows it has. -/
def slotOff (k : Fin 14) : ℕ := (![0, 256, 320, 384, 448, 464, 480, 496, 512, 528, 544, 608, 672, 736] : Fin 14 → ℕ) k
def slotRows (k : Fin 14) : ℕ := (![256, 64, 64, 64, 16, 16, 16, 16, 16, 16, 64, 64, 64, 256] : Fin 14 → ℕ) k

/-- A row of a block of 256, 64 or 16 rows, the number taken modulo the number of rows. -/
abbrev at256 (r : ℕ) (e : Fin 512) : S256x512.Idx := ix2 ⟨r % 256, Nat.mod_lt _ (by decide)⟩ e
abbrev at64 (r : ℕ) (e : Fin 512) : S64x512.Idx := ix2 ⟨r % 64, Nat.mod_lt _ (by decide)⟩ e
abbrev at16 (r : ℕ) (e : Fin 512) : S16x512.Idx := ix2 ⟨r % 16, Nat.mod_lt _ (by decide)⟩ e

/-- Row `r` of the block that device `c` sends as its copy `k`. -/
def sent (k : Fin 14) (c : Dev nD) (r : ℕ) (e : Fin 512) : Elt F .bf16 :=
  match k with
  | 0 => S0 A0 c (at256 r e)
  | 1 => S1 A0 0 c (at64 r e)
  | 2 => S1 A0 1 c (at64 r e)
  | 3 => S1 A0 2 c (at64 r e)
  | 4 => S2 A0 0 c (at16 r e)
  | 5 => S2 A0 1 c (at16 r e)
  | 6 => S2 A0 2 c (at16 r e)
  | 7 | 8 | 9 => S3 A0 c (at16 r e)
  | 10 | 11 | 12 => S4 A0 c (at64 r e)
  | 13 => S5 A0 c (at256 r e)

/-- The copy whose part of the receive buffer holds the row `r`. -/
def slotOf (r : ℕ) : Fin 14 :=
  if r < 256 then 0 else if r < 320 then 1 else if r < 384 then 2 else if r < 448 then 3 else if r < 464 then 4
  else if r < 480 then 5 else if r < 496 then 6 else if r < 512 then 7 else if r < 528 then 8 else if r < 544 then 9
  else if r < 608 then 10 else if r < 672 then 11 else if r < 736 then 12 else 13

theorem slotOf_add (k : Fin 14) (x : ℕ) (h : x < slotRows k) : slotOf (slotOff k + x) = k := by
  have hx : x < 256 := lt_of_lt_of_le h ((by decide : ∀ k, slotRows k ≤ 256) k)
  have := (by decide +kernel : ∀ (k : Fin 14) (x : Fin 256), x.val < slotRows k → slotOf (slotOff k + x.val) = k) k ⟨x, hx⟩ h
  exact this

/-- What device `c` has received at the end: at row `r`, what the sender of the copy whose part holds the row sent there. -/
def Cm (c : Dev nD) : (cc0_scratch0 : Ref sig .tc).ty.Contents (Elt F) :=
  fun i : S992x512.Idx => sent A0 (slotOf (i 0).val) (src (slotOf (i 0).val) c) ((i 0).val - slotOff (slotOf (i 0).val)) (i 1)

theorem Cm_apply (c : Dev nD) (k : Fin 14) (i : S992x512.Idx) (x : ℕ) (hx : x < slotRows k) (hi : (i 0).val = slotOff k + x) :
    Cm A0 c i = sent A0 k (src k c) x (i 1) := by
  unfold Cm
  rw [hi, slotOf_add k x hx, Nat.add_sub_cancel_left]

theorem at256_self (x : S256x512.Idx) : at256 (x 0).val (x 1) = x := by
  funext a; match a with
  | 0 => exact Fin.ext (Nat.mod_eq_of_lt (x 0).isLt)
  | 1 => rfl
theorem at64_self (x : S64x512.Idx) : at64 (x 0).val (x 1) = x := by
  funext a; match a with
  | 0 => exact Fin.ext (Nat.mod_eq_of_lt (x 0).isLt)
  | 1 => rfl
theorem at16_self (x : S16x512.Idx) : at16 (x 0).val (x 1) = x := by
  funext a; match a with
  | 0 => exact Fin.ext (Nat.mod_eq_of_lt (x 0).isLt)
  | 1 => rfl

/-- The place of the receive buffer that index `x` of a block of rows is. -/
theorem row_emb {n o : ℕ} (h : ∀ a, (![o, 0] : Fin 2 → ℕ) a + (![n, 512] : Fin 2 → ℕ) a ≤ S992x512.size a)
    (x : (Rect.unit (s := S992x512) ![o, 0] ![n, 512] h).shape.Idx) :
    ((Rect.unit (s := S992x512) ![o, 0] ![n, 512] h).emb x 0).val = o + (x 0).val
      ∧ (Rect.unit (s := S992x512) ![o, 0] ![n, 512] h).emb x 1 = (x 1 : Fin 512) :=
  ⟨by show o + 1 * (x 0).val = _; rw [Nat.one_mul], Fin.ext (by show 0 + 1 * (x 1).val = _; rw [Nat.one_mul, Nat.zero_add])⟩

/-- The part of copy `k`, read as a block of rows, is what was sent. -/
theorem read_slot (c : Dev nD) (k : Fin 14) {n o : ℕ} (hn : slotRows k = n) (ho : slotOff k = o)
    (h : ∀ a, (![o, 0] : Fin 2 → ℕ) a + (![n, 512] : Fin 2 → ℕ) a ≤ S992x512.size a) :
    View.readAt (Elt F) (Memref.whole cc0_scratch0).view (Rect.unit (s := S992x512) ![o, 0] ![n, 512] h).toLoadRect (Cm A0 c)
      = fun x => sent A0 k (src k c) (x 0).val (x 1) := by
  funext x
  obtain ⟨h1, h2⟩ := row_emb h x
  exact (Cm_apply A0 c k _ (x 0).val (by rw [hn]; exact (x 0).isLt) (by rw [ho]; exact h1)).trans (congrArg (sent A0 k (src k c) (x 0).val) h2)

theorem read256 (c : Dev nD) (k : Fin 14) {o : ℕ} (hn : slotRows k = 256) (ho : slotOff k = o)
    (h : ∀ a, (![o, 0] : Fin 2 → ℕ) a + S256x512.size a ≤ S992x512.size a) (w : Vec F S256x512 .bf16)
    (hw : ∀ r e, sent A0 k (src k c) r e = w (at256 r e)) :
    View.readAt (Elt F) (Memref.whole cc0_scratch0).view (Rect.unit (s := S992x512) ![o, 0] S256x512.size h).toLoadRect (Cm A0 c) = w :=
  (read_slot A0 c k hn ho h).trans (funext fun x => (hw _ _).trans (congrArg w (at256_self x)))
theorem read64 (c : Dev nD) (k : Fin 14) {o : ℕ} (hn : slotRows k = 64) (ho : slotOff k = o)
    (h : ∀ a, (![o, 0] : Fin 2 → ℕ) a + S64x512.size a ≤ S992x512.size a) (w : Vec F S64x512 .bf16)
    (hw : ∀ r e, sent A0 k (src k c) r e = w (at64 r e)) :
    View.readAt (Elt F) (Memref.whole cc0_scratch0).view (Rect.unit (s := S992x512) ![o, 0] S64x512.size h).toLoadRect (Cm A0 c) = w :=
  (read_slot A0 c k hn ho h).trans (funext fun x => (hw _ _).trans (congrArg w (at64_self x)))
theorem read16 (c : Dev nD) (k : Fin 14) {o : ℕ} (hn : slotRows k = 16) (ho : slotOff k = o)
    (h : ∀ a, (![o, 0] : Fin 2 → ℕ) a + S16x512.size a ≤ S992x512.size a) (w : Vec F S16x512 .bf16)
    (hw : ∀ r e, sent A0 k (src k c) r e = w (at16 r e)) :
    View.readAt (Elt F) (Memref.whole cc0_scratch0).view (Rect.unit (s := S992x512) ![o, 0] S16x512.size h).toLoadRect (Cm A0 c) = w :=
  (read_slot A0 c k hn ho h).trans (funext fun x => (hw _ _).trans (congrArg w (at16_self x)))

end Cert.KernelIdeal.Body

end
-- ==== Proof.Protocol.lean ====
module

public import proofs.«01_k».proof.Proof.Values

/-!
The protocol of the exchanges: the semaphore cells, the duties of their one round, what each duty hands over, what every
device owes to others in the order in which it pays, and the levels that make the waits well founded.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Semaphores and cells -/

/-- The semaphore of the second barrier. -/
abbrev finS : Sem sig := cc0_scoped0.sem

/-- The semaphores of the copies: the sender's and the receiver's. -/
def sendS (k : Fin 14) : DmaSem sig := ⟨6 + k.val, by have := k.isLt; show 6 + k.val < 34; omega⟩
def recvS (k : Fin 14) : DmaSem sig := ⟨20 + k.val, by have := k.isLt; show 20 + k.val < 34; omega⟩

abbrev barCell (c : Dev nD) : GSem nD τ sig := ((c : Thread nD τ), .reg barrier0)
abbrev finCell (c : Dev nD) : GSem nD τ sig := ((c : Thread nD τ), .reg finS)
abbrev sendCell (c : Dev nD) (k : Fin 14) : GSem nD τ sig := ((c : Thread nD τ), .dma (sendS k))
abbrev recvCell (c : Dev nD) (k : Fin 14) : GSem nD τ sig := ((c : Thread nD τ), .dma (recvS k))

/-- What a semaphore is for. -/
inductive Use where
  | bar
  | fin
  | send (k : Fin 14)
  | recv (k : Fin 14)
  | own
  deriving DecidableEq

def useOf : SemLoc sig → Use
  | .reg s => if s = barrier0 then .bar else .fin
  | .dma s => if h : s.val < 6 then .own else if h' : s.val < 20 then .send ⟨s.val - 6, by omega⟩
      else .recv ⟨s.val - 20, by have h1 : s.val < 34 := s.isLt; omega⟩

theorem use_bar : useOf (.reg barrier0) = .bar := rfl
theorem use_fin : useOf (.reg finS) = .fin := rfl
theorem use_send (k : Fin 14) : useOf (.dma (sendS k)) = .send k := by revert k; decide
theorem use_recv (k : Fin 14) : useOf (.dma (recvS k)) = .recv k := by revert k; decide

/-! ### Buffers' parts -/

/-- The part of the receive buffer that copy `k` goes to. -/
def slotSet (k : Fin 14) : Finset S992x512.Idx :=
  Finset.univ.filter fun i => slotOff k ≤ (i 0).val ∧ (i 0).val < slotOff k + slotRows k

/-- Rows `o` to `o + n` of the buffer that copies are sent from. -/
def stageSet (o n : ℕ) : Finset S256x512.Idx :=
  Finset.univ.filter fun i => o ≤ (i 0).val ∧ (i 0).val < o + n

def commPts (c : Dev nD) (k : Fin 14) (f : (cc0_scratch0 : Ref sig .tc).ty.Contents (Elt F)) : sProp 𝕄 :=
  (Memref.whole cc0_scratch0).view.loc (c : Thread nD τ) ↦[slotSet k]{fullShare} f

def stagePts (c : Dev nD) (o n : ℕ) (f : (cc0_scratch1 : Ref sig .tc).ty.Contents (Elt F)) : sProp 𝕄 :=
  (Memref.whole cc0_scratch1).view.loc (c : Thread nD τ) ↦[stageSet o n]{fullShare} f

/-- The row of the sending buffer at which the block of copy `k` begins. -/
def stOff (k : Fin 14) : ℕ := (![0, 0, 64, 128, 0, 16, 32, 0, 16, 32, 0, 64, 128, 0] : Fin 14 → ℕ) k

/-- What copy `k` credits a semaphore with. -/
def amt (k : Fin 14) : ℕ := (cc0_scratch0 : Ref sig .tc).dmaCredit ⟨2, ![slotRows k, 512]⟩ .bf16

theorem amt_pos (k : Fin 14) : 0 < amt k :=
  sig.dmaCredit_pos _ _ _ _ _ ((by decide : ∀ k : Fin 14, 0 < (⟨2, ![slotRows k, 512]⟩ : Shape).numel) k)

/-! ### The schedule -/

/-- The two copies that go to partner `q`. -/
def k1 (q : Fin 7) : Fin 14 := ⟨q.val, by omega⟩
def k2 (q : Fin 7) : Fin 14 := (![13, 10, 11, 12, 7, 8, 9] : Fin 7 → Fin 14) q

/-- A device lets its part for copy `k` be written. -/
def gift (d : Dev nD) (k : Fin 14) : sProp 𝕄 :=
  iprop((∃ f, commPts d k f) ∗ reached (ET (F := F)) (recvCell d k) 0)

/-- What device `e` gets with the signal of its partner `q`: the places of its two copies to that partner, and that the
partner's semaphore of the second barrier is in use. -/
def barPay (e : Dev nD) (q : Fin 7) : sProp 𝕄 :=
  iprop(gift (F := F) (partner q e) (k1 q) ∗ gift (F := F) (partner q e) (k2 q) ∗ reached (ET (F := F)) (finCell (partner q e)) 0)

/-- What the arrival of a copy gives back to its sender, and what it gives the receiver. -/
def sendPay (c : Dev nD) (k : Fin 14) : sProp 𝕄 := iprop(∃ f : (cc0_scratch1 : Ref sig .tc).ty.Contents (Elt F), stagePts c (stOff k) (slotRows k) f)
def recvPay (A0 : Dev nD → OutC F) (c : Dev nD) (k : Fin 14) : sProp 𝕄 := commPts c k (Cm A0 c)

def dutiesOf : Use → Finset (Fin 7)
  | .bar => Finset.univ
  | .fin => Finset.univ
  | .send _ => {0}
  | .recv _ => {0}
  | .own => ∅

def amountsOf : Use → ℕ
  | .bar => 1
  | .fin => 1
  | .send k => amt k
  | .recv k => amt k
  | .own => 1

def paysOf (A0 : Dev nD → OutC F) (c : Dev nD) (d : Fin 7) : Use → sProp 𝕄
  | .bar => barPay c d
  | .fin => iprop(emp)
  | .send k => sendPay c k
  | .recv k => recvPay A0 c k
  | .own => iprop(emp)

/-- One round on every cell: a barrier's seven units, one from each partner; a copy's credit on its semaphores. -/
def Rd (A0 : Dev nD → OutC F) : Rounds.Schedule (GSem nD τ sig) (Fin 7) 𝕄 where
  duties g r := if r = 0 ∧ g.1.2 = .tc then dutiesOf (useOf g.2) else ∅
  unitless _ := False
  amount g _ _ := amountsOf (useOf g.2)
  payload g _ d := paysOf A0 g.1.1 d (useOf g.2)
  amount_pos g _ _ _ := by
    cases useOf g.2 with
    | bar => exact Nat.one_pos
    | fin => exact Nat.one_pos
    | send k => exact amt_pos k
    | recv k => exact amt_pos k
    | own => exact Nat.one_pos

variable (A0 : Dev nD → OutC F)

instance Rd_storable (g : GSem nD τ sig) (r : ℕ) (d : Fin 7) :
    BI.Storable (upEmb : UEmb _ 𝕄) ((Rd A0).payload g r d) := by
  show BI.Storable upEmb (paysOf A0 g.1.1 d (useOf g.2))
  cases useOf g.2 <;> unfold paysOf <;>
    (try unfold barPay gift commPts) <;> (try unfold sendPay stagePts) <;> (try unfold recvPay commPts) <;> infer_instance

section Tables

variable (c : Dev nD) (k : Fin 14) (d : Fin 7)

theorem duties_at (sm : SemLoc sig) : (Rd A0).duties ((c : Thread nD τ), sm) 0 = dutiesOf (useOf sm) := by
  show (if (0 : ℕ) = 0 ∧ ((c : Thread nD τ)).2 = .tc then dutiesOf (useOf sm) else ∅) = _
  exact if_pos ⟨rfl, rfl⟩
theorem duties_bar : (Rd A0).duties (barCell c) 0 = Finset.univ := duties_at A0 c _
theorem duties_fin : (Rd A0).duties (finCell c) 0 = Finset.univ := duties_at A0 c _
theorem duties_send : (Rd A0).duties (sendCell c k) 0 = {0} := by rw [duties_at, use_send]; rfl
theorem duties_recv : (Rd A0).duties (recvCell c k) 0 = {0} := by rw [duties_at, use_recv]; rfl
theorem duties_later (g : GSem nD τ sig) : ∀ r, 1 ≤ r → (Rd A0).duties g r = ∅ := fun r hr => if_neg (fun h => by omega)

theorem amount_bar : (Rd A0).amount (barCell c) 0 d = 1 := rfl
theorem amount_fin : (Rd A0).amount (finCell c) 0 d = 1 := rfl
theorem amount_send : (Rd A0).amount (sendCell c k) 0 d = amt k := by show amountsOf (useOf _) = _; rw [use_send]; rfl
theorem amount_recv : (Rd A0).amount (recvCell c k) 0 d = amt k := by show amountsOf (useOf _) = _; rw [use_recv]; rfl

theorem payload_bar : (Rd A0).payload (barCell c) 0 d = barPay c d := rfl
theorem payload_fin : (Rd A0).payload (finCell c) 0 d = iprop(emp) := rfl
theorem payload_send : (Rd A0).payload (sendCell c k) 0 d = sendPay c k := by show paysOf _ _ _ (useOf _) = _; rw [use_send]; rfl
theorem payload_recv : (Rd A0).payload (recvCell c k) 0 d = recvPay A0 c k := by show paysOf _ _ _ (useOf _) = _; rw [use_recv]; rfl

theorem expect_bar : (Rd A0).expect (barCell c) 0 = 7 := by
  unfold Schedule.expect Schedule.amountOf; rw [duties_bar]; rfl
theorem expect_fin : (Rd A0).expect (finCell c) 0 = 7 := by
  unfold Schedule.expect Schedule.amountOf; rw [duties_fin]; rfl
theorem expect_send : (Rd A0).expect (sendCell c k) 0 = amt k := by
  unfold Schedule.expect Schedule.amountOf; rw [duties_send, Finset.sum_singleton, amount_send]
theorem expect_recv : (Rd A0).expect (recvCell c k) 0 = amt k := by
  unfold Schedule.expect Schedule.amountOf; rw [duties_recv, Finset.sum_singleton, amount_recv]

theorem rest_bar : bigSep ((Rd A0).duties (barCell c) 0 \ ∅) (fun u => (Rd A0).payload (barCell c) 0 u) = bigSep Finset.univ (fun q => barPay (F := F) c q) := by
  rw [Finset.sdiff_empty, duties_bar]; rfl
theorem rest_send : bigSep ((Rd A0).duties (sendCell c k) 0 \ ∅) (fun u => (Rd A0).payload (sendCell c k) 0 u) = sendPay c k := by
  rw [Finset.sdiff_empty, duties_send, bigSep_singleton, payload_send]
theorem rest_recv : bigSep ((Rd A0).duties (recvCell c k) 0 \ ∅) (fun u => (Rd A0).payload (recvCell c k) 0 u) = recvPay A0 c k := by
  rw [Finset.sdiff_empty, duties_recv, bigSep_singleton, payload_recv]

end Tables

/-! ### What is owed, and the levels -/

/-- The 28 payments of a device in their order: seven signals, fourteen copies, seven signals. To which partner, on which
semaphore there, how much. -/
def payTo (x : Fin 28) : Fin 7 :=
  if h : x.val < 7 then ⟨x.val, h⟩ else if h' : x.val < 21 then pk ⟨x.val - 7, by omega⟩ else ⟨x.val - 21, by omega⟩
def paySem (x : Fin 28) : SemLoc sig :=
  if h : x.val < 7 then .reg barrier0 else if h' : x.val < 21 then .dma (recvS ⟨x.val - 7, by omega⟩) else .reg finS
def payAmt (x : Fin 28) : ℕ :=
  if h : x.val < 7 then 1 else if h' : x.val < 21 then amt ⟨x.val - 7, by omega⟩ else 1

def payCell (x : Fin 28) (c : Dev nD) : GSem nD τ sig := ((partner (payTo x) c : Thread nD τ), paySem x)

/-- What device `c` still owes before its payment number `n`. -/
def owed (c : Dev nD) (n : ℕ) : CellTallies nD τ sig Unit :=
  ∑ x ∈ Finset.univ.filter (fun x : Fin 28 => n ≤ x.val), tallyAt (payCell x c) () (payAmt x)

theorem owed_succ (c : Dev nD) (x : Fin 28) : owed c x.val = owed c (x.val + 1) + tallyAt (payCell x c) () (payAmt x) := by
  unfold owed
  have : Finset.univ.filter (fun y : Fin 28 => x.val ≤ y.val) = insert x (Finset.univ.filter fun y : Fin 28 => x.val + 1 ≤ y.val) := by
    ext y
    simp only [Finset.mem_filter, Finset.mem_univ, true_and, Finset.mem_insert, Fin.ext_iff]
    omega
  rw [this, Finset.sum_insert (by simp), add_comm]

theorem owed_last (c : Dev nD) : owed c 28 = 0 := by
  unfold owed
  rw [Finset.filter_false_of_mem (fun x _ => by have := x.isLt; omega), Finset.sum_empty]

/-- The cells that count; the level of a semaphore: a device's own 0, the barrier 1, the six exchanges 2 to 7, the second
barrier 8. -/
def L (g : GSem nD τ sig) : Finset Unit := if g.1.2 = .tc then {()} else ∅

def lvOf : Use → ℕ
  | .bar => 1
  | .fin => 8
  | .send _ => 0
  | .recv k => (![2, 3, 3, 3, 4, 4, 4, 5, 5, 5, 6, 6, 6, 7] : Fin 14 → ℕ) k
  | .own => 0

def lv (g : GSem nD τ sig) (_ : Unit) : ℕ := lvOf (useOf g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {n : ℕ} {g : GSem nD τ sig} {u : Unit} (h : 0 < owed c n g u) :
    ∃ x : Fin 28, n ≤ x.val ∧ g = payCell x c := by
  by_contra hn
  push Not at hn
  have : owed c n g u = 0 := by
    unfold owed
    rw [Finset.sum_apply, Finsupp.finset_sum_apply]
    refine Finset.sum_eq_zero fun x hx => ?_
    rw [tallyAt_ne_cell (hn x (Finset.mem_filter.mp hx).2), Finsupp.zero_apply]
  omega

/-- A device may wait on its own semaphore while everything it still owes lies at higher levels. -/
theorem mayWait_own (c : Dev nD) (sm : SemLoc sig) (n : ℕ) (h : ∀ x : Fin 28, n ≤ x.val → lvOf (useOf sm) < lvOf (useOf (paySem x))) :
    (levAts L lv : sProp 𝕄) ⊢ MayWait (c : Thread nD τ) sm () (owed c n) :=
  MayOwe.of_cut (L := L) (lev := lv) (lvOf (useOf sm)) (fun p hp => by rw [Finset.mem_singleton.mp hp, L_tc]; exact Finset.mem_singleton_self _)
    (fun g u hg => by
      obtain ⟨x, -, rfl⟩ := owed_pos hg
      exact (L_tc _ _).symm ▸ Finset.mem_singleton_self _)
    (fun p hp => by rw [Finset.mem_singleton.mp hp]; exact le_refl _)
    (fun g u hg => by
      obtain ⟨x, hx, rfl⟩ := owed_pos hg
      exact h x hx)

end Cert.KernelIdeal.Body

end
-- ==== Proof.Steps.lean ====
module

public import proofs.«01_k».proof.Proof.Protocol
public import proofs.«01_k».proof.Proof.Model

/-!
The steps of the exchanges under the protocol: a signal of a barrier, the wait for one, a copy to a partner, the waits for
its departure and for the arrival of the partner's.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (A0 : Dev nD → OutC F)

/-! ### What every step may use -/

/-- The scoped semaphores of the protocol: the copies' and the second barrier's. -/
def scSem (x : Fin 29) : SemLoc sig :=
  if h : x.val < 14 then .dma (sendS ⟨x.val, h⟩) else if h' : x.val < 28 then .dma (recvS ⟨x.val - 14, by omega⟩) else .reg finS

theorem scSem_inj : Function.Injective scSem := by decide +kernel

def barEmb : Dev nD ↪ GSem nD τ sig :=
  ⟨barCell, fun _ _ h => congrArg (fun g : GSem nD τ sig => g.1.1) h⟩
def scEmb : Dev nD × Fin 29 ↪ GSem nD τ sig :=
  ⟨fun cx => ((cx.1 : Thread nD τ), scSem cx.2), fun _ _ h =>
    Prod.ext (congrArg (fun g : GSem nD τ sig => g.1.1) h) (scSem_inj (congrArg (fun g : GSem nD τ sig => g.2) h))⟩

/-- The cells of the protocol, on every device: the first barrier's, and the scoped ones. -/
def barCells : Finset (GSem nD τ sig) := Finset.univ.map barEmb
def scCells : Finset (GSem nD τ sig) := Finset.univ.map scEmb

theorem bar_mem (c : Dev nD) : barCell c ∈ barCells ∪ scCells :=
  Finset.mem_union_left _ (Finset.mem_map_of_mem barEmb (Finset.mem_univ c))
theorem sc_mem (c : Dev nD) (x : Fin 29) : ((c : Thread nD τ), scSem x) ∈ barCells ∪ scCells :=
  Finset.mem_union_right _ (Finset.mem_map_of_mem scEmb (Finset.mem_univ (c, x)))
theorem scSem_send (k : Fin 14) : scSem ⟨k.val, by omega⟩ = .dma (sendS k) := dif_pos k.isLt
theorem scSem_recv (k : Fin 14) : scSem ⟨14 + k.val, by omega⟩ = .dma (recvS k) := by revert k; decide
theorem scSem_fin : scSem 28 = .reg finS := rfl
theorem fin_mem (c : Dev nD) : finCell c ∈ barCells ∪ scCells := sc_mem c 28
theorem send_mem (c : Dev nD) (k : Fin 14) : sendCell c k ∈ barCells ∪ scCells := by
  have := sc_mem c ⟨k.val, by omega⟩; rwa [scSem_send] at this
theorem recv_mem (c : Dev nD) (k : Fin 14) : recvCell c k ∈ barCells ∪ scCells := by
  have := sc_mem c ⟨14 + k.val, by omega⟩; rwa [scSem_recv] at this

/-- The cells' invariants, under the names `K`, and the levels. -/
def allInvs (K : GSem nD τ sig → ℕ) : sProp 𝕄 :=
  iprop((bigSep (barCells ∪ scCells) fun g => cellInv (ET (F := F)) (Rd A0) (K g) g) ∗ levAts L lv)

instance allInvs_persistent (K : GSem nD τ sig → ℕ) : BI.Persistent (allInvs A0 K) := by unfold allInvs; infer_instance

theorem allInvs_cell (K : GSem nD τ sig → ℕ) (c : Dev nD) (sm : SemLoc sig) (h : ((c : Thread nD τ), sm) ∈ barCells ∪ scCells) :
    allInvs A0 K ⊢ cellInv (ET (F := F)) (Rd A0) (K ((c : Thread nD τ), sm)) ((c : Thread nD τ), sm) := by
  unfold allInvs
  exact sep_elim_left.trans (bigSep_elim h)

/-- What device `c` still owes before its payment number `n`, with some record of its waits. -/
def ow (c : Dev nD) (n : ℕ) : sProp 𝕄 := iprop(∃ W, owes (c : Thread nD τ) (owed c n) W)

/-- A device may wait on its own semaphores that lie below what it owes. -/
theorem allInvs_mayWait (K : GSem nD τ sig → ℕ) (c : Dev nD) (sm : SemLoc sig) (n : ℕ)
    (h : ∀ x : Fin 28, n ≤ x.val → lvOf (useOf sm) < lvOf (useOf (paySem x))) :
    allInvs A0 K ⊢ (MayWait (c : Thread nD τ) sm () (owed c n) : sProp 𝕄) := by
  unfold allInvs
  exact sep_elim_right.trans (mayWait_own c sm n h)

/-! ### Signals -/

theorem pay_step (K : GSem nD τ sig → ℕ) (c : Dev nD) (x : Fin 28) (s : Sem sig) (hs : paySem x = .reg s) (hp : payAmt x = 1) (q : Fin 7)
    (hq : q ∈ (Rd A0).duties (payCell x c) 0) (hu : payCell x c ∈ barCells ∪ scCells) (ha : (Rd A0).amount (payCell x c) 0 q = 1)
    {α : Type} {k : PUnit → Prog (TpuEff nD τ sig (Elt F) _ _) α} (Q : α → sProp 𝕄) :
    iprop(allInvs A0 K ∗ ow c x.val ∗ dutyTok (ET (F := F)) (payCell x c) 0 q ∗ (Rd A0).payload (payCell x c) 0 q ∗ reached (ET (F := F)) (payCell x c) 0)
      ⊢ iprop((ow c (x.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (partner (payTo x) c : Thread nD τ) s 1) k) Q) := by
  have hg : payCell x c = ((partner (payTo x) c : Thread nD τ), .reg s) := by unfold payCell; rw [hs]
  unfold ow
  have ho := owed_succ c x
  rw [hg] at hq ha ho hu ⊢
  rw [hp] at ho
  iintro ⟨#HI, ⟨%W, HO⟩, Ht, Hp, Hr⟩ Hk
  iapply (Rounds.wp_signal 𝒱₀ (ET (F := F)) (Rd A0) (c : Thread nD τ) none (dst := (partner (payTo x) c : Thread nD τ)) (sem := s) (r := 0) (d := q)
      (κ := K ((partner (payTo x) c : Thread nD τ), .reg s)) hq ha () (owed c (x.val + 1)) ho) $$ [HO Ht Hp Hr]
  · isplitr; · iapply (allInvs_cell A0 K (partner (payTo x) c) (.reg s) hu); iexact HI
    isplitl [HO]; · iexact HO
    isplitl [Ht]; · iexact Ht
    isplitl [Hp]; · iexact Hp
    iexact Hr
  iintro HO
  iapply Hk
  iexists W
  iexact HO

/-- What device `c` needs to signal its partner `q` of the first barrier: the places in its receive buffer of the two copies
that this partner sends. -/
def barKit (c : Dev nD) (q : Fin 7) : sProp 𝕄 :=
  iprop(dutyTok (ET (F := F)) (barCell (partner q c)) 0 (inv q) ∗ reached (ET (F := F)) (barCell (partner q c)) 0
    ∗ gift (F := F) c (k1 (inv q)) ∗ gift (F := F) c (k2 (inv q)) ∗ reached (ET (F := F)) (finCell c) 0)

theorem bar_signal (K : GSem nD τ sig → ℕ) (c : Dev nD) (q : Fin 7) {d : Dev nD} (hd : d = partner q c)
    {α : Type} {k : PUnit → Prog (TpuEff nD τ sig (Elt F) _ _) α} (Q : α → sProp 𝕄) :
    iprop(allInvs A0 K ∗ barKit c q ∗ ow c q.val)
      ⊢ iprop((ow c (q.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) barrier0 1) k) Q) := by
  subst hd
  have hx : q.val < 28 := by omega
  have h7 : q.val < 7 := q.isLt
  have ht : payTo ⟨q.val, hx⟩ = q := dif_pos h7
  have hs : paySem ⟨q.val, hx⟩ = .reg barrier0 := dif_pos h7
  have hg : payCell ⟨q.val, hx⟩ c = barCell (partner q c) := by unfold payCell; rw [ht, hs]
  have key := pay_step A0 K c ⟨q.val, hx⟩ barrier0 hs (dif_pos h7) (inv q) (by rw [hg, duties_bar]; exact Finset.mem_univ _)
    (by rw [hg]; exact bar_mem _) (by rw [hg]; exact amount_bar A0 _ _) (k := k) Q
  rw [ht, hg, payload_bar] at key
  refine (show _ ⊢ _ from ?_).trans key
  unfold barKit barPay
  rw [partner_inv]
  iintro ⟨HI, ⟨Ht, Hr, Hg1, Hg2, Hf⟩, HO⟩
  isplitl [HI]; · iexact HI
  isplitl [HO]; · iexact HO
  isplitl [Ht]; · iexact Ht
  isplitl [Hg1 Hg2 Hf]
  · isplitl [Hg1]; · iexact Hg1
    isplitl [Hg2]; · iexact Hg2
    iexact Hf
  iexact Hr

/-- What device `c` needs to signal its partner `q` of the second barrier. -/
def finKit (c : Dev nD) (q : Fin 7) : sProp 𝕄 :=
  iprop(dutyTok (ET (F := F)) (finCell (partner q c)) 0 (inv q) ∗ reached (ET (F := F)) (finCell (partner q c)) 0)

theorem fin_signal (K : GSem nD τ sig → ℕ) (c : Dev nD) (q : Fin 7) {d : Dev nD} (hd : d = partner q c)
    {α : Type} {k : PUnit → Prog (TpuEff nD τ sig (Elt F) _ _) α} (Q : α → sProp 𝕄) :
    iprop(allInvs A0 K ∗ finKit c q ∗ ow c (21 + q.val))
      ⊢ iprop((ow c (21 + q.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) finS 1) k) Q) := by
  subst hd
  have hx : 21 + q.val < 28 := by omega
  have h7 : ¬21 + q.val < 7 := by omega
  have h21 : ¬21 + q.val < 21 := by omega
  have ht : payTo ⟨21 + q.val, hx⟩ = q := by
    unfold payTo; rw [dif_neg h7, dif_neg h21]; exact Fin.ext (Nat.add_sub_cancel_left _ _)
  have hs : paySem ⟨21 + q.val, hx⟩ = .reg finS := (dif_neg h7).trans (dif_neg h21)
  have hg : payCell ⟨21 + q.val, hx⟩ c = finCell (partner q c) := by unfold payCell; rw [ht, hs]
  have key := pay_step A0 K c ⟨21 + q.val, hx⟩ finS hs ((dif_neg h7).trans (dif_neg h21)) (inv q) (by rw [hg, duties_fin]; exact Finset.mem_univ _)
    (by rw [hg]; exact fin_mem _) (by rw [hg]; exact amount_fin A0 _ _) (k := k) Q
  rw [ht, hg, payload_fin] at key
  refine (show _ ⊢ _ from ?_).trans key
  unfold finKit
  iintro ⟨HI, ⟨Ht, Hr⟩, HO⟩
  isplitl [HI]; · iexact HI
  isplitl [HO]; · iexact HO
  isplitl [Ht]; · iexact Ht
  isplitr; · iempintro
  iexact Hr

/-! ### Waits -/

/-- Own position on a cell whose round is not over, and the right to wait for it. -/
def waitKit (c : Dev nD) (sm : SemLoc sig) (n : ℕ) : sProp 𝕄 :=
  iprop(cred (tallyAt ((c : Thread nD τ), sm) () n) ∗ atPos (ET (F := F)) ((c : Thread nD τ), sm) 0 ∅ 0)

/-- The cell's round is over. -/
def done (c : Dev nD) (sm : SemLoc sig) : sProp 𝕄 := atPos (ET (F := F)) ((c : Thread nD τ), sm) 1 ∅ 0

/-- A wait for the whole round of an own cell. -/
theorem wait_step (K : GSem nD τ sig → ℕ) (c : Dev nD) (sm : SemLoc sig) (hu : ((c : Thread nD τ), sm) ∈ barCells ∪ scCells) (n N : ℕ)
    (hlv : ∀ x : Fin 28, n ≤ x.val → lvOf (useOf sm) < lvOf (useOf (paySem x))) (hN : N = (Rd A0).expect ((c : Thread nD τ), sm) 0)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm N K)
    {α : Type} {k : PUnit → Prog (TpuEff nD τ sig (Elt F) _ _) α} (Q : α → sProp 𝕄) :
    iprop(allInvs A0 K ∗ waitKit c sm N ∗ ow c n)
      ⊢ iprop((iprop(ow c n ∗ done c sm ∗ bigSep ((Rd A0).duties ((c : Thread nD τ), sm) 0 \ ∅) (fun u => (Rd A0).payload ((c : Thread nD τ), sm) 0 u))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold waitKit ow done
  iintro ⟨#HI, ⟨Hc, Hat⟩, ⟨%W, HO⟩⟩ Hk
  iapply (Rounds.wp_wait_rest_token 𝒱₀ (ET (F := F)) (Rd A0) (c : Thread nD τ) none (κ := K ((c : Thread nD τ), sm)) hw (Set.mem_univ _) () (O := owed c n)
      (W := W) (R := 0) (m := 0) (T := ∅) ((Nat.zero_add _).trans hN)) $$ [Hc HO Hat]
  · isplitr; · iapply (allInvs_cell A0 K c sm hu); iexact HI
    isplitl [Hc]; · iexact Hc
    isplitl [HO]; · iexact HO
    isplitr; · iapply (allInvs_mayWait A0 K c sm n hlv); iexact HI
    iexact Hat
  iintro ⟨HO, Hat, -, Hp⟩
  iapply Hk
  isplitl [HO]; · iexists _; iexact HO
  isplitl [Hat]; · iexact Hat
  iexact Hp

/-- The wait for the partners' signals of the first barrier. -/
theorem bar_wait (K : GSem nD τ sig → ℕ) (c : Dev nD) {α : Type} {k : PUnit → Prog (TpuEff nD τ sig (Elt F) _ _) α} (Q : α → sProp 𝕄) :
    iprop(allInvs A0 K ∗ waitKit c (.reg barrier0) 7 ∗ ow c 7)
      ⊢ iprop((iprop(ow c 7 ∗ done c (.reg barrier0) ∗ bigSep Finset.univ (fun q => barPay (F := F) c q))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barrier0 7) k) Q) := by
  have key := wait_step A0 K c (.reg barrier0) (bar_mem c) 7 7 (by decide +kernel) (expect_bar A0 c).symm
    (wpE_semWait_eq 𝒱₀ (c : Thread nD τ) none Set.univ) (k := k) Q
  rw [rest_bar A0 c] at key
  exact key

/-- The wait for the partners' signals of the second barrier. -/
theorem fin_wait (K : GSem nD τ sig → ℕ) (c : Dev nD) {α : Type} {k : PUnit → Prog (TpuEff nD τ sig (Elt F) _ _) α} (Q : α → sProp 𝕄) :
    iprop(allInvs A0 K ∗ waitKit c (.reg finS) 7 ∗ ow c 28)
      ⊢ iprop((iprop(ow c 28 ∗ done c (.reg finS))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait finS 7) k) Q) := by
  have key := wait_step A0 K c (.reg finS) (fin_mem c) 28 7 (fun x hx => absurd x.isLt (by omega)) (expect_fin A0 c).symm
    (wpE_semWait_eq 𝒱₀ (c : Thread nD τ) none Set.univ) (k := k) Q
  refine key.trans ?_
  iintro H Hk
  iapply H
  iintro ⟨HO, Hd, -⟩
  iapply Hk
  isplitl [HO]; · iexact HO
  iexact Hd

/-- The wait for the departure of copy `k`. -/
theorem send_wait (K : GSem nD τ sig → ℕ) (c : Dev nD) (k : Fin 14) (n : ℕ) (hn : 7 ≤ n) {sS : DmaSem sig} (hS : sS = sendS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k)
    {α : Type} {k' : PUnit → Prog (TpuEff nD τ sig (Elt F) _ _) α} (Q : α → sProp 𝕄) :
    iprop(allInvs A0 K ∗ waitKit c (.dma (sendS k)) (amt k) ∗ ow c n)
      ⊢ iprop((iprop(ow c n ∗ done c (.dma (sendS k)) ∗ sendPay c k)
          -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sS src dst hsrc hdst) k') Q) := by
  subst hS
  have key := wait_step A0 K c (.dma (sendS k)) (send_mem c k) n (amt k)
    (fun x hx => by rw [use_send]; exact (by decide +kernel : ∀ x : Fin 28, 7 ≤ x.val → 0 < lvOf (useOf (paySem x))) x (hn.trans hx)) (expect_send A0 c k).symm
    (w := .waitDma2 (sendS k) src dst hsrc hdst) (fun K => by rw [← hN]; exact wpE_waitDma2_eq 𝒱₀ (c : Thread nD τ) none Set.univ K) (k := k') Q
  rw [rest_send A0 c k] at key
  exact key

/-- The wait for the arrival of copy `k`. -/
theorem recv_wait (K : GSem nD τ sig → ℕ) (c : Dev nD) (k : Fin 14) (n : ℕ)
    (hlv : ∀ x : Fin 28, n ≤ x.val → lvOf (.recv k) < lvOf (useOf (paySem x))) {sS : DmaSem sig} (hS : sS = recvS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k)
    {α : Type} {k' : PUnit → Prog (TpuEff nD τ sig (Elt F) _ _) α} (Q : α → sProp 𝕄) :
    iprop(allInvs A0 K ∗ waitKit c (.dma (recvS k)) (amt k) ∗ ow c n)
      ⊢ iprop((iprop(ow c n ∗ done c (.dma (recvS k)) ∗ recvPay A0 c k)
          -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sS src dst hsrc hdst) k') Q) := by
  subst hS
  have key := wait_step A0 K c (.dma (recvS k)) (recv_mem c k) n (amt k)
    (fun x hx => by rw [use_recv]; exact hlv x hx) (expect_recv A0 c k).symm
    (w := .waitDma2 (recvS k) src dst hsrc hdst) (fun K => by rw [← hN]; exact wpE_waitDma2_eq 𝒱₀ (c : Thread nD τ) none Set.univ K) (k := k') Q
  rw [rest_recv A0 c k] at key
  exact key

/-! ### Copies -/

/-- Rows `o` to `o + n` of the sending buffer and of the receive buffer, as the program names them. -/
abbrev stageSl (o n : ℕ) (h : ∀ a, (![o, 0] : Fin 2 → ℕ) a + (![n, 512] : Fin 2 → ℕ) a ≤ S256x512.size a) : Memref sig .tc .vmem ⟨2, ![n, 512]⟩ .bf16 :=
  (Memref.whole cc0_scratch1).slice (Rect.unit (s := S256x512) ![o, 0] ![n, 512] h) (fun _ => rfl)
abbrev commSl (o n : ℕ) (h : ∀ a, (![o, 0] : Fin 2 → ℕ) a + (![n, 512] : Fin 2 → ℕ) a ≤ S992x512.size a) : Memref sig .tc .vmem ⟨2, ![n, 512]⟩ .bf16 :=
  (Memref.whole cc0_scratch0).slice (Rect.unit (s := S992x512) ![o, 0] ![n, 512] h) (fun _ => rfl)

theorem stageSl_set {o n : ℕ} (h) : (stageSl o n h).view.set = stageSet o n := by
  ext i
  rw [show (stageSl o n h).view.set = (Rect.unit (s := S256x512) ![o, 0] ![n, 512] h).set from View.set_slice_whole _ _]
  rw [Rect.mem_set_unit]
  unfold stageSet
  rw [Finset.mem_filter]
  refine ⟨fun H => ⟨Finset.mem_univ _, H 0⟩, fun H a => ?_⟩
  match a with
  | 0 => exact H.2
  | 1 => exact ⟨Nat.zero_le _, (i 1).isLt.trans_eq (Nat.zero_add 512).symm⟩

theorem commSl_set {o n : ℕ} (h) {k : Fin 14} (ho : slotOff k = o) (hn : slotRows k = n) : (commSl o n h).view.set = slotSet k := by
  subst ho hn
  ext i
  rw [show (commSl (slotOff k) (slotRows k) h).view.set = (Rect.unit (s := S992x512) ![slotOff k, 0] ![slotRows k, 512] h).set from View.set_slice_whole _ _]
  rw [Rect.mem_set_unit]
  unfold slotSet
  rw [Finset.mem_filter]
  refine ⟨fun H => ⟨Finset.mem_univ _, H 0⟩, fun H a => ?_⟩
  match a with
  | 0 => exact H.2
  | 1 => exact ⟨Nat.zero_le _, (i 1).isLt.trans_eq (Nat.zero_add 512).symm⟩

/-- What device `c` needs for its copy `k`, besides the block to send and the place it goes to. -/
def sendKit (c : Dev nD) (k : Fin 14) : sProp 𝕄 :=
  iprop(dutyTok (ET (F := F)) (sendCell c k) 0 0 ∗ reached (ET (F := F)) (sendCell c k) 0 ∗ dutyTok (ET (F := F)) (recvCell (dst k c) k) 0 0)

theorem copy_step (K : GSem nD τ sig → ℕ) (c : Dev nD) (k : Fin 14) {d : Dev nD} (hd : d = Body.dst k c) {o n p : ℕ}
    (hn : slotRows k = n) (hp : slotOff k = p) (ho : stOff k = o) {h₁} {h₂} {sS rS : SemLoc sig} (hS : sS = .dma (sendS k)) (hR : rS = .dma (recvS k))
    {hsc : ((commSl p n h₂).view.ref).isScScratch = false} {hsrc : (stageSl o n h₁).view.WordExact} {hdst : (commSl p n h₂).view.WordExact}
    {hsem : DmaTarget.Typed .vmem rS (.remote (d : Thread nD τ) (commSl p n h₂) sS hsc)}
    (fs : (cc0_scratch1 : Ref sig .tc).ty.Contents (Elt F))
    (hs : ∀ x : (⟨2, ![n, 512]⟩ : Shape).Idx, (stageSl o n h₁).view.read (Elt F) fs x = sent A0 k c (x 0).val (x 1))
    {α : Type} {k' : PUnit → Prog (TpuEff nD τ sig (Elt F) _ _) α} (Q : α → sProp 𝕄) :
    iprop(allInvs A0 K ∗ sendKit c k ∗ gift (F := F) (Body.dst k c) k ∗ stagePts c o n fs ∗ ow c (7 + k.val))
      ⊢ iprop((iprop(ow c (7 + k.val + 1) ∗ cred (tallyAt (sendCell c k) () (amt k)))
          -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (stageSl o n h₁) (.remote (d : Thread nD τ) (commSl p n h₂) sS hsc) rS hsrc hdst hsem) k') Q) := by
  subst hd hS hR
  subst hn hp ho
  have hx : 7 + k.val < 28 := by omega
  have h7 : ¬7 + k.val < 7 := by omega
  have h21 : 7 + k.val < 21 := by omega
  have hk : (⟨7 + k.val - 7, by omega⟩ : Fin 14) = k := Fin.ext (Nat.add_sub_cancel_left _ _)
  have hO : owed c (7 + k.val) = owed c (7 + k.val + 1) + tallyAt (recvCell (Body.dst k c) k) () (amt k) := by
    have := owed_succ c ⟨7 + k.val, hx⟩
    unfold payCell payTo paySem payAmt at this
    rw [dif_neg h7, dif_neg h7, dif_neg h7, dif_pos h21, dif_pos h21, dif_pos h21, hk] at this
    exact this
  unfold ow sendKit gift
  iintro ⟨#HI, ⟨Ht, Hr, Ht'⟩, ⟨⟨%fd, Hd⟩, Hr'⟩, Hs, ⟨%W, HO⟩⟩ Hk
  iapply (Rounds.wp_send_pointsTo 𝒱₀ (ET (F := F)) (Rd A0) (c : Thread nD τ) none (c' := (Body.dst k c : Thread nD τ)) (src := stageSl (stOff k) (slotRows k) h₁)
      (dst := commSl (slotOff k) (slotRows k) h₂) (sS := .dma (sendS k)) (sem := .dma (recvS k)) (q := fullShare) (fs := fs)
      (κ₁ := K (sendCell c k)) (κ₂ := K (recvCell (Body.dst k c) k)) (r₁ := 0) (r₂ := 0) (d₁ := 0) (d₂ := 0) (fd := fd)
      (by rw [duties_send]; exact Finset.mem_singleton_self _) (by rw [duties_recv]; exact Finset.mem_singleton_self _)
      () () (amt k) rfl (amount_send A0 c k 0) (amount_recv A0 (Body.dst k c) k 0) (owed c (7 + k.val + 1)) hO (W := W)
      (by rw [payload_send, stageSl_set h₁]; unfold sendPay stagePts; exact exists_intro (Φ := fun f : (cc0_scratch1 : Ref sig .tc).ty.Contents (Elt F) => (Memref.whole cc0_scratch1).view.loc (c : Thread nD τ) ↦[stageSet (stOff k) (slotRows k)]{fullShare} f) fs)
      (by
        rw [payload_recv]; unfold recvPay commPts
        rw [commSl_set h₂ rfl rfl]
        refine Entails.of_eq (pointsTo_congr fun i hi => ?_)
        rw [← commSl_set h₂ rfl rfl] at hi
        obtain ⟨x, -, rfl⟩ := Finset.mem_map.mp hi
        refine (View.write_emb_of_mem _ _ (Finset.mem_univ x)).trans ?_
        rw [hs x]
        obtain ⟨e1, e2⟩ := row_emb h₂ x
        refine Eq.trans ?_ (Cm_apply A0 (Body.dst k c) k _ (x 0).val (x 0).isLt e1).symm
        rw [src_dst]
        exact congrArg (sent A0 k c (x 0).val) e2.symm)) $$ [Hs Hd HO Ht Hr Ht' Hr']
  · isplitr; · iapply (allInvs_cell A0 K c (.dma (sendS k)) (send_mem c k)); iexact HI
    isplitr; · iapply (allInvs_cell A0 K (Body.dst k c) (.dma (recvS k)) (recv_mem (Body.dst k c) k)); iexact HI
    isplitl [Hs]; · rw [stageSl_set h₁]; unfold stagePts; iexact Hs
    isplitl [Hd]; · rw [commSl_set h₂ rfl rfl]; unfold commPts; iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]; · iexists W; iexact HO
  iexact Hc

end Cert.KernelIdeal.Body

end
-- ==== Proof.Buffers.lean ====
module

public import proofs.«01_k».proof.Proof.Steps

/-!
A copy's life in four stages — ready, under way, departed, over — and how the sending buffer is split and joined around it.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (A0 : Dev nD → OutC F)

/-- A program's bind, written as the monad's. -/
theorem bind_eq.{v} {E : Type → Type v} {α β : Type} (p : Prog E α) (f : α → Prog E β) : p.bind f = p >>= f := rfl

/-! ### A copy's life -/

/-- Everything that device `c` needs, from the start, for the two copies `k` that it sends and receives. -/
def kit (c : Dev nD) (k : Fin 14) : sProp 𝕄 :=
  iprop(sendKit c k ∗ atPos (ET (F := F)) (sendCell c k) 0 ∅ 0 ∗ waitKit c (.dma (recvS k)) (amt k))
/-- The same, with the place that its copy goes to. -/
def ready (c : Dev nD) (k : Fin 14) : sProp 𝕄 := iprop(kit c k ∗ gift (F := F) (dst k c) k)
/-- The copy is under way. -/
def flying (c : Dev nD) (k : Fin 14) : sProp 𝕄 :=
  iprop(waitKit (F := F) c (.dma (sendS k)) (amt k) ∗ waitKit c (.dma (recvS k)) (amt k))
/-- The copy has been sent. -/
def gone (c : Dev nD) (k : Fin 14) : sProp 𝕄 :=
  iprop(done (F := F) c (.dma (sendS k)) ∗ waitKit c (.dma (recvS k)) (amt k))
/-- Both copies are over, and the device has what it received. -/
def over (c : Dev nD) (k : Fin 14) : sProp 𝕄 :=
  iprop((done (F := F) c (.dma (sendS k)) ∗ done (F := F) c (.dma (recvS k))) ∗ commPts c k (Cm A0 c))

theorem copy (K : GSem nD τ sig → ℕ) (c : Dev nD) (k : Fin 14) {d : Dev nD} (hd : d = Body.dst k c) (o n p : ℕ)
    (hn : slotRows k = n) (hp : slotOff k = p) (ho : stOff k = o) {h₁} {h₂} {sS rS : SemLoc sig} (hS : sS = .dma (sendS k)) (hR : rS = .dma (recvS k))
    {hsc : ((commSl p n h₂).view.ref).isScScratch = false} {hsrc : (stageSl o n h₁).view.WordExact} {hdst : (commSl p n h₂).view.WordExact}
    {hsem : DmaTarget.Typed .vmem rS (.remote (d : Thread nD τ) (commSl p n h₂) sS hsc)}
    {fs : (cc0_scratch1 : Ref sig .tc).ty.Contents (Elt F)}
    (hs : ∀ x : (⟨2, ![n, 512]⟩ : Shape).Idx, (stageSl o n h₁).view.read (Elt F) fs x = sent A0 k c (x 0).val (x 1))
    {α : Type} {k' : PUnit → Prog (TpuEff nD τ sig (Elt F) _ _) α} (Q : α → sProp 𝕄) :
    allInvs A0 K ⊢ iprop(ready c k -∗ stagePts c o n fs -∗ ow c (7 + k.val)
      -∗ (iprop(ow c (7 + k.val + 1) ∗ flying c k) -∗ wp frame (wpE (defs₀ (F := F)) 𝒱₀ (c : Thread nD τ) none) Set.univ (k' ⟨⟩) Q)
      -∗ wp frame (wpE (defs₀ (F := F)) 𝒱₀ (c : Thread nD τ) none) Set.univ
            (.op (.enqueueDma (stageSl o n h₁) (.remote (d : Thread nD τ) (commSl p n h₂) sS hsc) rS hsrc hdst hsem) k') Q) := by
  unfold ready kit flying
  iintro HI ⟨⟨Hkit, Hat, Hw⟩, Hg⟩ Hst HO Hk
  iapply (copy_step A0 K c k hd hn hp ho hS hR fs hs) $$ [HI Hkit Hg Hst HO]
  · isplitl [HI]; · iexact HI
    isplitl [Hkit]; · iexact Hkit
    isplitl [Hg]; · iexact Hg
    isplitl [Hst]; · iexact Hst
    iexact HO
  iintro ⟨HO, Hc⟩
  iapply Hk
  isplitl [HO]; · iexact HO
  isplitr [Hw]
  · unfold waitKit; isplitl [Hc]; · iexact Hc
    iexact Hat
  iexact Hw

theorem departed (K : GSem nD τ sig → ℕ) (c : Dev nD) (k : Fin 14) (n : ℕ) (hn : 7 ≤ n) {sS : DmaSem sig} (hS : sS = sendS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k)
    {α : Type} {k' : PUnit → Prog (TpuEff nD τ sig (Elt F) _ _) α} (Q : α → sProp 𝕄) :
    allInvs A0 K ⊢ iprop(flying c k -∗ ow c n
      -∗ (iprop(ow c n ∗ gone c k ∗ sendPay c k) -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sS src dst hsrc hdst) k') Q) := by
  unfold flying gone
  iintro HI ⟨Hs, Hr⟩ HO Hk
  iapply (send_wait A0 K c k n hn hS hN) $$ [HI Hs HO]
  · isplitl [HI]; · iexact HI
    isplitl [Hs]; · iexact Hs
    iexact HO
  iintro ⟨HO, Hd, Hp⟩
  iapply Hk
  isplitl [HO]; · iexact HO
  isplitr [Hp]
  · isplitl [Hd]; · iexact Hd
    iexact Hr
  iexact Hp

theorem arrived (K : GSem nD τ sig → ℕ) (c : Dev nD) (k : Fin 14) (n : ℕ)
    (hlv : ∀ x : Fin 28, n ≤ x.val → lvOf (.recv k) < lvOf (useOf (paySem x))) {sS : DmaSem sig} (hS : sS = recvS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k)
    {α : Type} {k' : PUnit → Prog (TpuEff nD τ sig (Elt F) _ _) α} (Q : α → sProp 𝕄) :
    allInvs A0 K ⊢ iprop(gone c k -∗ ow c n
      -∗ (iprop(ow c n ∗ over A0 c k) -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sS src dst hsrc hdst) k') Q) := by
  unfold gone over
  iintro HI ⟨Hs, Hr⟩ HO Hk
  iapply (recv_wait A0 K c k n hlv hS hN) $$ [HI Hr HO]
  · isplitl [HI]; · iexact HI
    isplitl [Hr]; · iexact Hr
    iexact HO
  iintro ⟨HO, Hd, Hp⟩
  iapply Hk
  isplitl [HO]; · iexact HO
  isplitr [Hp]
  · isplitl [Hs]; · iexact Hs
    iexact Hd
  unfold recvPay
  iexact Hp

/-- What was received as copy `k`, held as a rectangle of the receive buffer. -/
theorem comm_eq (c : Dev nD) (k : Fin 14) (o n : ℕ) (ho : slotOff k = o) (hn : slotRows k = n) (h)
    (f : (cc0_scratch0 : Ref sig .tc).ty.Contents (Elt F)) :
    commPts c k f
      = ((Memref.whole cc0_scratch0).view.loc (c : Thread nD τ) ↦[(Memref.whole cc0_scratch0).view.setOn
          (Rect.unit (s := S992x512) ![o, 0] ![n, 512] h).set]{fullShare} f) := by
  unfold commPts
  rw [← commSl_set h ho hn]
  exact congrArg (fun I => ((Memref.whole cc0_scratch0).view.loc (c : Thread nD τ) ↦[I]{fullShare} f : sProp 𝕄))
    ((View.set_slice_whole _ _).trans (Finset.map_refl).symm)

/-! ### The sending buffer -/

theorem stage_whole (c : Dev nD) (f : (cc0_scratch1 : Ref sig .tc).ty.Contents (Elt F)) : pt c cc0_scratch1 f = stagePts c 0 256 f := by
  have : stageSet 0 256 = Finset.univ := by
    ext i
    unfold stageSet
    rw [Finset.mem_filter]
    exact ⟨fun _ => Finset.mem_univ _, fun _ => ⟨Finset.mem_univ _, Nat.zero_le _, (i 0).isLt.trans_eq (Nat.zero_add 256).symm⟩⟩
  unfold stagePts
  rw [this]

theorem stageSet_add (o n m : ℕ) : stageSet o (n + m) = stageSet o n ∪ stageSet (o + n) m := by
  ext i
  unfold stageSet
  simp only [Finset.mem_union, Finset.mem_filter, Finset.mem_univ, true_and]
  omega

theorem stageSet_disjoint (o n m : ℕ) : Disjoint (stageSet o n) (stageSet (o + n) m) := by
  rw [Finset.disjoint_left]
  intro i h1 h2
  unfold stageSet at h1 h2
  rw [Finset.mem_filter] at h1 h2
  omega

/-- The first `n` rows and the next `m`, apart and together. -/
theorem stage_split (c : Dev nD) (o n m : ℕ) (f : (cc0_scratch1 : Ref sig .tc).ty.Contents (Elt F)) :
    stagePts c o (n + m) f ⊢ iprop(stagePts c o n f ∗ stagePts c (o + n) m f) := by
  unfold stagePts
  rw [stageSet_add]
  exact (pointsTo_union (stageSet_disjoint o n m)).1

theorem stage_join (c : Dev nD) (o n m : ℕ) :
    iprop((∃ f : (cc0_scratch1 : Ref sig .tc).ty.Contents (Elt F), stagePts c o n f) ∗ (∃ f, stagePts c (o + n) m f))
      ⊢ (iprop(∃ f, stagePts c o (n + m) f) : sProp 𝕄) := by
  unfold stagePts
  iintro ⟨⟨%f, H1⟩, ⟨%g, H2⟩⟩
  iexists (stageSet (o + n) m).piecewise g f
  rw [stageSet_add]
  iapply (pointsTo_join (stageSet_disjoint o n m))
  isplitl [H1]; · iexact H1
  iexact H2

/-- The buffer as four blocks: three of `n` rows that are sent, and the rest. -/
theorem stage_split3 (c : Dev nD) (n m : ℕ) (h : n + (n + (n + m)) = 256) (f : (cc0_scratch1 : Ref sig .tc).ty.Contents (Elt F)) :
    pt c cc0_scratch1 f ⊢ iprop(stagePts c 0 n f ∗ stagePts c n n f ∗ stagePts c (n + n) n f ∗ stagePts c (n + n + n) m f) := by
  rw [stage_whole, ← h]
  refine (stage_split c 0 n (n + (n + m)) f).trans (sep_mono_right ?_)
  rw [Nat.zero_add]
  refine (stage_split c n n (n + m) f).trans (sep_mono_right ?_)
  exact stage_split c (n + n) n m f

theorem stage_join3 (c : Dev nD) (n m : ℕ) (h : n + (n + (n + m)) = 256) :
    iprop((∃ f : (cc0_scratch1 : Ref sig .tc).ty.Contents (Elt F), stagePts c 0 n f) ∗ (∃ f, stagePts c n n f) ∗ (∃ f, stagePts c (n + n) n f)
        ∗ (∃ f, stagePts c (n + n + n) m f))
      ⊢ (iprop(∃ f, pt c cc0_scratch1 f) : sProp 𝕄) := by
  rw [show (fun f : (cc0_scratch1 : Ref sig .tc).ty.Contents (Elt F) => pt c cc0_scratch1 f) = fun f => stagePts c 0 256 f from funext fun f => stage_whole c f, ← h]
  refine (sep_mono_right (sep_mono_right (stage_join c (n + n) n m))).trans ?_
  refine (sep_mono_right (stage_join c n n (n + m))).trans ?_
  have := stage_join (F := F) c 0 n (n + (n + m))
  rw [Nat.zero_add] at this
  exact this

/-- A block read back from the buffer after it was stored, and after others were. -/
theorem stage_read {o n : ℕ} {h} (fs : (cc0_scratch1 : Ref sig .tc).ty.Contents (Elt F)) (w : (⟨2, ![n, 512]⟩ : Shape).Idx → Elt F .bf16)
    (L : List (View.Piece (Elt F) S256x512 .bf16)) :
    (stageSl o n h).view.read (Elt F) ((Memref.whole cc0_scratch1).view.writes (Elt F) fs (⟨Rect.unit (s := S256x512) ![o, 0] ![n, 512] h, w⟩ :: L)) = w :=
  View.read_write_univ _ _

theorem stage_skip {o n o' n' : ℕ} {h h'} (hd : o + n ≤ o' ∨ o' + n' ≤ o) (fs : (cc0_scratch1 : Ref sig .tc).ty.Contents (Elt F))
    (w : (⟨2, ![n', 512]⟩ : Shape).Idx → Elt F .bf16) (L : List (View.Piece (Elt F) S256x512 .bf16)) :
    (stageSl o n h).view.read (Elt F) ((Memref.whole cc0_scratch1).view.writes (Elt F) fs (⟨Rect.unit (s := S256x512) ![o', 0] ![n', 512] h', w⟩ :: L))
      = (stageSl o n h).view.read (Elt F) ((Memref.whole cc0_scratch1).view.writes (Elt F) fs L) := by
  refine View.read_slice_write_slice_of_disjoint _ _ _ _ _ ?_
  show Disjoint (stageSl o n h).view.set (stageSl o' n' h').view.set
  rw [stageSl_set, stageSl_set, Finset.disjoint_left]
  intro i h1 h2
  unfold stageSet at h1 h2
  rw [Finset.mem_filter] at h1 h2
  omega

end Cert.KernelIdeal.Body

end
-- ==== Proof.Heads.lean ====
module

public import proofs.«01_k».proof.Proof.Buffers
public import Idealize.ShloMosaic.Lib.Writes
public import Idealize.ShloMosaic.Lib.Ring
public import Idealize.ShloMosaic.Lib.ValueLayout
public import Idealize.ShloMosaic.Lib.Pipeline.Value

/-!
The first stretch of the body: the copies of the device's four heads out of `K` and `V`, chunk by chunk, the selection of
the heads by a product with a matrix of zeros and ones, and the queries. What the two local buffers hold at its end is
given in closed form.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

/-- The two slots that the chunks of `K` and `V` are copied to, and the semaphores of the copies. -/
abbrev buf0 : Memref sig .tc .vmem S128x64x128 .f32 := ((Memref.whole cc0_scratch2).slice (Rect.unit (s := S2x128x64x128) ![0, 0, 0, 0] S1x128x64x128.size inb_S2x128x64x128_S1x128x64x128_0_0_0_0) (fun _ => rfl)).squeeze S128x64x128 squeezes_S1x128x64x128_S128x64x128
abbrev buf1 : Memref sig .tc .vmem S128x64x128 .f32 := ((Memref.whole cc0_scratch2).slice (Rect.unit (s := S2x128x64x128) ![1, 0, 0, 0] S1x128x64x128.size inb_S2x128x64x128_S1x128x64x128_1_0_0_0) (fun _ => rfl)).squeeze S128x64x128 squeezes_S1x128x64x128_S128x64x128
abbrev kvS0 : DmaSem sig := ((cc0_scratch5.slice (Rect.unit (s := Cert.KernelIdeal.S2) ![0] Cert.KernelIdeal.S1.size inb_S2_S1_0)).squeeze S_ squeezes_S1_S_).sem
abbrev kvS1 : DmaSem sig := ((cc0_scratch5.slice (Rect.unit (s := Cert.KernelIdeal.S2) ![1] Cert.KernelIdeal.S1.size inb_S2_S1_1)).squeeze S_ squeezes_S1_S_).sem

/-- The contents of `K` or `V` with the last two axes swapped, and of the local buffers of the device's heads. -/
abbrev KvC (F : FTy → Type) [FloatOps F] : Type := (main_v1 : Ref sig .tc).ty.Contents (Elt F)
abbrev HeadsC (F : FTy → Type) [FloatOps F] : Type := (cc0_scratch3 : Ref sig .tc).ty.Contents (Elt F)

/-- The queries of the device's heads. -/
def qOf (f0 : (cc0_stg0_0 : Ref sig .tc).ty.Contents (Elt F)) (f1 : (cc0_stg1_0 : Ref sig .tc).ty.Contents (Elt F)) : FVec F S512x256 .f32 :=
  k0_pay1 (View.readAt (Elt F) (Memref.whole cc0_stg0_0).view (Rect.unit (s := S2x256x512) ![0, 0, 0] S2x256x512.size inb_S2x256x512_S2x256x512_0_0_0).toLoadRect f0)
    (View.readAt (Elt F) (Memref.whole cc0_stg1_0).view (Rect.unit (s := S512x256) ![0, 0] S512x256.size inb_S512x256_S512x256_0_0).toLoadRect f1)

/-- The number of each row's, and each column's, block of 64; and where a row may attend to a column. -/
def maskRow : IVec S256x256 32 := k0_pay4 (iota .tc S256x256 32 [0] iota_S256x256_d0_w32) 64#32 k0_pay2 k0_pay3
def maskW : IVec S256x256 1 := k0_pay8 maskRow (cmpi .eq maskRow k0_pay5) 4#32 k0_pay7 0#32

/-- The matrix of zeros and ones that selects the heads of device `c`. -/
def selW (c : Dev nD) : FVec F S4x128 .bf16 := k0_pay9 (Scalar.muli (Scalar.remsi (Scalar.divsi (Dev.word c) 1#32) 32#32) 4#32)

theorem chunk_inb (b sh : Fin 2) : ∀ a, (![b.val, 128 * sh.val, 0, 0] : Fin 4 → ℕ) a + S1x128x64x128.size a ≤ S2x256x64x128.size a := by
  revert b sh; decide +kernel

/-- The 128 positions from `128 * sh` on of batch entry `b`, for all heads. -/
def chunkOf (g : KvC F) (b sh : Fin 2) : Vec F S1x128x64x128 .f32 :=
  View.readAt (Elt F) (Memref.whole main_v1).view (Rect.unit (s := S2x256x64x128) ![b.val, 128 * sh.val, 0, 0] S1x128x64x128.size (chunk_inb b sh)).toLoadRect g

/-- The device's four heads of a chunk. -/
def headsOf (c : Dev nD) (g : KvC F) (b sh : Fin 2) : FVec F S4x128x64 .bf16 := k0_pay10 (selW c) (chunkOf g b sh)

/-- The device's four heads of `K` or `V`, side by side: position `i 1` of batch entry `i 0`, lane `i 2 % 64` of head `i 2 / 64`. -/
def localOf (c : Dev nD) (g : KvC F) : HeadsC F := fun i : S2x256x256.Idx =>
  headsOf c g (i 0) ⟨(i 1).val / 128, by have := (i 1).isLt; change (i 1).val < 256 at this; omega⟩
    (ix3 (⟨(i 2).val / 64, by have := (i 2).isLt; change (i 2).val < 256 at this; omega⟩ : Fin 4)
      (⟨(i 1).val % 128, Nat.mod_lt _ (by decide)⟩ : Fin 128) (⟨(i 2).val % 64, Nat.mod_lt _ (by decide)⟩ : Fin 64))

/-- One head of a chunk, as it is stored. -/
def headAt (h : Fin 4) (hs : S4x128x64.Slices ![h.val, 0, 0] S1x128x64) (w : FVec F S4x128x64 .bf16) : FVec F S1x128x64 .bf16 :=
  shapeCast S1x128x64 (shapeCast S128x64 (extractStridedSlice S1x128x64 ![h.val, 0, 0] w hs) shapeCasts_S1x128x64_S128x64) shapeCasts_S128x64_S1x128x64

/-- A slot that a chunk was copied to reads as the chunk. -/
theorem slot_read {off : Fin 4 → ℕ} (hi : ∀ a, off a + S1x128x64x128.size a ≤ S2x128x64x128.size a) (X : Vec F S1x128x64x128 .f32)
    (f : (cc0_scratch2 : Ref sig .tc).ty.Contents (Elt F)) (L) :
    View.readAt (Elt F) (Memref.whole cc0_scratch2).view (Rect.unit (s := S2x128x64x128) off S1x128x64x128.size hi).toLoadRect
      (View.writes (((Memref.whole cc0_scratch2).slice (Rect.unit (s := S2x128x64x128) off S1x128x64x128.size hi) (fun _ => rfl)).squeeze S128x64x128 squeezes_S1x128x64x128_S128x64x128).view
        (Elt F) f (⟨Rect.whole S128x64x128, shapeCast S128x64x128 X shapeCasts_S1x128x64x128_S128x64x128⟩ :: L)) = X := by
  have h1 := funext fun y => (View.read_writes_cons_hit (f := f) (v := (((Memref.whole cc0_scratch2).slice (Rect.unit (s := S2x128x64x128) off S1x128x64x128.size hi) (fun _ => rfl)).squeeze S128x64x128 squeezes_S1x128x64x128_S128x64x128).view)
    (Rect.whole S128x64x128) (shapeCast S128x64x128 X shapeCasts_S1x128x64x128_S128x64x128) L y y (Rect.emb_whole_apply _ y))
  have h0 := (Memref.read_squeeze_slice (Memref.whole cc0_scratch2) _ (fun _ => rfl) squeezes_S1x128x64x128_S128x64x128 shapeCasts_S1x128x64x128_S128x64x128 _).symm.trans h1
  have h2 := congrArg (fun v => shapeCast S1x128x64x128 v (Eq.symm shapeCasts_S1x128x64x128_S128x64x128)) h0
  exact (shapeCast_shapeCast _ _ _).symm.trans (h2.trans (shapeCast_shapeCast _ _ _))

/-- A head of a chunk is its part of the local buffer. -/
theorem head_piece (c : Dev nD) (g : KvC F) (b sh : Fin 2) (h : Fin 4) (hs) {w : FVec F S4x128x64 .bf16} (hw : w = headsOf c g b sh)
    {off : Fin 3 → ℕ} (ho : off = ![b.val, 128 * sh.val, 64 * h.val]) (hi : ∀ a, off a + S1x128x64.size a ≤ S2x256x256.size a)
    (x : S1x128x64.Idx) : headAt h hs w x = localOf c g ((Rect.unit (s := S2x256x256) off S1x128x64.size hi).emb x) := by
  subst hw ho
  obtain ⟨x0, x1, x2, rfl⟩ : ∃ (x0 : Fin 1) (x1 : Fin 128) (x2 : Fin 64), x = ix3 x0 x1 x2 := ⟨x 0, x 1, x 2, eq_ix3 x⟩
  unfold headAt
  rw [shapeCast_ab_1ab_apply, shapeCast_1ab_ab_apply]
  have h0 : x0.val = 0 := by omega
  have e0 : (b : ℕ) + 1 * x0.val = b := by omega
  have e1 : (128 * sh.val + 1 * x1.val) / 128 = sh := by omega
  have e2 : (128 * sh.val + 1 * x1.val) % 128 = x1 := by omega
  have e3 : (64 * h.val + 1 * x2.val) / 64 = h := by omega
  have e4 : (64 * h.val + 1 * x2.val) % 64 = x2 := by omega
  show headsOf c g b sh _ = headsOf c g _ _ _
  refine congr (congr (congrArg (headsOf c g) ?_) ?_) ?_
  · exact Fin.ext e0.symm
  · exact Fin.ext e1.symm
  · funext a
    match a with
    | 0 => exact Fin.ext (Eq.trans (by show h.val + 0 = h.val; omega) e3.symm)
    | 1 => exact Fin.ext (Eq.trans (by show 0 + x1.val = x1.val; omega) e2.symm)
    | 2 => exact Fin.ext (Eq.trans (by show 0 + x2.val = x2.val; omega) e4.symm)

/-- A local buffer that has been stored piece by piece, each piece its part of one array, holds the array. -/
theorem heads_stored {fk : HeadsC F} {L : List (View.Piece (Elt F) (cc0_scratch3 : Ref sig .tc).ty.shape (cc0_scratch3 : Ref sig .tc).ty.elt)} (G : HeadsC F) (hL : View.Piece.tiledL L S1x128x64.size = true)
    (h : ∀ p ∈ L, ∀ x : p.1.shape.Idx, p.2 x = G (p.1.emb x)) : (Memref.whole cc0_scratch3).view.writes (Elt F) fk L = G :=
  funext fun y => View.read_writes_apply_of_pieces (f := fk) (v := (Memref.whole cc0_scratch3).view) G L h y (View.cover_of_tiledL L _ hL y)

theorem heads_stored' {fk : HeadsC F} {L : List (View.Piece (Elt F) (cc0_scratch4 : Ref sig .tc).ty.shape (cc0_scratch4 : Ref sig .tc).ty.elt)} (G : HeadsC F) (hL : View.Piece.tiledL L S1x128x64.size = true)
    (h : ∀ p ∈ L, ∀ x : p.1.shape.Idx, p.2 x = G (p.1.emb x)) : (Memref.whole cc0_scratch4).view.writes (Elt F) fk L = G :=
  funext fun y => View.read_writes_apply_of_pieces (f := fk) (v := (Memref.whole cc0_scratch4).view) G L h y (View.cover_of_tiledL L _ hL y)

set_option maxHeartbeats 8000000 in
/-- The first stretch: it leaves the device's heads of `K` and `V` in the local buffers and goes on with the queries and the
    mask. -/
theorem s1_spec (c : Dev nD) (f0 : (cc0_stg0_0 : Ref sig .tc).ty.Contents (Elt F)) (f1 : (cc0_stg1_0 : Ref sig .tc).ty.Contents (Elt F))
    (g1 g2 : KvC F) (R : Type) (κ) (Q : R → sProp 𝕄) :
    iprop(levAts L lv ∗ pt c cc0_stg0_0 f0 ∗ pt c cc0_stg1_0 f1 ∗ pt c main_v1 g1 ∗ pt c main_v2 g2
      ∗ (∃ fb, buf0.view.loc (c : Thread nD τ) ↦[buf0.view.set]{fullShare} fb) ∗ (∃ fb, buf1.view.loc (c : Thread nD τ) ↦[buf1.view.set]{fullShare} fb)
      ∗ (∃ fk, pt c cc0_scratch3 fk) ∗ (∃ fv, pt c cc0_scratch4 fv)
      ∗ semVal ((c : Thread nD τ), .dma kvS0) 0 ∗ semVal ((c : Thread nD τ), .dma kvS1) 0 ∗ ow c 0)
    ⊢ iprop((∀ a1 a2 a3, iprop(pt c cc0_stg0_0 f0 ∗ pt c cc0_stg1_0 f1 ∗ pt c main_v1 g1 ∗ pt c main_v2 g2
          ∗ (∃ fb, buf0.view.loc (c : Thread nD τ) ↦[buf0.view.set]{fullShare} fb) ∗ (∃ fb, buf1.view.loc (c : Thread nD τ) ↦[buf1.view.set]{fullShare} fb)
          ∗ pt c cc0_scratch3 (localOf c g1) ∗ pt c cc0_scratch4 (localOf c g2)
          ∗ semVal ((c : Thread nD τ), .dma kvS0) 0 ∗ semVal ((c : Thread nD τ), .dma kvS1) 0 ∗ ow c 0)
          -∗ wp frame (wpE (defs₀ (F := F)) 𝒱₀ (c : Thread nD τ) none) Set.univ (κ c a1 a2 a3 (qOf f0 f1) maskW) Q)
      -∗ wp frame (wpE (defs₀ (F := F)) 𝒱₀ (c : Thread nD τ) none) Set.univ (s1 κ) Q) := by
  have hw0 : (levAts L lv : sProp 𝕄) ⊢ MayWait (c : Thread nD τ) (.dma kvS0) () (owed c 0) := mayWait_own c _ 0 (by decide +kernel)
  have hw1 : (levAts L lv : sProp 𝕄) ⊢ MayWait (c : Thread nD τ) (.dma kvS1) () (owed c 0) := mayWait_own c _ 0 (by decide +kernel)
  unfold ow
  iintro ⟨#HI, H0, H1, Hg1, Hg2, ⟨%fb0, Hb0⟩, ⟨%fb1, Hb1⟩, ⟨%fk, Hk⟩, ⟨%fv, Hv⟩, Hs0, Hs1, ⟨%W, HO⟩⟩ Hκ
  unfold s1
  sl_exec
  clear hw0 hw1
  have e0 : s1_spec.sl.v160 g1 = chunkOf g1 0 0 := slot_read _ (chunkOf g1 0 0) _ _
  have e1 : s1_spec.sl.v200 g1 = chunkOf g1 0 1 := slot_read _ (chunkOf g1 0 1) _ _
  have e2 : s1_spec.sl.v240 g1 = chunkOf g1 1 0 := slot_read _ (chunkOf g1 1 0) _ _
  have e3 : s1_spec.sl.v280 g1 = chunkOf g1 1 1 := slot_read _ (chunkOf g1 1 1) _ _
  have e4 : s1_spec.sl.v320 g1 g2 = chunkOf g2 0 0 := slot_read _ (chunkOf g2 0 0) _ _
  have e5 : s1_spec.sl.v360 g1 g2 = chunkOf g2 0 1 := slot_read _ (chunkOf g2 0 1) _ _
  have e6 : s1_spec.sl.v400 g1 g2 = chunkOf g2 1 0 := slot_read _ (chunkOf g2 1 0) _ _
  have e7 : s1_spec.sl.v434 g1 g2 = chunkOf g2 1 1 := slot_read _ (chunkOf g2 1 1) _ _
  rw [heads_stored (fk := fk) (localOf c g1) ?tk ?hk, heads_stored' (fk := fv) (localOf c g2) ?tv ?hv]
  case tk => sl_kernel_rfl
  case tv => sl_kernel_rfl
  case hk =>
    refine List.forall_mem_cons.2 ⟨fun x => head_piece c g1 1 1 3 (by decide) (congrArg (k0_pay10 (selW c)) e3) rfl (by decide) x, ?_⟩
    refine List.forall_mem_cons.2 ⟨fun x => head_piece c g1 1 1 2 (by decide) (congrArg (k0_pay10 (selW c)) e3) rfl (by decide) x, ?_⟩
    refine List.forall_mem_cons.2 ⟨fun x => head_piece c g1 1 1 1 (by decide) (congrArg (k0_pay10 (selW c)) e3) rfl (by decide) x, ?_⟩
    refine List.forall_mem_cons.2 ⟨fun x => head_piece c g1 1 1 0 (by decide) (congrArg (k0_pay10 (selW c)) e3) rfl (by decide) x, ?_⟩
    refine List.forall_mem_cons.2 ⟨fun x => head_piece c g1 1 0 3 (by decide) (congrArg (k0_pay10 (selW c)) e2) rfl (by decide) x, ?_⟩
    refine List.forall_mem_cons.2 ⟨fun x => head_piece c g1 1 0 2 (by decide) (congrArg (k0_pay10 (selW c)) e2) rfl (by decide) x, ?_⟩
    refine List.forall_mem_cons.2 ⟨fun x => head_piece c g1 1 0 1 (by decide) (congrArg (k0_pay10 (selW c)) e2) rfl (by decide) x, ?_⟩
    refine List.forall_mem_cons.2 ⟨fun x => head_piece c g1 1 0 0 (by decide) (congrArg (k0_pay10 (selW c)) e2) rfl (by decide) x, ?_⟩
    refine List.forall_mem_cons.2 ⟨fun x => head_piece c g1 0 1 3 (by decide) (congrArg (k0_pay10 (selW c)) e1) rfl (by decide) x, ?_⟩
    refine List.forall_mem_cons.2 ⟨fun x => head_piece c g1 0 1 2 (by decide) (congrArg (k0_pay10 (selW c)) e1) rfl (by decide) x, ?_⟩
    refine List.forall_mem_cons.2 ⟨fun x => head_piece c g1 0 1 1 (by decide) (congrArg (k0_pay10 (selW c)) e1) rfl (by decide) x, ?_⟩
    refine List.forall_mem_cons.2 ⟨fun x => head_piece c g1 0 1 0 (by decide) (congrArg (k0_pay10 (selW c)) e1) rfl (by decide) x, ?_⟩
    refine List.forall_mem_cons.2 ⟨fun x => head_piece c g1 0 0 3 (by decide) (congrArg (k0_pay10 (selW c)) e0) rfl (by decide) x, ?_⟩
    refine List.forall_mem_cons.2 ⟨fun x => head_piece c g1 0 0 2 (by decide) (congrArg (k0_pay10 (selW c)) e0) rfl (by decide) x, ?_⟩
    refine List.forall_mem_cons.2 ⟨fun x => head_piece c g1 0 0 1 (by decide) (congrArg (k0_pay10 (selW c)) e0) rfl (by decide) x, ?_⟩
    refine List.forall_mem_cons.2 ⟨fun x => head_piece c g1 0 0 0 (by decide) (congrArg (k0_pay10 (selW c)) e0) rfl (by decide) x, ?_⟩
    exact fun _ h => absurd h List.not_mem_nil
  case hv =>
    refine List.forall_mem_cons.2 ⟨fun x => head_piece c g2 1 1 3 (by decide) (congrArg (k0_pay10 (selW c)) e7) rfl (by decide) x, ?_⟩
    refine List.forall_mem_cons.2 ⟨fun x => head_piece c g2 1 1 2 (by decide) (congrArg (k0_pay10 (selW c)) e7) rfl (by decide) x, ?_⟩
    refine List.forall_mem_cons.2 ⟨fun x => head_piece c g2 1 1 1 (by decide) (congrArg (k0_pay10 (selW c)) e7) rfl (by decide) x, ?_⟩
    refine List.forall_mem_cons.2 ⟨fun x => head_piece c g2 1 1 0 (by decide) (congrArg (k0_pay10 (selW c)) e7) rfl (by decide) x, ?_⟩
    refine List.forall_mem_cons.2 ⟨fun x => head_piece c g2 1 0 3 (by decide) (congrArg (k0_pay10 (selW c)) e6) rfl (by decide) x, ?_⟩
    refine List.forall_mem_cons.2 ⟨fun x => head_piece c g2 1 0 2 (by decide) (congrArg (k0_pay10 (selW c)) e6) rfl (by decide) x, ?_⟩
    refine List.forall_mem_cons.2 ⟨fun x => head_piece c g2 1 0 1 (by decide) (congrArg (k0_pay10 (selW c)) e6) rfl (by decide) x, ?_⟩
    refine List.forall_mem_cons.2 ⟨fun x => head_piece c g2 1 0 0 (by decide) (congrArg (k0_pay10 (selW c)) e6) rfl (by decide) x, ?_⟩
    refine List.forall_mem_cons.2 ⟨fun x => head_piece c g2 0 1 3 (by decide) (congrArg (k0_pay10 (selW c)) e5) rfl (by decide) x, ?_⟩
    refine List.forall_mem_cons.2 ⟨fun x => head_piece c g2 0 1 2 (by decide) (congrArg (k0_pay10 (selW c)) e5) rfl (by decide) x, ?_⟩
    refine List.forall_mem_cons.2 ⟨fun x => head_piece c g2 0 1 1 (by decide) (congrArg (k0_pay10 (selW c)) e5) rfl (by decide) x, ?_⟩
    refine List.forall_mem_cons.2 ⟨fun x => head_piece c g2 0 1 0 (by decide) (congrArg (k0_pay10 (selW c)) e5) rfl (by decide) x, ?_⟩
    refine List.forall_mem_cons.2 ⟨fun x => head_piece c g2 0 0 3 (by decide) (congrArg (k0_pay10 (selW c)) e4) rfl (by decide) x, ?_⟩
    refine List.forall_mem_cons.2 ⟨fun x => head_piece c g2 0 0 2 (by decide) (congrArg (k0_pay10 (selW c)) e4) rfl (by decide) x, ?_⟩
    refine List.forall_mem_cons.2 ⟨fun x => head_piece c g2 0 0 1 (by decide) (congrArg (k0_pay10 (selW c)) e4) rfl (by decide) x, ?_⟩
    refine List.forall_mem_cons.2 ⟨fun x => head_piece c g2 0 0 0 (by decide) (congrArg (k0_pay10 (selW c)) e4) rfl (by decide) x, ?_⟩
    exact fun _ h => absurd h List.not_mem_nil
  rw [show s1_spec.sl.r f0 f1 = qOf f0 f1 from rfl, show s1_spec.sl.r_1 = maskW from rfl]
  iapply Hκ $$ [H0 H1 Hg1 Hg2 Hb0 Hb1 Hk Hv Hs0 Hs1 HO]
  isplitl [H0]; · iexact H0
  isplitl [H1]; · iexact H1
  isplitl [Hg1]; · iexact Hg1
  isplitl [Hg2]; · iexact Hg2
  isplitl [Hb0]; · iexists _; iexact Hb0
  isplitl [Hb1]; · iexists _; iexact Hb1
  isplitl [Hk]; · iexact Hk
  isplitl [Hv]; · iexact Hv
  isplitl [Hs0]; · iexact Hs0
  isplitl [Hs1]; · iexact Hs1
  iexists _; iexact HO
end Cert.KernelIdeal.Body

end
-- ==== Proof.Slots.lean ====
module

public import proofs.«01_k».proof.Proof.Heads

/-!
The receive buffer as its fourteen slots, and the two halves of the buffer that `K` and `V` go through.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

theorem slot_cover : (Finset.univ : Finset (Fin 14)).biUnion slotSet = Finset.univ := by
  ext i
  refine ⟨fun _ => Finset.mem_univ _, fun _ => Finset.mem_biUnion.2 ?_⟩
  have key : ∀ r < 992, ∃ k : Fin 14, slotOff k ≤ r ∧ r < slotOff k + slotRows k := by decide +kernel
  obtain ⟨k, hk⟩ := key (i 0).val (i 0).isLt
  exact ⟨k, Finset.mem_univ _, Finset.mem_filter.2 ⟨Finset.mem_univ _, hk⟩⟩

theorem slot_disjoint (k k' : Fin 14) (h : k ≠ k') : Disjoint (slotSet k) (slotSet k') := by
  have key : ∀ k k' : Fin 14, k ≠ k' → slotOff k + slotRows k ≤ slotOff k' ∨ slotOff k' + slotRows k' ≤ slotOff k := by decide
  rw [Finset.disjoint_left]
  intro i hi hi'
  have h1 := (Finset.mem_filter.1 hi).2
  have h2 := (Finset.mem_filter.1 hi').2
  rcases key k k' h with h3 | h3 <;> omega

/-- The receive buffer is its fourteen slots. -/
theorem comm_slots (c : Dev nD) (f : (cc0_scratch0 : Ref sig .tc).ty.Contents (Elt F)) :
    (pt c cc0_scratch0 f : sProp 𝕄) = bigSep Finset.univ fun k => commPts c k f := by
  unfold pt commPts
  rw [← slot_cover]
  exact pointsTo_biUnion _ _ fun k _ k' _ h => slot_disjoint k k' h

theorem buf0_set : (buf0.view.set : Finset (cc0_scratch2 : Ref sig .tc).ty.shape.Idx) = Finset.univ.filter fun i => (i 0).val = 0 := by
  rw [show buf0.view.set = ((View.whole cc0_scratch2).slice (Rect.unit (s := S2x128x64x128) ![0, 0, 0, 0] S1x128x64x128.size inb_S2x128x64x128_S1x128x64x128_0_0_0_0)).set
    from View.set_reshape _ _, View.set_slice_whole]
  ext i
  rw [Rect.mem_set_unit, Finset.mem_filter]
  refine ⟨fun h => ⟨Finset.mem_univ _, ?_⟩, fun h => Fin.forall_fin_succ.2 ⟨?_, Fin.forall_fin_succ.2 ⟨?_, Fin.forall_fin_succ.2 ⟨?_, Fin.forall_fin_one.2 ?_⟩⟩⟩⟩
  · exact Nat.lt_one_iff.1 (h 0).2
  · exact ⟨Nat.zero_le _, Nat.lt_one_iff.2 h.2⟩
  · exact ⟨Nat.zero_le _, (i 1).isLt⟩
  · exact ⟨Nat.zero_le _, (i 2).isLt⟩
  · exact ⟨Nat.zero_le _, (i 3).isLt⟩

theorem buf1_set : (buf1.view.set : Finset (cc0_scratch2 : Ref sig .tc).ty.shape.Idx) = Finset.univ.filter fun i => ¬ (i 0).val = 0 := by
  rw [show buf1.view.set = ((View.whole cc0_scratch2).slice (Rect.unit (s := S2x128x64x128) ![1, 0, 0, 0] S1x128x64x128.size inb_S2x128x64x128_S1x128x64x128_1_0_0_0)).set
    from View.set_reshape _ _, View.set_slice_whole]
  ext i
  rw [Rect.mem_set_unit, Finset.mem_filter]
  refine ⟨fun h => ⟨Finset.mem_univ _, ?_⟩, fun h => Fin.forall_fin_succ.2 ⟨?_, Fin.forall_fin_succ.2 ⟨?_, Fin.forall_fin_succ.2 ⟨?_, Fin.forall_fin_one.2 ?_⟩⟩⟩⟩
  · exact fun e => absurd (e ▸ (h 0).1 : (1 : ℕ) ≤ 0) (by decide)
  · exact ⟨Nat.one_le_iff_ne_zero.2 h.2, (i 0).isLt⟩
  · exact ⟨Nat.zero_le _, (i 1).isLt⟩
  · exact ⟨Nat.zero_le _, (i 2).isLt⟩
  · exact ⟨Nat.zero_le _, (i 3).isLt⟩

theorem bufs_cover : (buf0.view.set ∪ buf1.view.set : Finset (cc0_scratch2 : Ref sig .tc).ty.shape.Idx) = Finset.univ := by
  rw [buf0_set, buf1_set, Finset.filter_union_filter_not_eq]

theorem bufs_disjoint : Disjoint (buf0.view.set : Finset (cc0_scratch2 : Ref sig .tc).ty.shape.Idx) buf1.view.set := by
  rw [buf0_set, buf1_set]
  exact Finset.disjoint_filter_filter_not _ _ _

/-- The buffer that `K` and `V` go through, in two halves, and joined again. -/
theorem halves (c : Dev nD) : iprop(∃ f, pt (F := F) c cc0_scratch2 f)
    ⊢ iprop((∃ fb, buf0.view.loc (c : Thread nD τ) ↦[buf0.view.set]{fullShare} fb) ∗ (∃ fb, buf1.view.loc (c : Thread nD τ) ↦[buf1.view.set]{fullShare} fb) : sProp 𝕄) := by
  iintro ⟨%f, H⟩
  ihave H := (show (pt c cc0_scratch2 f : sProp 𝕄) ⊢ iprop((buf0.view.loc (c : Thread nD τ) ↦[buf0.view.set]{fullShare} f) ∗ (buf1.view.loc (c : Thread nD τ) ↦[buf1.view.set]{fullShare} f)) by
    unfold pt; rw [← bufs_cover]; exact (pointsTo_union bufs_disjoint).1) $$ H
  icases H with ⟨H0, H1⟩
  isplitl [H0]
  · iexists f; iexact H0
  · iexists f; iexact H1

theorem halves_join (c : Dev nD) : iprop((∃ fb, buf0.view.loc (c : Thread nD τ) ↦[buf0.view.set]{fullShare} fb) ∗ (∃ fb, buf1.view.loc (c : Thread nD τ) ↦[buf1.view.set]{fullShare} fb) : sProp 𝕄)
    ⊢ iprop(∃ f, pt (F := F) c cc0_scratch2 f) := by
  iintro ⟨⟨%f, H0⟩, ⟨%g, H1⟩⟩
  iexists ((buf1.view.set : Finset (cc0_scratch2 : Ref sig .tc).ty.shape.Idx).piecewise g f)
  unfold pt; rw [← bufs_cover]
  iapply (pointsTo_join bufs_disjoint)
  isplitl [H0]
  · iexact H0
  · iexact H1

end Cert.KernelIdeal.Body

end
-- ==== Proof.Exchange.lean ====
module

public import proofs.«01_k».proof.Proof.Buffers

/-!
The six exchanges: each stretch of the body takes the result's buffer from its contents before the exchange to those after it.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (A0 : Dev nD → OutC F)

theorem at256_eq (w : Vec F S256x512 .bf16) (x : (⟨2, ![256, 512]⟩ : Shape).Idx) : w x = w (at256 (x 0).val (x 1)) := congrArg w (at256_self x).symm
theorem at64_eq (w : Vec F S64x512 .bf16) (x : (⟨2, ![64, 512]⟩ : Shape).Idx) : w x = w (at64 (x 0).val (x 1)) := congrArg w (at64_self x).symm
theorem at16_eq (w : Vec F S16x512 .bf16) (x : (⟨2, ![16, 512]⟩ : Shape).Idx) : w x = w (at16 (x 0).val (x 1)) := congrArg w (at16_self x).symm

set_option maxHeartbeats 1000000 in
theorem s4_spec (K) (c : Dev nD) (v19 v37 v39 v655 c8 : BitVec 32)
   (R : Type) (κ) (Q : R → sProp 𝕄) :
   iprop(allInvs A0 K ∗ ready c 0 ∗ (∃ fs, pt c cc0_scratch1 fs) ∗ pt c cc0_stg3_0 (A0 c) ∗ ow c 7)
   ⊢ iprop((∀ a1 a2 a3 a4 a5 a6 a7 a8 a9, iprop(over A0 c 0 ∗ (∃ fs, pt c cc0_scratch1 fs) ∗ pt c cc0_stg3_0 (A1 A0 c) ∗ ow c 8) -∗ wp frame (wpE (defs₀ (F := F)) 𝒱₀ (c : Thread nD τ) none) Set.univ (κ a1 a2 a3 a4 a5 a6 a7 a8 a9) Q)
      -∗ wp frame (wpE (defs₀ (F := F)) 𝒱₀ (c : Thread nD τ) none) Set.univ (s4 c v19 v37 v39 v655 c8 κ) Q) := by
  iintro ⟨#HI, Hr, ⟨%fs, Hst⟩, Ho, HO⟩ Hκ
  unfold s4
  sl_exec
  ihave Hst := (Entails.of_eq (stage_whole c _)) $$ Hst
  iapply (copy A0 K c 0 (dev8_eq c) 0 256 0 rfl rfl rfl rfl rfl ?hs) $$ HI Hr Hst HO
  case hs => exact fun x => (congrFun (stage_read _ _ _) x).trans (at256_eq (S0 A0 c) x)
  iintro ⟨HO, Hf⟩
  iapply (departed A0 K c 0 8 (by omega) rfl rfl) $$ HI Hf HO
  iintro ⟨HO, Hf, Hst⟩
  iapply (arrived A0 K c 0 8 (by decide +kernel) rfl rfl) $$ HI Hf HO
  iintro ⟨HO, Hf⟩
  simp -zeta only [Prog.bind_ret, bind_eq]
  unfold over
  icases Hf with ⟨Hd, Hcm⟩
  ihave Hcm := (Entails.of_eq (comm_eq c 0 0 256 rfl rfl inb_S992x512_S256x512_0_0 _)) $$ Hcm
  sl_exec
  ihave Hcm := (Entails.of_eq (comm_eq c 0 0 256 rfl rfl inb_S992x512_S256x512_0_0 _).symm) $$ Hcm
  iapply Hκ
  isplitl [Hd Hcm]
  · isplitl [Hd]; · iexact Hd
    iexact Hcm
  isplitl [Hst]
  · unfold sendPay
    icases Hst with ⟨%f, Hst⟩
    iexists f
    rw [stage_whole]
    iexact Hst
  isplitl [Ho]
  · have e := read256 A0 c 0 rfl rfl inb_S992x512_S256x512_0_0 (S0 A0 (src 0 c)) (fun _ _ => rfl)
    have : A1 A0 c = (Memref.whole cc0_stg3_0).view.writes (Elt F) (A0 c) [⟨Rect.unit (s := S512x512) (k0_off2 c) S256x512.size (k0_off2_inb c), s4_spec.sl.v758 A0 c⟩] := by
      unfold A1
      rw [← e]
      rfl
    rw [this]
    iexact Ho
  iexact HO

/-- 256, 64 or 16 rows of what has been received, from row `o`. -/
abbrev got256 (c : Dev nD) (o : ℕ) (h : ∀ a, (![o, 0] : Fin 2 → ℕ) a + S256x512.size a ≤ S992x512.size a) : Vec F S256x512 .bf16 :=
  View.readAt (Elt F) (Memref.whole cc0_scratch0).view (Rect.unit (s := S992x512) ![o, 0] S256x512.size h).toLoadRect (Cm A0 c)
abbrev got64 (c : Dev nD) (o : ℕ) (h : ∀ a, (![o, 0] : Fin 2 → ℕ) a + S64x512.size a ≤ S992x512.size a) : Vec F S64x512 .bf16 :=
  View.readAt (Elt F) (Memref.whole cc0_scratch0).view (Rect.unit (s := S992x512) ![o, 0] S64x512.size h).toLoadRect (Cm A0 c)
abbrev got16 (c : Dev nD) (o : ℕ) (h : ∀ a, (![o, 0] : Fin 2 → ℕ) a + S16x512.size a ≤ S992x512.size a) : Vec F S16x512 .bf16 :=
  View.readAt (Elt F) (Memref.whole cc0_scratch0).view (Rect.unit (s := S992x512) ![o, 0] S16x512.size h).toLoadRect (Cm A0 c)

/-- The contents after an exchange, from the receive buffer as a whole. -/
theorem A2_of (c : Dev nD) (h1 h2 h3) : A2 A0 c = (Memref.whole cc0_stg3_0).view.writes (Elt F) (A1 A0 c)
    [⟨Rect.unit (s := S512x512) (k0_off4 c) S64x512.size (k0_off4_inb c),
      k0_pay70 (rd64 (k0_off4 c) (k0_off4_inb c) (A1 A0 c)) (got64 A0 c 256 h1) (got64 A0 c 320 h2) (got64 A0 c 384 h3)⟩] := by
  unfold A2 got64
  rw [read64 A0 c 1 (o := 256) rfl rfl h1 (S1 A0 0 (src 1 c)) (fun _ _ => rfl), read64 A0 c 2 (o := 320) rfl rfl h2 (S1 A0 1 (src 2 c)) (fun _ _ => rfl),
    read64 A0 c 3 (o := 384) rfl rfl h3 (S1 A0 2 (src 3 c)) (fun _ _ => rfl)]

theorem A3_of (c : Dev nD) (h1 h2 h3) : A3 A0 c = (Memref.whole cc0_stg3_0).view.writes (Elt F) (A2 A0 c)
    [⟨Rect.unit (s := S512x512) (k0_off6 c) S16x512.size (k0_off6_inb c),
      k0_pay74 (rd16 (k0_off6 c) (k0_off6_inb c) (A2 A0 c)) (got16 A0 c 448 h1) (got16 A0 c 464 h2) (got16 A0 c 480 h3)⟩] := by
  unfold A3 got16
  rw [read16 A0 c 4 (o := 448) rfl rfl h1 (S2 A0 0 (src 4 c)) (fun _ _ => rfl), read16 A0 c 5 (o := 464) rfl rfl h2 (S2 A0 1 (src 5 c)) (fun _ _ => rfl),
    read16 A0 c 6 (o := 480) rfl rfl h3 (S2 A0 2 (src 6 c)) (fun _ _ => rfl)]

theorem A4_of (c : Dev nD) (h1 h2 h3) : A4 A0 c = (Memref.whole cc0_stg3_0).view.writes (Elt F) (A3 A0 c)
    [⟨Rect.unit (s := S512x512) (k0_off7 c (BitVec.ofNat 32 (1 + (2 : Fin 3).val))) S16x512.size (k0_off7_inb c 2), k0_pay79 (got16 A0 c 528 h3)⟩,
     ⟨Rect.unit (s := S512x512) (k0_off7 c (BitVec.ofNat 32 (1 + (1 : Fin 3).val))) S16x512.size (k0_off7_inb c 1), k0_pay79 (got16 A0 c 512 h2)⟩,
     ⟨Rect.unit (s := S512x512) (k0_off7 c (BitVec.ofNat 32 (1 + (0 : Fin 3).val))) S16x512.size (k0_off7_inb c 0), k0_pay79 (got16 A0 c 496 h1)⟩] := by
  unfold A4 got16
  rw [read16 A0 c 7 (o := 496) rfl rfl h1 (S3 A0 (src 7 c)) (fun _ _ => rfl), read16 A0 c 8 (o := 512) rfl rfl h2 (S3 A0 (src 8 c)) (fun _ _ => rfl),
    read16 A0 c 9 (o := 528) rfl rfl h3 (S3 A0 (src 9 c)) (fun _ _ => rfl)]

theorem A5_of (c : Dev nD) (h1 h2 h3) : A5 A0 c = (Memref.whole cc0_stg3_0).view.writes (Elt F) (A4 A0 c)
    [⟨Rect.unit (s := S512x512) (k0_off8 c (BitVec.ofNat 32 (1 + (2 : Fin 3).val))) S64x512.size (k0_off8_inb c 2), k0_pay86 (got64 A0 c 672 h3)⟩,
     ⟨Rect.unit (s := S512x512) (k0_off8 c (BitVec.ofNat 32 (1 + (1 : Fin 3).val))) S64x512.size (k0_off8_inb c 1), k0_pay86 (got64 A0 c 608 h2)⟩,
     ⟨Rect.unit (s := S512x512) (k0_off8 c (BitVec.ofNat 32 (1 + (0 : Fin 3).val))) S64x512.size (k0_off8_inb c 0), k0_pay86 (got64 A0 c 544 h1)⟩] := by
  unfold A5 got64
  rw [read64 A0 c 10 (o := 544) rfl rfl h1 (S4 A0 (src 10 c)) (fun _ _ => rfl), read64 A0 c 11 (o := 608) rfl rfl h2 (S4 A0 (src 11 c)) (fun _ _ => rfl),
    read64 A0 c 12 (o := 672) rfl rfl h3 (S4 A0 (src 12 c)) (fun _ _ => rfl)]

theorem A6_of (c : Dev nD) (h) : A6 A0 c = (Memref.whole cc0_stg3_0).view.writes (Elt F) (A5 A0 c)
    [⟨Rect.unit (s := S512x512) (k0_off1 c) S256x512.size (k0_off1_inb c), k0_pay90 (got256 A0 c 736 h)⟩] := by
  unfold A6 got256
  rw [read256 A0 c 13 (o := 736) rfl rfl h (S5 A0 (src 13 c)) (fun _ _ => rfl)]

set_option maxHeartbeats 1000000 in
/-- Exchange two: quarters of the own half among the rows of the plane. -/
theorem s5_spec (K : GSem nD τ sig → ℕ) (c : Dev nD) (v1 v2 v3 v4 v5 v6 v7 v8 v9 v10 v11 v12 : BitVec 32) (R : Type) (κ) (Q : R → sProp 𝕄) :
    iprop(allInvs A0 K ∗ (ready c 1 ∗ ready c 2 ∗ ready c 3) ∗ (∃ fs, pt c cc0_scratch1 fs) ∗ pt c cc0_stg3_0 (A1 A0 c) ∗ ow c 8)
      ⊢ iprop((∀ a1 a2 a3 a4 a5 a6 a7 a8 a9, iprop((over A0 c 1 ∗ over A0 c 2 ∗ over A0 c 3) ∗ (∃ fs, pt c cc0_scratch1 fs) ∗ pt c cc0_stg3_0 (A2 A0 c) ∗ ow c 11)
          -∗ wp frame (wpE (defs₀ (F := F)) 𝒱₀ (c : Thread nD τ) none) Set.univ (κ a1 a2 a3 a4 a5 a6 a7 a8 a9) Q)
        -∗ wp frame (wpE (defs₀ (F := F)) 𝒱₀ (c : Thread nD τ) none) Set.univ (s5 c v1 v2 v3 v4 v5 v6 v7 v8 v9 v10 v11 v12 κ) Q) := by
  iintro ⟨#HI, ⟨Hr1, Hr2, Hr3⟩, ⟨%fs, Hst⟩, Ho, HO⟩ Hκ
  unfold s5
  sl_exec
  ihave Hst := (stage_split3 c 64 64 rfl _) $$ Hst
  icases Hst with ⟨Hs1, Hs2, Hs3, Hs4⟩
  iapply (copy A0 K c 1 (dev9_eq c) 0 64 256 rfl rfl rfl rfl rfl ?h1) $$ HI Hr1 Hs1 HO
  case h1 => exact fun x => (congrFun ((stage_skip (by omega) _ _ _).trans ((stage_skip (by omega) _ _ _).trans (stage_read _ _ _))) x).trans (at64_eq (S1 A0 0 c) x)
  iintro ⟨HO, Hr1⟩
  simp -zeta only [Prog.bind_ret, bind_eq]
  try sl_exec
  iapply (copy A0 K c 2 (dev10_eq c) 64 64 320 rfl rfl rfl rfl rfl ?h2) $$ HI Hr2 Hs2 HO
  case h2 => exact fun x => (congrFun ((stage_skip (by omega) _ _ _).trans (stage_read _ _ _)) x).trans (at64_eq (S1 A0 1 c) x)
  iintro ⟨HO, Hr2⟩
  simp -zeta only [Prog.bind_ret, bind_eq]
  try sl_exec
  iapply (copy A0 K c 3 (dev11_eq c) 128 64 384 rfl rfl rfl rfl rfl ?h3) $$ HI Hr3 Hs3 HO
  case h3 => exact fun x => (congrFun (stage_read _ _ _) x).trans (at64_eq (S1 A0 2 c) x)
  iintro ⟨HO, Hr3⟩
  simp -zeta only [Prog.bind_ret, bind_eq]
  try sl_exec
  iapply (departed A0 K c 1 11 (by omega) rfl rfl) $$ HI Hr1 HO
  iintro ⟨HO, Hr1, Hs1⟩
  simp -zeta only [Prog.bind_ret, bind_eq]
  try sl_exec
  iapply (arrived A0 K c 1 11 (by decide +kernel) rfl rfl) $$ HI Hr1 HO
  iintro ⟨HO, Hr1⟩
  simp -zeta only [Prog.bind_ret, bind_eq]
  try sl_exec
  iapply (departed A0 K c 2 11 (by omega) rfl rfl) $$ HI Hr2 HO
  iintro ⟨HO, Hr2, Hs2⟩
  simp -zeta only [Prog.bind_ret, bind_eq]
  try sl_exec
  iapply (arrived A0 K c 2 11 (by decide +kernel) rfl rfl) $$ HI Hr2 HO
  iintro ⟨HO, Hr2⟩
  simp -zeta only [Prog.bind_ret, bind_eq]
  try sl_exec
  iapply (departed A0 K c 3 11 (by omega) rfl rfl) $$ HI Hr3 HO
  iintro ⟨HO, Hr3, Hs3⟩
  simp -zeta only [Prog.bind_ret, bind_eq]
  try sl_exec
  iapply (arrived A0 K c 3 11 (by decide +kernel) rfl rfl) $$ HI Hr3 HO
  iintro ⟨HO, Hr3⟩
  simp -zeta only [Prog.bind_ret, bind_eq]
  unfold over
  icases Hr1 with ⟨Hd1, Hc1⟩
  icases Hr2 with ⟨Hd2, Hc2⟩
  icases Hr3 with ⟨Hd3, Hc3⟩
  ihave Hc1 := (Entails.of_eq (comm_eq c 1 256 64 rfl rfl inb_S992x512_S64x512_256_0 _)) $$ Hc1
  ihave Hc2 := (Entails.of_eq (comm_eq c 2 320 64 rfl rfl inb_S992x512_S64x512_320_0 _)) $$ Hc2
  ihave Hc3 := (Entails.of_eq (comm_eq c 3 384 64 rfl rfl inb_S992x512_S64x512_384_0 _)) $$ Hc3
  sl_exec
  ihave Hc1 := (Entails.of_eq (comm_eq c 1 256 64 rfl rfl inb_S992x512_S64x512_256_0 _).symm) $$ Hc1
  ihave Hc2 := (Entails.of_eq (comm_eq c 2 320 64 rfl rfl inb_S992x512_S64x512_320_0 _).symm) $$ Hc2
  ihave Hc3 := (Entails.of_eq (comm_eq c 3 384 64 rfl rfl inb_S992x512_S64x512_384_0 _).symm) $$ Hc3
  have e : pt c cc0_stg3_0 (A2 A0 c) = pt c cc0_stg3_0 _ := congrArg (pt c cc0_stg3_0) ((A2_of A0 c inb_S992x512_S64x512_256_0 inb_S992x512_S64x512_320_0 inb_S992x512_S64x512_384_0))
  iapply Hκ
  isplitl [Hd1 Hc1 Hd2 Hc2 Hd3 Hc3]
  · isplitl [Hd1 Hc1]; · isplitl [Hd1]; · iexact Hd1
                         iexact Hc1
    isplitl [Hd2 Hc2]; · isplitl [Hd2]; · iexact Hd2
                         iexact Hc2
    isplitl [Hd3]; · iexact Hd3
    iexact Hc3
  isplitl [Hs1 Hs2 Hs3 Hs4]
  · iapply (stage_join3 c 64 64 rfl)
    unfold sendPay
    isplitl [Hs1]; · iexact Hs1
    isplitl [Hs2]; · iexact Hs2
    isplitl [Hs3]; · iexact Hs3
    iexists _
    iexact Hs4
  isplitl [Ho]
  · rw [e]
    iexact Ho
  iexact HO

set_option maxHeartbeats 1000000 in
/-- Exchange three: sixteenths among the planes. -/
theorem s6_spec (K : GSem nD τ sig → ℕ) (c : Dev nD) (v1 v2 v3 v4 v5 v6 v7 v8 v9 v10 v11 v12 : BitVec 32) (R : Type) (κ) (Q : R → sProp 𝕄) :
    iprop(allInvs A0 K ∗ (ready c 4 ∗ ready c 5 ∗ ready c 6) ∗ (∃ fs, pt c cc0_scratch1 fs) ∗ pt c cc0_stg3_0 (A2 A0 c) ∗ ow c 11)
      ⊢ iprop((∀ a1, iprop((over A0 c 4 ∗ over A0 c 5 ∗ over A0 c 6) ∗ (∃ fs, pt c cc0_scratch1 fs) ∗ pt c cc0_stg3_0 (A3 A0 c) ∗ ow c 14)
          -∗ wp frame (wpE (defs₀ (F := F)) 𝒱₀ (c : Thread nD τ) none) Set.univ (κ a1) Q)
        -∗ wp frame (wpE (defs₀ (F := F)) 𝒱₀ (c : Thread nD τ) none) Set.univ (s6 c v1 v2 v3 v4 v5 v6 v7 v8 v9 v10 v11 v12 κ) Q) := by
  iintro ⟨#HI, ⟨Hr1, Hr2, Hr3⟩, ⟨%fs, Hst⟩, Ho, HO⟩ Hκ
  unfold s6
  sl_exec
  ihave Hst := (stage_split3 c 16 208 rfl _) $$ Hst
  icases Hst with ⟨Hs1, Hs2, Hs3, Hs4⟩
  iapply (copy A0 K c 4 (dev12_eq c) 0 16 448 rfl rfl rfl rfl rfl ?h1) $$ HI Hr1 Hs1 HO
  case h1 => exact fun x => (congrFun ((stage_skip (by omega) _ _ _).trans ((stage_skip (by omega) _ _ _).trans (stage_read _ _ _))) x).trans (at16_eq (S2 A0 0 c) x)
  iintro ⟨HO, Hr1⟩
  simp -zeta only [Prog.bind_ret, bind_eq]
  try sl_exec
  iapply (copy A0 K c 5 (dev13_eq c) 16 16 464 rfl rfl rfl rfl rfl ?h2) $$ HI Hr2 Hs2 HO
  case h2 => exact fun x => (congrFun ((stage_skip (by omega) _ _ _).trans (stage_read _ _ _)) x).trans (at16_eq (S2 A0 1 c) x)
  iintro ⟨HO, Hr2⟩
  simp -zeta only [Prog.bind_ret, bind_eq]
  try sl_exec
  iapply (copy A0 K c 6 (dev14_eq c) 32 16 480 rfl rfl rfl rfl rfl ?h3) $$ HI Hr3 Hs3 HO
  case h3 => exact fun x => (congrFun (stage_read _ _ _) x).trans (at16_eq (S2 A0 2 c) x)
  iintro ⟨HO, Hr3⟩
  simp -zeta only [Prog.bind_ret, bind_eq]
  try sl_exec
  iapply (departed A0 K c 4 14 (by omega) rfl rfl) $$ HI Hr1 HO
  iintro ⟨HO, Hr1, Hs1⟩
  simp -zeta only [Prog.bind_ret, bind_eq]
  try sl_exec
  iapply (arrived A0 K c 4 14 (by decide +kernel) rfl rfl) $$ HI Hr1 HO
  iintro ⟨HO, Hr1⟩
  simp -zeta only [Prog.bind_ret, bind_eq]
  try sl_exec
  iapply (departed A0 K c 5 14 (by omega) rfl rfl) $$ HI Hr2 HO
  iintro ⟨HO, Hr2, Hs2⟩
  simp -zeta only [Prog.bind_ret, bind_eq]
  try sl_exec
  iapply (arrived A0 K c 5 14 (by decide +kernel) rfl rfl) $$ HI Hr2 HO
  iintro ⟨HO, Hr2⟩
  simp -zeta only [Prog.bind_ret, bind_eq]
  try sl_exec
  iapply (departed A0 K c 6 14 (by omega) rfl rfl) $$ HI Hr3 HO
  iintro ⟨HO, Hr3, Hs3⟩
  simp -zeta only [Prog.bind_ret, bind_eq]
  try sl_exec
  iapply (arrived A0 K c 6 14 (by decide +kernel) rfl rfl) $$ HI Hr3 HO
  iintro ⟨HO, Hr3⟩
  simp -zeta only [Prog.bind_ret, bind_eq]
  unfold over
  icases Hr1 with ⟨Hd1, Hc1⟩
  icases Hr2 with ⟨Hd2, Hc2⟩
  icases Hr3 with ⟨Hd3, Hc3⟩
  ihave Hc1 := (Entails.of_eq (comm_eq c 4 448 16 rfl rfl inb_S992x512_S16x512_448_0 _)) $$ Hc1
  ihave Hc2 := (Entails.of_eq (comm_eq c 5 464 16 rfl rfl inb_S992x512_S16x512_464_0 _)) $$ Hc2
  ihave Hc3 := (Entails.of_eq (comm_eq c 6 480 16 rfl rfl inb_S992x512_S16x512_480_0 _)) $$ Hc3
  sl_exec
  ihave Hc1 := (Entails.of_eq (comm_eq c 4 448 16 rfl rfl inb_S992x512_S16x512_448_0 _).symm) $$ Hc1
  ihave Hc2 := (Entails.of_eq (comm_eq c 5 464 16 rfl rfl inb_S992x512_S16x512_464_0 _).symm) $$ Hc2
  ihave Hc3 := (Entails.of_eq (comm_eq c 6 480 16 rfl rfl inb_S992x512_S16x512_480_0 _).symm) $$ Hc3
  have e : pt c cc0_stg3_0 (A3 A0 c) = pt c cc0_stg3_0 _ := congrArg (pt c cc0_stg3_0) ((A3_of A0 c inb_S992x512_S16x512_448_0 inb_S992x512_S16x512_464_0 inb_S992x512_S16x512_480_0))
  iapply Hκ
  isplitl [Hd1 Hc1 Hd2 Hc2 Hd3 Hc3]
  · isplitl [Hd1 Hc1]; · isplitl [Hd1]; · iexact Hd1
                         iexact Hc1
    isplitl [Hd2 Hc2]; · isplitl [Hd2]; · iexact Hd2
                         iexact Hc2
    isplitl [Hd3]; · iexact Hd3
    iexact Hc3
  isplitl [Hs1 Hs2 Hs3 Hs4]
  · iapply (stage_join3 c 16 208 rfl)
    unfold sendPay
    isplitl [Hs1]; · iexact Hs1
    isplitl [Hs2]; · iexact Hs2
    isplitl [Hs3]; · iexact Hs3
    iexists _
    iexact Hs4
  isplitl [Ho]
  · rw [e]
    iexact Ho
  iexact HO

set_option maxHeartbeats 1000000 in
/-- Exchange four: the summed sixteenths among the planes. -/
theorem s7_spec (K : GSem nD τ sig → ℕ) (c : Dev nD) (v1 v2 v3 v4 v5 : BitVec 32) (R : Type) (κ) (Q : R → sProp 𝕄) :
    iprop(allInvs A0 K ∗ (ready c 7 ∗ ready c 8 ∗ ready c 9) ∗ (∃ fs, pt c cc0_scratch1 fs) ∗ pt c cc0_stg3_0 (A3 A0 c) ∗ ow c 14)
      ⊢ iprop((iprop((over A0 c 7 ∗ over A0 c 8 ∗ over A0 c 9) ∗ (∃ fs, pt c cc0_scratch1 fs) ∗ pt c cc0_stg3_0 (A4 A0 c) ∗ ow c 17)
          -∗ wp frame (wpE (defs₀ (F := F)) 𝒱₀ (c : Thread nD τ) none) Set.univ κ Q)
        -∗ wp frame (wpE (defs₀ (F := F)) 𝒱₀ (c : Thread nD τ) none) Set.univ (s7 c v1 v2 v3 v4 v5 κ) Q) := by
  iintro ⟨#HI, ⟨Hr1, Hr2, Hr3⟩, ⟨%fs, Hst⟩, Ho, HO⟩ Hκ
  unfold s7
  sl_exec
  ihave Hst := (stage_split3 c 16 208 rfl _) $$ Hst
  icases Hst with ⟨Hs1, Hs2, Hs3, Hs4⟩
  iapply (copy A0 K c 7 (dev15_eq c) 0 16 496 rfl rfl rfl rfl rfl ?h1) $$ HI Hr1 Hs1 HO
  case h1 => exact fun x => (congrFun ((stage_skip (by omega) _ _ _).trans ((stage_skip (by omega) _ _ _).trans (stage_read _ _ _))) x).trans (at16_eq (S3 A0 c) x)
  iintro ⟨HO, Hr1⟩
  simp -zeta only [Prog.bind_ret, bind_eq]
  try sl_exec
  iapply (copy A0 K c 8 (dev16_eq c) 16 16 512 rfl rfl rfl rfl rfl ?h2) $$ HI Hr2 Hs2 HO
  case h2 => exact fun x => (congrFun ((stage_skip (by omega) _ _ _).trans (stage_read _ _ _)) x).trans (at16_eq (S3 A0 c) x)
  iintro ⟨HO, Hr2⟩
  simp -zeta only [Prog.bind_ret, bind_eq]
  try sl_exec
  iapply (copy A0 K c 9 (dev17_eq c) 32 16 528 rfl rfl rfl rfl rfl ?h3) $$ HI Hr3 Hs3 HO
  case h3 => exact fun x => (congrFun (stage_read _ _ _) x).trans (at16_eq (S3 A0 c) x)
  iintro ⟨HO, Hr3⟩
  simp -zeta only [Prog.bind_ret, bind_eq]
  try sl_exec
  iapply (departed A0 K c 7 17 (by omega) rfl rfl) $$ HI Hr1 HO
  iintro ⟨HO, Hr1, Hs1⟩
  simp -zeta only [Prog.bind_ret, bind_eq]
  try sl_exec
  iapply (arrived A0 K c 7 17 (by decide +kernel) rfl rfl) $$ HI Hr1 HO
  iintro ⟨HO, Hr1⟩
  simp -zeta only [Prog.bind_ret, bind_eq]
  try sl_exec
  iapply (departed A0 K c 8 17 (by omega) rfl rfl) $$ HI Hr2 HO
  iintro ⟨HO, Hr2, Hs2⟩
  simp -zeta only [Prog.bind_ret, bind_eq]
  try sl_exec
  iapply (arrived A0 K c 8 17 (by decide +kernel) rfl rfl) $$ HI Hr2 HO
  iintro ⟨HO, Hr2⟩
  simp -zeta only [Prog.bind_ret, bind_eq]
  try sl_exec
  iapply (departed A0 K c 9 17 (by omega) rfl rfl) $$ HI Hr3 HO
  iintro ⟨HO, Hr3, Hs3⟩
  simp -zeta only [Prog.bind_ret, bind_eq]
  try sl_exec
  iapply (arrived A0 K c 9 17 (by decide +kernel) rfl rfl) $$ HI Hr3 HO
  iintro ⟨HO, Hr3⟩
  simp -zeta only [Prog.bind_ret, bind_eq]
  unfold over
  icases Hr1 with ⟨Hd1, Hc1⟩
  icases Hr2 with ⟨Hd2, Hc2⟩
  icases Hr3 with ⟨Hd3, Hc3⟩
  ihave Hc1 := (Entails.of_eq (comm_eq c 7 496 16 rfl rfl inb_S992x512_S16x512_496_0 _)) $$ Hc1
  ihave Hc2 := (Entails.of_eq (comm_eq c 8 512 16 rfl rfl inb_S992x512_S16x512_512_0 _)) $$ Hc2
  ihave Hc3 := (Entails.of_eq (comm_eq c 9 528 16 rfl rfl inb_S992x512_S16x512_528_0 _)) $$ Hc3
  sl_exec
  ihave Hc1 := (Entails.of_eq (comm_eq c 7 496 16 rfl rfl inb_S992x512_S16x512_496_0 _).symm) $$ Hc1
  ihave Hc2 := (Entails.of_eq (comm_eq c 8 512 16 rfl rfl inb_S992x512_S16x512_512_0 _).symm) $$ Hc2
  ihave Hc3 := (Entails.of_eq (comm_eq c 9 528 16 rfl rfl inb_S992x512_S16x512_528_0 _).symm) $$ Hc3
  have e : pt c cc0_stg3_0 (A4 A0 c) = pt c cc0_stg3_0 _ := congrArg (pt c cc0_stg3_0) ((A4_of A0 c inb_S992x512_S16x512_496_0 inb_S992x512_S16x512_512_0 inb_S992x512_S16x512_528_0))
  iapply Hκ
  isplitl [Hd1 Hc1 Hd2 Hc2 Hd3 Hc3]
  · isplitl [Hd1 Hc1]; · isplitl [Hd1]; · iexact Hd1
                         iexact Hc1
    isplitl [Hd2 Hc2]; · isplitl [Hd2]; · iexact Hd2
                         iexact Hc2
    isplitl [Hd3]; · iexact Hd3
    iexact Hc3
  isplitl [Hs1 Hs2 Hs3 Hs4]
  · iapply (stage_join3 c 16 208 rfl)
    unfold sendPay
    isplitl [Hs1]; · iexact Hs1
    isplitl [Hs2]; · iexact Hs2
    isplitl [Hs3]; · iexact Hs3
    iexists _
    iexact Hs4
  isplitl [Ho]
  · rw [e]
    iexact Ho
  iexact HO

set_option maxHeartbeats 1000000 in
/-- Exchange five: the summed quarters among the rows of the plane. -/
theorem s8_spec (K : GSem nD τ sig → ℕ) (c : Dev nD) (v1 v2 v3 v4 : BitVec 32) (R : Type) (κ) (Q : R → sProp 𝕄) :
    iprop(allInvs A0 K ∗ (ready c 10 ∗ ready c 11 ∗ ready c 12) ∗ (∃ fs, pt c cc0_scratch1 fs) ∗ pt c cc0_stg3_0 (A4 A0 c) ∗ ow c 17)
      ⊢ iprop((iprop((over A0 c 10 ∗ over A0 c 11 ∗ over A0 c 12) ∗ (∃ fs, pt c cc0_scratch1 fs) ∗ pt c cc0_stg3_0 (A5 A0 c) ∗ ow c 20)
          -∗ wp frame (wpE (defs₀ (F := F)) 𝒱₀ (c : Thread nD τ) none) Set.univ κ Q)
        -∗ wp frame (wpE (defs₀ (F := F)) 𝒱₀ (c : Thread nD τ) none) Set.univ (s8 c v1 v2 v3 v4 κ) Q) := by
  iintro ⟨#HI, ⟨Hr1, Hr2, Hr3⟩, ⟨%fs, Hst⟩, Ho, HO⟩ Hκ
  unfold s8
  sl_exec
  ihave Hst := (stage_split3 c 64 64 rfl _) $$ Hst
  icases Hst with ⟨Hs1, Hs2, Hs3, Hs4⟩
  iapply (copy A0 K c 10 (dev18_eq c) 0 64 544 rfl rfl rfl rfl rfl ?h1) $$ HI Hr1 Hs1 HO
  case h1 => exact fun x => (congrFun ((stage_skip (by omega) _ _ _).trans ((stage_skip (by omega) _ _ _).trans (stage_read _ _ _))) x).trans (at64_eq (S4 A0 c) x)
  iintro ⟨HO, Hr1⟩
  simp -zeta only [Prog.bind_ret, bind_eq]
  try sl_exec
  iapply (copy A0 K c 11 (dev19_eq c) 64 64 608 rfl rfl rfl rfl rfl ?h2) $$ HI Hr2 Hs2 HO
  case h2 => exact fun x => (congrFun ((stage_skip (by omega) _ _ _).trans (stage_read _ _ _)) x).trans (at64_eq (S4 A0 c) x)
  iintro ⟨HO, Hr2⟩
  simp -zeta only [Prog.bind_ret, bind_eq]
  try sl_exec
  iapply (copy A0 K c 12 (dev20_eq c) 128 64 672 rfl rfl rfl rfl rfl ?h3) $$ HI Hr3 Hs3 HO
  case h3 => exact fun x => (congrFun (stage_read _ _ _) x).trans (at64_eq (S4 A0 c) x)
  iintro ⟨HO, Hr3⟩
  simp -zeta only [Prog.bind_ret, bind_eq]
  try sl_exec
  iapply (departed A0 K c 10 20 (by omega) rfl rfl) $$ HI Hr1 HO
  iintro ⟨HO, Hr1, Hs1⟩
  simp -zeta only [Prog.bind_ret, bind_eq]
  try sl_exec
  iapply (arrived A0 K c 10 20 (by decide +kernel) rfl rfl) $$ HI Hr1 HO
  iintro ⟨HO, Hr1⟩
  simp -zeta only [Prog.bind_ret, bind_eq]
  try sl_exec
  iapply (departed A0 K c 11 20 (by omega) rfl rfl) $$ HI Hr2 HO
  iintro ⟨HO, Hr2, Hs2⟩
  simp -zeta only [Prog.bind_ret, bind_eq]
  try sl_exec
  iapply (arrived A0 K c 11 20 (by decide +kernel) rfl rfl) $$ HI Hr2 HO
  iintro ⟨HO, Hr2⟩
  simp -zeta only [Prog.bind_ret, bind_eq]
  try sl_exec
  iapply (departed A0 K c 12 20 (by omega) rfl rfl) $$ HI Hr3 HO
  iintro ⟨HO, Hr3, Hs3⟩
  simp -zeta only [Prog.bind_ret, bind_eq]
  try sl_exec
  iapply (arrived A0 K c 12 20 (by decide +kernel) rfl rfl) $$ HI Hr3 HO
  iintro ⟨HO, Hr3⟩
  simp -zeta only [Prog.bind_ret, bind_eq]
  unfold over
  icases Hr1 with ⟨Hd1, Hc1⟩
  icases Hr2 with ⟨Hd2, Hc2⟩
  icases Hr3 with ⟨Hd3, Hc3⟩
  ihave Hc1 := (Entails.of_eq (comm_eq c 10 544 64 rfl rfl inb_S992x512_S64x512_544_0 _)) $$ Hc1
  ihave Hc2 := (Entails.of_eq (comm_eq c 11 608 64 rfl rfl inb_S992x512_S64x512_608_0 _)) $$ Hc2
  ihave Hc3 := (Entails.of_eq (comm_eq c 12 672 64 rfl rfl inb_S992x512_S64x512_672_0 _)) $$ Hc3
  sl_exec
  ihave Hc1 := (Entails.of_eq (comm_eq c 10 544 64 rfl rfl inb_S992x512_S64x512_544_0 _).symm) $$ Hc1
  ihave Hc2 := (Entails.of_eq (comm_eq c 11 608 64 rfl rfl inb_S992x512_S64x512_608_0 _).symm) $$ Hc2
  ihave Hc3 := (Entails.of_eq (comm_eq c 12 672 64 rfl rfl inb_S992x512_S64x512_672_0 _).symm) $$ Hc3
  have e : pt c cc0_stg3_0 (A5 A0 c) = pt c cc0_stg3_0 _ := congrArg (pt c cc0_stg3_0) ((A5_of A0 c inb_S992x512_S64x512_544_0 inb_S992x512_S64x512_608_0 inb_S992x512_S64x512_672_0))
  iapply Hκ
  isplitl [Hd1 Hc1 Hd2 Hc2 Hd3 Hc3]
  · isplitl [Hd1 Hc1]; · isplitl [Hd1]; · iexact Hd1
                         iexact Hc1
    isplitl [Hd2 Hc2]; · isplitl [Hd2]; · iexact Hd2
                         iexact Hc2
    isplitl [Hd3]; · iexact Hd3
    iexact Hc3
  isplitl [Hs1 Hs2 Hs3 Hs4]
  · iapply (stage_join3 c 64 64 rfl)
    unfold sendPay
    isplitl [Hs1]; · iexact Hs1
    isplitl [Hs2]; · iexact Hs2
    isplitl [Hs3]; · iexact Hs3
    iexists _
    iexact Hs4
  isplitl [Ho]
  · rw [e]
    iexact Ho
  iexact HO

set_option maxHeartbeats 1000000 in
theorem s9_spec (K) (c : Dev nD)
   (R : Type) (κ) (Q : R → sProp 𝕄) :
   iprop(allInvs A0 K ∗ ready c 13 ∗ (∃ fs, pt c cc0_scratch1 fs) ∗ pt c cc0_stg3_0 (A5 A0 c) ∗ ow c 20)
   ⊢ iprop((iprop(over A0 c 13 ∗ (∃ fs, pt c cc0_scratch1 fs) ∗ pt c cc0_stg3_0 (A6 A0 c) ∗ ow c 21) -∗ wp frame (wpE (defs₀ (F := F)) 𝒱₀ (c : Thread nD τ) none) Set.univ κ Q)
      -∗ wp frame (wpE (defs₀ (F := F)) 𝒱₀ (c : Thread nD τ) none) Set.univ (s9 c κ) Q) := by
  iintro ⟨#HI, Hr, ⟨%fs, Hst⟩, Ho, HO⟩ Hκ
  unfold s9
  sl_exec
  ihave Hst := (Entails.of_eq (stage_whole c _)) $$ Hst
  iapply (copy A0 K c 13 (dev21_eq c) 0 256 736 rfl rfl rfl rfl rfl ?hs) $$ HI Hr Hst HO
  case hs => exact fun x => (congrFun (stage_read _ _ _) x).trans (at256_eq (S5 A0 c) x)
  iintro ⟨HO, Hf⟩
  iapply (departed A0 K c 13 21 (by omega) rfl rfl) $$ HI Hf HO
  iintro ⟨HO, Hf, Hst⟩
  iapply (arrived A0 K c 13 21 (by decide +kernel) rfl rfl) $$ HI Hf HO
  iintro ⟨HO, Hf⟩
  simp -zeta only [Prog.bind_ret, bind_eq]
  unfold over
  icases Hf with ⟨Hd, Hcm⟩
  ihave Hcm := (Entails.of_eq (comm_eq c 13 736 256 rfl rfl inb_S992x512_S256x512_736_0 _)) $$ Hcm
  sl_exec
  ihave Hcm := (Entails.of_eq (comm_eq c 13 736 256 rfl rfl inb_S992x512_S256x512_736_0 _).symm) $$ Hcm
  iapply Hκ
  isplitl [Hd Hcm]
  · isplitl [Hd]; · iexact Hd
    iexact Hcm
  isplitl [Hst]
  · unfold sendPay
    icases Hst with ⟨%f, Hst⟩
    iexists f
    rw [stage_whole]
    iexact Hst
  isplitl [Ho]
  · rw [A6_of A0 c inb_S992x512_S256x512_736_0]
    iexact Ho
  iexact HO

end Cert.KernelIdeal.Body

end
-- ==== Proof.Barriers.lean ====
module

public import proofs.«01_k».proof.Proof.Buffers

/-!
The two barriers: seven signals and a wait for seven.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (A0 : Dev nD → OutC F)

theorem signal_bar (K : GSem nD τ sig → ℕ) (c : Dev nD) (q : Fin 7) {d : Dev nD} (hd : d = partner q c) {v : ℕ} (hv : v = 1) (n : ℕ) (hn : q.val = n)
    {α : Type} {k : PUnit → Prog (TpuEff nD τ sig (Elt F) _ _) α} (Q : α → sProp 𝕄) :
    allInvs A0 K ⊢ iprop(barKit c q -∗ ow c n
      -∗ (ow c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (d : Thread nD τ) barrier0 v) k) Q) := by
  subst hv hn
  iintro HI Hb HO Hk
  iapply (bar_signal A0 K c q hd) $$ [HI Hb HO]
  · isplitl [HI]; · iexact HI
    isplitl [Hb]; · iexact Hb
    iexact HO
  iexact Hk

theorem signal_fin (K : GSem nD τ sig → ℕ) (c : Dev nD) (q : Fin 7) {d : Dev nD} (hd : d = partner q c) {v : ℕ} (hv : v = 1) (n : ℕ) (hn : 21 + q.val = n)
    {α : Type} {k : PUnit → Prog (TpuEff nD τ sig (Elt F) _ _) α} (Q : α → sProp 𝕄) :
    allInvs A0 K ⊢ iprop(finKit c q -∗ ow c n
      -∗ (ow c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (d : Thread nD τ) finS v) k) Q) := by
  subst hv hn
  iintro HI Hb HO Hk
  iapply (fin_signal A0 K c q hd) $$ [HI Hb HO]
  · isplitl [HI]; · iexact HI
    isplitl [Hb]; · iexact Hb
    iexact HO
  iexact Hk

set_option maxHeartbeats 1000000 in
/-- The first barrier: the device's places are let, its partners' are got. -/
theorem s3_spec (K : GSem nD τ sig → ℕ) (c : Dev nD) (R : Type) (κ) (Q : R → sProp 𝕄) :
    iprop(allInvs A0 K ∗ (barKit c 0 ∗ barKit c 1 ∗ barKit c 2 ∗ barKit c 3 ∗ barKit c 4 ∗ barKit c 5 ∗ barKit c 6) ∗ waitKit c (.reg barrier0) 7 ∗ ow c 0)
      ⊢ iprop((iprop(ow c 7 ∗ done c (.reg barrier0) ∗ bigSep Finset.univ (fun q => barPay (F := F) c q)) -∗ wp frame (wpE (defs₀ (F := F)) 𝒱₀ (c : Thread nD τ) none) Set.univ κ Q) -∗ wp frame (wpE (defs₀ (F := F)) 𝒱₀ (c : Thread nD τ) none) Set.univ (s3 c κ) Q) := by
  iintro ⟨#HI, ⟨H0, H1, H2, H3, H4, H5, H6⟩, Hw, HO⟩ Hκ
  unfold s3
  sl_exec
  iapply (signal_bar A0 K c 0 (dev1_eq c) rfl 0 rfl) $$ HI H0 HO
  iintro HO
  sl_exec
  iapply (signal_bar A0 K c 1 (dev2_eq c) rfl 1 rfl) $$ HI H1 HO
  iintro HO
  sl_exec
  iapply (signal_bar A0 K c 2 (dev3_eq c) rfl 2 rfl) $$ HI H2 HO
  iintro HO
  sl_exec
  iapply (signal_bar A0 K c 3 (dev4_eq c) rfl 3 rfl) $$ HI H3 HO
  iintro HO
  sl_exec
  iapply (signal_bar A0 K c 4 (dev5_eq c) rfl 4 rfl) $$ HI H4 HO
  iintro HO
  sl_exec
  iapply (signal_bar A0 K c 5 (dev6_eq c) rfl 5 rfl) $$ HI H5 HO
  iintro HO
  sl_exec
  iapply (signal_bar A0 K c 6 (dev7_eq c) rfl 6 rfl) $$ HI H6 HO
  iintro HO
  sl_exec
  iapply (bar_wait A0 K c) $$ [Hw HO]
  · isplitr; · iexact HI
    isplitl [Hw]; · iexact Hw
    iexact HO
  iintro H
  sl_exec
  iapply Hκ
  iexact H

set_option maxHeartbeats 1000000 in
/-- The second barrier. -/
theorem s10_spec (K : GSem nD τ sig → ℕ) (c : Dev nD) (R : Type) (κ) (Q : R → sProp 𝕄) :
    iprop(allInvs A0 K ∗ (finKit c 0 ∗ finKit c 1 ∗ finKit c 2 ∗ finKit c 3 ∗ finKit c 4 ∗ finKit c 5 ∗ finKit c 6) ∗ waitKit c (.reg finS) 7 ∗ ow c 21)
      ⊢ iprop((iprop(ow c 28 ∗ done c (.reg finS)) -∗ wp frame (wpE (defs₀ (F := F)) 𝒱₀ (c : Thread nD τ) none) Set.univ κ Q) -∗ wp frame (wpE (defs₀ (F := F)) 𝒱₀ (c : Thread nD τ) none) Set.univ (s10 c κ) Q) := by
  iintro ⟨#HI, ⟨H0, H1, H2, H3, H4, H5, H6⟩, Hw, HO⟩ Hκ
  unfold s10
  sl_exec
  iapply (signal_fin A0 K c 0 (dev22_eq c) rfl 21 rfl) $$ HI H0 HO
  iintro HO
  sl_exec
  iapply (signal_fin A0 K c 1 (dev23_eq c) rfl 22 rfl) $$ HI H1 HO
  iintro HO
  sl_exec
  iapply (signal_fin A0 K c 2 (dev24_eq c) rfl 23 rfl) $$ HI H2 HO
  iintro HO
  sl_exec
  iapply (signal_fin A0 K c 3 (dev25_eq c) rfl 24 rfl) $$ HI H3 HO
  iintro HO
  sl_exec
  iapply (signal_fin A0 K c 4 (dev26_eq c) rfl 25 rfl) $$ HI H4 HO
  iintro HO
  sl_exec
  iapply (signal_fin A0 K c 5 (dev27_eq c) rfl 26 rfl) $$ HI H5 HO
  iintro HO
  sl_exec
  iapply (signal_fin A0 K c 6 (dev28_eq c) rfl 27 rfl) $$ HI H6 HO
  iintro HO
  sl_exec
  iapply (fin_wait A0 K c) $$ [Hw HO]
  · isplitr; · iexact HI
    isplitl [Hw]; · iexact Hw
    iexact HO
  iintro H
  sl_exec
  iapply Hκ
  iexact H

end Cert.KernelIdeal.Body

end
-- ==== Proof.Talk.lean ====
module

public import proofs.«01_k».proof.Proof.Slots
public import proofs.«01_k».proof.Proof.Exchange
public import proofs.«01_k».proof.Proof.Barriers

/-!
What the kernel does on a device once its own heads are done, in three parts: the first barrier, the fourteen copies with
the sums, the second barrier.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

variable (A0 : Dev nD → OutC F)

/-- An assertion for each of the seven partners, and for each of the fourteen copies, written out. -/
def all7 (Φ : Fin 7 → sProp 𝕄) : sProp 𝕄 := iprop(Φ 0 ∗ Φ 1 ∗ Φ 2 ∗ Φ 3 ∗ Φ 4 ∗ Φ 5 ∗ Φ 6)
def all14 (Φ : Fin 14 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13)

theorem bigSep7 (Φ : Fin 7 → sProp 𝕄) : bigSep Finset.univ Φ = all7 Φ :=
  bigSep_univ_eq_bigSepL [0, 1, 2, 3, 4, 5, 6] (by decide) (by decide) Φ
theorem bigSep14 (Φ : Fin 14 → sProp 𝕄) : bigSep Finset.univ Φ = all14 Φ :=
  bigSep_univ_eq_bigSepL [0, 1, 2, 3, 4, 5, 6, 7, 8, 9, 10, 11, 12, 13] (by decide) (by decide) Φ

/-- What device `c` needs of the protocol when the kernel starts. -/
def opened (c : Dev nD) : sProp 𝕄 :=
  iprop(all7 (fun q => iprop(dutyTok (ET (F := F)) (barCell (partner q c)) 0 (inv q) ∗ reached (ET (F := F)) (barCell (partner q c)) 0))
    ∗ all7 (fun q => dutyTok (ET (F := F)) (finCell (partner q c)) 0 (inv q))
    ∗ waitKit c (.reg barrier0) 7 ∗ waitKit c (.reg finS) 7 ∗ reached (ET (F := F)) (finCell c) 0
    ∗ all14 (kit (F := F) c) ∗ all14 (fun k => reached (ET (F := F)) (recvCell c k) 0))

/-- What it has of it when the kernel ends: every round of its cells is over. -/
def finished (c : Dev nD) : sProp 𝕄 :=
  iprop(done (F := F) c (.reg barrier0) ∗ done (F := F) c (.reg finS)
    ∗ all14 (fun k => iprop(done (F := F) c (.dma (sendS k)) ∗ done (F := F) c (.dma (recvS k)))))

/-- Every copy's semaphores and the place that it goes to. -/
def readies (c : Dev nD) : sProp 𝕄 := all14 (ready (F := F) c)

/-- The places of the copies, free at any contents. -/
def slots (c : Dev nD) : sProp 𝕄 := iprop(∃ f, pt (F := F) c cc0_scratch0 f)

theorem slots_gifts (c : Dev nD) : iprop(slots c ∗ all14 (fun k => reached (ET (F := F)) (recvCell c k) 0)) ⊢ (all14 (gift (F := F) c) : sProp 𝕄) := by
  unfold slots
  rw [← bigSep14, ← bigSep14]
  iintro ⟨⟨%f, H⟩, Hr⟩
  ihave H := (Entails.of_eq (comm_slots c f)) $$ H
  iapply (show bigSep Finset.univ (fun k => iprop(commPts c k f ∗ reached (ET (F := F)) (recvCell c k) 0)) ⊢ bigSep Finset.univ (gift (F := F) c) from
    bigSep_mono fun k _ => by
      unfold gift
      show iprop(commPts c k f ∗ reached (ET (F := F)) (recvCell c k) 0) ⊢ (iprop((∃ f, commPts c k f) ∗ reached (ET (F := F)) (recvCell c k) 0) : sProp 𝕄)
      iintro ⟨H, Hr⟩
      isplitl [H]
      · iexists f; iexact H
      · iexact Hr)
  iapply (Entails.of_eq (bigSep_sep' Finset.univ (fun k => commPts c k f) (fun k => reached (ET (F := F)) (recvCell c k) 0)).symm)
  isplitl [H]
  · iexact H
  · iexact Hr

/-- The first barrier: a device gives away its own places, and gets those its copies go to. -/
theorem first_spec (K : GSem nD τ sig → ℕ) (c : Dev nD) (R : Type) (κ) (Q : R → sProp 𝕄) :
    iprop(allInvs A0 K
        ∗ all7 (fun q => iprop(dutyTok (ET (F := F)) (barCell (partner q c)) 0 (inv q) ∗ reached (ET (F := F)) (barCell (partner q c)) 0))
        ∗ waitKit c (.reg barrier0) 7 ∗ reached (ET (F := F)) (finCell c) 0 ∗ all14 (gift (F := F) c) ∗ ow c 0)
      ⊢ iprop((iprop(ow c 7 ∗ done c (.reg barrier0) ∗ all14 (fun k => gift (F := F) (dst k c) k) ∗ all7 (fun q => reached (ET (F := F)) (finCell (partner q c)) 0))
          -∗ wp frame (wpE (defs₀ (F := F)) 𝒱₀ (c : Thread nD τ) none) Set.univ κ Q)
        -∗ wp frame (wpE (defs₀ (F := F)) 𝒱₀ (c : Thread nD τ) none) Set.univ (s3 c κ) Q) := by
  unfold all7 all14
  iintro ⟨#HI, ⟨⟨Hb0, #Hbr0⟩, ⟨Hb1, #Hbr1⟩, ⟨Hb2, #Hbr2⟩, ⟨Hb3, #Hbr3⟩, ⟨Hb4, #Hbr4⟩, ⟨Hb5, #Hbr5⟩, ⟨Hb6, #Hbr6⟩⟩, Hwb, #Hfr, ⟨Hg0, Hg1, Hg2, Hg3, Hg4, Hg5, Hg6, Hg7, Hg8, Hg9, Hg10, Hg11, Hg12, Hg13⟩, HO⟩ HQ
  iapply (s3_spec A0 K c _ _ Q) $$ [Hb0 Hb1 Hb2 Hb3 Hb4 Hb5 Hb6 Hg0 Hg1 Hg2 Hg3 Hg4 Hg5 Hg6 Hg7 Hg8 Hg9 Hg10 Hg11 Hg12 Hg13 Hwb HO]
  · unfold barKit
    isplitr; · iexact HI
    isplitr [Hwb HO]
    · isplitl [Hb0 Hg0 Hg13]
      · isplitl [Hb0]; · iexact Hb0
        isplitr; · iexact Hbr0
        isplitl [Hg0]; · iexact Hg0
        isplitl [Hg13]; · iexact Hg13
        iexact Hfr
      isplitl [Hb1 Hg3 Hg12]
      · isplitl [Hb1]; · iexact Hb1
        isplitr; · iexact Hbr1
        isplitl [Hg3]; · iexact Hg3
        isplitl [Hg12]; · iexact Hg12
        iexact Hfr
      isplitl [Hb2 Hg2 Hg11]
      · isplitl [Hb2]; · iexact Hb2
        isplitr; · iexact Hbr2
        isplitl [Hg2]; · iexact Hg2
        isplitl [Hg11]; · iexact Hg11
        iexact Hfr
      isplitl [Hb3 Hg1 Hg10]
      · isplitl [Hb3]; · iexact Hb3
        isplitr; · iexact Hbr3
        isplitl [Hg1]; · iexact Hg1
        isplitl [Hg10]; · iexact Hg10
        iexact Hfr
      isplitl [Hb4 Hg6 Hg9]
      · isplitl [Hb4]; · iexact Hb4
        isplitr; · iexact Hbr4
        isplitl [Hg6]; · iexact Hg6
        isplitl [Hg9]; · iexact Hg9
        iexact Hfr
      isplitl [Hb5 Hg5 Hg8]
      · isplitl [Hb5]; · iexact Hb5
        isplitr; · iexact Hbr5
        isplitl [Hg5]; · iexact Hg5
        isplitl [Hg8]; · iexact Hg8
        iexact Hfr
      isplitl [Hb6]; · iexact Hb6
      isplitr; · iexact Hbr6
      isplitl [Hg4]; · iexact Hg4
      isplitl [Hg7]; · iexact Hg7
      iexact Hfr
    isplitl [Hwb]; · iexact Hwb
    iexact HO
  iintro ⟨HO, Hdb, Hp⟩
  ihave Hp := (Entails.of_eq (bigSep7 _)) $$ Hp
  unfold all7 barPay
  icases Hp with ⟨⟨Hg0, Hg13, Hp0⟩, ⟨Hg1, Hg10, Hp1⟩, ⟨Hg2, Hg11, Hp2⟩, ⟨Hg3, Hg12, Hp3⟩, ⟨Hg4, Hg7, Hp4⟩, ⟨Hg5, Hg8, Hp5⟩, ⟨Hg6, Hg9, Hp6⟩⟩
  iapply HQ
  isplitl [HO]; · iexact HO
  isplitl [Hdb]; · iexact Hdb
  isplitl [Hg0 Hg1 Hg2 Hg3 Hg4 Hg5 Hg6 Hg7 Hg8 Hg9 Hg10 Hg11 Hg12 Hg13]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    isplitl [Hg6]
    · iexact Hg6
    isplitl [Hg7]
    · iexact Hg7
    isplitl [Hg8]
    · iexact Hg8
    isplitl [Hg9]
    · iexact Hg9
    isplitl [Hg10]
    · iexact Hg10
    isplitl [Hg11]
    · iexact Hg11
    isplitl [Hg12]
    · iexact Hg12
    iexact Hg13
  isplitl [Hp0]
  · iexact Hp0
  isplitl [Hp1]
  · iexact Hp1
  isplitl [Hp2]
  · iexact Hp2
  isplitl [Hp3]
  · iexact Hp3
  isplitl [Hp4]
  · iexact Hp4
  isplitl [Hp5]
  · iexact Hp5
  iexact Hp6

set_option maxHeartbeats 800000 in
/-- The fourteen copies with the sums: the block goes from `A0` to `A6`. -/
theorem sums_spec (K : GSem nD τ sig → ℕ) (c : Dev nD) (v19 v37 v39 v655 c8 : BitVec 32) (Q : PUnit → sProp 𝕄) :
    iprop(allInvs A0 K ∗ all14 (ready (F := F) c) ∗ (∃ fs, pt (F := F) c cc0_scratch1 fs) ∗ pt c cc0_stg3_0 (A0 c) ∗ ow c 7)
      ⊢ iprop((iprop(all14 (over A0 c) ∗ (∃ fs, pt (F := F) c cc0_scratch1 fs) ∗ pt c cc0_stg3_0 (A6 A0 c) ∗ ow c 21) -∗ wp frame (wpE (defs₀ (F := F)) 𝒱₀ (c : Thread nD τ) none) Set.univ (s9.tail (F := F) c) Q)
        -∗ wp frame (wpE (defs₀ (F := F)) 𝒱₀ (c : Thread nD τ) none) Set.univ (s3.tail (F := F) c v19 v37 v39 v655 c8) Q) := by
  unfold all14
  iintro ⟨#HI, ⟨Hk0, Hk1, Hk2, Hk3, Hk4, Hk5, Hk6, Hk7, Hk8, Hk9, Hk10, Hk11, Hk12, Hk13⟩, Hst, Hw3, HO⟩ HQ
  rw [s4.eq]
  iapply (s4_spec A0 K c _ _ _ _ _ _ _ Q) $$ [Hk0 Hst Hw3 HO]
  · isplitr; · iexact HI
    isplitl [Hk0]; · iexact Hk0
    isplitl [Hst]; · iexact Hst
    isplitl [Hw3]; · iexact Hw3
    iexact HO
  iintro %a1 %a2 %a3 %a4 %a5 %a6 %a7 %a8 %a9 ⟨Ho0, Hst, Hw3, HO⟩
  rw [s5.eq]
  iapply (s5_spec A0 K c _ _ _ _ _ _ _ _ _ _ _ _ _ _ Q) $$ [Hk1 Hk2 Hk3 Hst Hw3 HO]
  · isplitr; · iexact HI
    isplitl [Hk1 Hk2 Hk3]
    · isplitl [Hk1]
      · iexact Hk1
      isplitl [Hk2]
      · iexact Hk2
      iexact Hk3
    isplitl [Hst]; · iexact Hst
    isplitl [Hw3]; · iexact Hw3
    iexact HO
  iintro %b5_0 %b5_1 %b5_2 %b5_3 %b5_4 %b5_5 %b5_6 %b5_7 %b5_8 ⟨⟨Ho1, Ho2, Ho3⟩, Hst, Hw3, HO⟩
  rw [s6.eq]
  iapply (s6_spec A0 K c _ _ _ _ _ _ _ _ _ _ _ _ _ _ Q) $$ [Hk4 Hk5 Hk6 Hst Hw3 HO]
  · isplitr; · iexact HI
    isplitl [Hk4 Hk5 Hk6]
    · isplitl [Hk4]
      · iexact Hk4
      isplitl [Hk5]
      · iexact Hk5
      iexact Hk6
    isplitl [Hst]; · iexact Hst
    isplitl [Hw3]; · iexact Hw3
    iexact HO
  iintro %b6_0 ⟨⟨Ho4, Ho5, Ho6⟩, Hst, Hw3, HO⟩
  rw [s7.eq]
  iapply (s7_spec A0 K c _ _ _ _ _ _ _ Q) $$ [Hk7 Hk8 Hk9 Hst Hw3 HO]
  · isplitr; · iexact HI
    isplitl [Hk7 Hk8 Hk9]
    · isplitl [Hk7]
      · iexact Hk7
      isplitl [Hk8]
      · iexact Hk8
      iexact Hk9
    isplitl [Hst]; · iexact Hst
    isplitl [Hw3]; · iexact Hw3
    iexact HO
  iintro ⟨⟨Ho7, Ho8, Ho9⟩, Hst, Hw3, HO⟩
  rw [s8.eq]
  iapply (s8_spec A0 K c _ _ _ _ _ _ Q) $$ [Hk10 Hk11 Hk12 Hst Hw3 HO]
  · isplitr; · iexact HI
    isplitl [Hk10 Hk11 Hk12]
    · isplitl [Hk10]
      · iexact Hk10
      isplitl [Hk11]
      · iexact Hk11
      iexact Hk12
    isplitl [Hst]; · iexact Hst
    isplitl [Hw3]; · iexact Hw3
    iexact HO
  iintro ⟨⟨Ho10, Ho11, Ho12⟩, Hst, Hw3, HO⟩
  rw [s9.eq]
  iapply (s9_spec A0 K c _ _ Q) $$ [Hk13 Hst Hw3 HO]
  · isplitr; · iexact HI
    isplitl [Hk13]; · iexact Hk13
    isplitl [Hst]; · iexact Hst
    isplitl [Hw3]; · iexact Hw3
    iexact HO
  iintro ⟨Ho13, Hst, Hw3, HO⟩
  iapply HQ
  isplitr [Hst Hw3 HO]
  · isplitl [Ho0]
    · iexact Ho0
    isplitl [Ho1]
    · iexact Ho1
    isplitl [Ho2]
    · iexact Ho2
    isplitl [Ho3]
    · iexact Ho3
    isplitl [Ho4]
    · iexact Ho4
    isplitl [Ho5]
    · iexact Ho5
    isplitl [Ho6]
    · iexact Ho6
    isplitl [Ho7]
    · iexact Ho7
    isplitl [Ho8]
    · iexact Ho8
    isplitl [Ho9]
    · iexact Ho9
    isplitl [Ho10]
    · iexact Ho10
    isplitl [Ho11]
    · iexact Ho11
    isplitl [Ho12]
    · iexact Ho12
    iexact Ho13
  isplitl [Hst]; · iexact Hst
  isplitl [Hw3]; · iexact Hw3
  iexact HO

/-- The second barrier. -/
theorem last_spec (K : GSem nD τ sig → ℕ) (c : Dev nD) (Q : PUnit → sProp 𝕄) :
    iprop(allInvs A0 K ∗ all7 (finKit (F := F) c) ∗ waitKit c (.reg finS) 7 ∗ ow c 21)
      ⊢ iprop((iprop(ow c 28 ∗ done (F := F) c (.reg finS)) -∗ Q ⟨⟩) -∗ wp frame (wpE (defs₀ (F := F)) 𝒱₀ (c : Thread nD τ) none) Set.univ (s9.tail (F := F) c) Q) := by
  unfold all7
  iintro H HQ
  rw [s10.eq]
  iapply (s10_spec A0 K c _ _ Q) $$ H
  iintro H
  rw [show (s10.tail (F := F)) = .ret ⟨⟩ from rfl, wp_ret]
  imodintro
  iapply HQ
  iexact H

end Cert.KernelIdeal.Body

end
-- ==== Proof.Attention.lean ====
module

public import proofs.«01_k».proof.Proof.Heads
public import Idealize.ShloMosaic.Lib.VecWindow

/-!
The second stretch of the body: the attention of the device's four heads, for both batch entries, and the product with the
device's rows of `Wo`, whose result is what the device has to add to the others'.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

theorem head_inb (b : Fin 2) (h : Fin 4) : ∀ a, (![b.val, 0, 64 * h.val] : Fin 3 → ℕ) a + S1x256x64.size a ≤ S2x256x256.size a := by
  revert b h; decide +kernel

theorem query_slices (b : Fin 2) (h : Fin 4) : S512x256.Slices ![256 * b.val, 64 * h.val] S256x64 := by revert b h; decide +kernel

/-- One head of one batch entry: of the keys or the values in a local buffer, and of the queries. -/
def headSlice (f : HeadsC F) (b : Fin 2) (h : Fin 4) : Vec F S1x256x64 .bf16 :=
  View.readAt (Elt F) (Memref.whole cc0_scratch3).view (Rect.unit (s := S2x256x256) ![b.val, 0, 64 * h.val] S1x256x64.size (head_inb b h)).toLoadRect f
def querySlice (q : FVec F S512x256 .f32) (b : Fin 2) (h : Fin 4) : FVec F S256x64 .f32 :=
  extractStridedSlice S256x64 ![256 * b.val, 64 * h.val] q (query_slices b h)

/-- The attention of one head of one batch entry. -/
def headOut (q : FVec F S512x256 .f32) (mk : IVec S256x256 1) (fk fv : HeadsC F) (b : Fin 2) (h : Fin 4) : FVec F S256x64 .f32 :=
  k0_pay62 mk (querySlice q b h) (headSlice fk b h) (headSlice fv b h)

/-- The four heads of one batch entry, side by side. -/
def batchOut (q : FVec F S512x256 .f32) (mk : IVec S256x256 1) (fk fv : HeadsC F) (b : Fin 2) : FVec F S256x256 .f32 :=
  concatenate S256x256 1 [⟨S256x64, headOut q mk fk fv b 0⟩, ⟨S256x64, headOut q mk fk fv b 1⟩, ⟨S256x64, headOut q mk fk fv b 2⟩, ⟨S256x64, headOut q mk fk fv b 3⟩]
    concatenates_S256x64_S256x64_S256x64_S256x64_S256x256_d1

/-- Both batch entries times the device's rows of `Wo`. -/
def attnOut (q : FVec F S512x256 .f32) (mk : IVec S256x256 1) (fk fv : HeadsC F) (fo : (cc0_stg2_0 : Ref sig .tc).ty.Contents (Elt F)) : OutC F :=
  matmul dot_S512x256_S256x512_S512x512_1_0_0_1_n_n none
    (truncf .bf16 (concatenate S512x256 0 [⟨S256x256, batchOut q mk fk fv 0⟩, ⟨S256x256, batchOut q mk fk fv 1⟩] concatenates_S256x256_S256x256_S512x256_d0) bitsLt_bf16_f32)
    (truncf .bf16 (shapeCast S256x512 (View.readAt (Elt F) (Memref.whole cc0_stg2_0).view (Rect.unit (s := S256x512) ![0, 0] S256x512.size inb_S256x512_S256x512_0_0).toLoadRect fo)
      shapeCasts_S256x512_S256x512) bitsLt_bf16_f32)
    (constant S512x512 .f32 0x00000000#32)

/-- A rectangle that is the whole buffer keeps the indices. -/
theorem out_emb (y : S512x512.Idx) : (Rect.unit (s := S512x512) ![0, 0] S512x512.size inb_S512x512_S512x512_0_0).emb y = y := by
  funext a
  apply Fin.ext
  revert a
  rw [Fin.forall_fin_two]
  exact ⟨(Nat.zero_add _).trans (Nat.one_mul _), (Nat.zero_add _).trans (Nat.one_mul _)⟩

/-- The result's buffer, stored whole. -/
theorem out_stored {f : OutC F} {L : List (View.Piece (Elt F) (cc0_stg3_0 : Ref sig .tc).ty.shape (cc0_stg3_0 : Ref sig .tc).ty.elt)} (G : OutC F)
    (hL : View.Piece.tiledL L S512x512.size = true) (h : ∀ p ∈ L, ∀ x : p.1.shape.Idx, p.2 x = G (p.1.emb x)) :
    (Memref.whole cc0_stg3_0).view.writes (Elt F) f L = G :=
  funext fun y => View.read_writes_apply_of_pieces (f := f) (v := (Memref.whole cc0_stg3_0).view) G L h y (View.cover_of_tiledL L _ hL y)

set_option maxHeartbeats 4000000 in
/-- The second stretch: it leaves the device's partial result in the result's buffer. -/
theorem s2_spec (c : Dev nD) (v39 : BitVec 32) (q : FVec F S512x256 .f32) (mk : IVec S256x256 1) (fk fv : HeadsC F)
    (fo : (cc0_stg2_0 : Ref sig .tc).ty.Contents (Elt F)) (R : Type) (κ) (Q : R → sProp 𝕄) :
    iprop(pt c cc0_scratch3 fk ∗ pt c cc0_scratch4 fv ∗ pt c cc0_stg2_0 fo ∗ (∃ f3, pt c cc0_stg3_0 f3))
    ⊢ iprop((∀ w w1, iprop(pt c cc0_scratch3 fk ∗ pt c cc0_scratch4 fv ∗ pt c cc0_stg2_0 fo ∗ pt c cc0_stg3_0 (attnOut q mk fk fv fo))
          -∗ wp frame (wpE (defs₀ (F := F)) 𝒱₀ (c : Thread nD τ) none) Set.univ (κ w w1) Q)
      -∗ wp frame (wpE (defs₀ (F := F)) 𝒱₀ (c : Thread nD τ) none) Set.univ (s2 v39 q mk κ) Q) := by
  iintro ⟨Hk, Hv, Ho, ⟨%f3, H3⟩⟩ Hκ
  unfold s2
  sl_exec
  rw [out_stored (f := f3) (attnOut q mk fk fv fo) ?ht ?h]
  case ht => sl_kernel_rfl
  case h =>
    refine List.forall_mem_cons.2 ⟨fun x => ?_, fun _ h => absurd h List.not_mem_nil⟩
    exact congrArg (attnOut q mk fk fv fo) (out_emb x).symm
  iapply Hκ $$ [Hk Hv Ho H3]
  isplitl [Hk]; · iexact Hk
  isplitl [Hv]; · iexact Hv
  isplitl [Ho]; · iexact Ho
  iexact H3

end Cert.KernelIdeal.Body

end
-- ==== Proof.Whole.lean ====
module

public import proofs.«01_k».proof.Proof.Talk
public import proofs.«01_k».proof.Proof.Attention

/-!
The whole body of the kernel on a device: what it needs of the protocol, and what it leaves.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

variable (A0 : Dev nD → OutC F)

theorem all7_sep (Φ Ψ : Fin 7 → sProp 𝕄) : (all7 fun q => iprop(Φ q ∗ Ψ q)) = iprop(all7 Φ ∗ all7 Ψ) := by
  rw [← bigSep7, ← bigSep7, ← bigSep7]; exact bigSep_sep' _ _ _
theorem all14_sep (Φ Ψ : Fin 14 → sProp 𝕄) : (all14 fun q => iprop(Φ q ∗ Ψ q)) = iprop(all14 Φ ∗ all14 Ψ) := by
  rw [← bigSep14, ← bigSep14, ← bigSep14]; exact bigSep_sep' _ _ _

/-- The scratch buffers, at any contents. -/
def scratch (c : Dev nD) : sProp 𝕄 :=
  iprop((∃ f, pt (F := F) c cc0_scratch0 f) ∗ (∃ f, pt (F := F) c cc0_scratch1 f) ∗ (∃ f, pt (F := F) c cc0_scratch2 f)
    ∗ (∃ f, pt (F := F) c cc0_scratch3 f) ∗ (∃ f, pt (F := F) c cc0_scratch4 f))

/-- The semaphores of the local copies, at zero. -/
def kvSems (c : Dev nD) : sProp 𝕄 :=
  iprop(semVal ((c : Thread nD τ), .dma kvS0) 0 ∗ semVal ((c : Thread nD τ), .dma kvS1) 0)

/-- The heads of the device and its block of the product, at the end of the first two stretches. -/
theorem heads_spec (c : Dev nD) (f0 : (cc0_stg0_0 : Ref sig .tc).ty.Contents (Elt F)) (f1 : (cc0_stg1_0 : Ref sig .tc).ty.Contents (Elt F))
    (fo : (cc0_stg2_0 : Ref sig .tc).ty.Contents (Elt F)) (g1 g2 : KvC F) (Q : PUnit → sProp 𝕄) :
    iprop(levAts L lv ∗ (pt c cc0_stg0_0 f0 ∗ pt c cc0_stg1_0 f1 ∗ pt c cc0_stg2_0 fo ∗ ∃ f, pt c cc0_stg3_0 f) ∗ (pt c main_v1 g1 ∗ pt c main_v2 g2)
      ∗ ((∃ f, pt (F := F) c cc0_scratch2 f) ∗ (∃ f, pt (F := F) c cc0_scratch3 f) ∗ (∃ f, pt (F := F) c cc0_scratch4 f)) ∗ kvSems (F := F) c ∗ ow c 0)
    ⊢ iprop((∀ v19 v37 v39 v655 c8, iprop((pt c cc0_stg0_0 f0 ∗ pt c cc0_stg1_0 f1 ∗ pt c cc0_stg2_0 fo
          ∗ pt c cc0_stg3_0 (attnOut (qOf f0 f1) maskW (localOf c g1) (localOf c g2) fo)) ∗ (pt c main_v1 g1 ∗ pt c main_v2 g2)
        ∗ ((∃ f, pt (F := F) c cc0_scratch2 f) ∗ (∃ f, pt (F := F) c cc0_scratch3 f) ∗ (∃ f, pt (F := F) c cc0_scratch4 f)) ∗ kvSems (F := F) c ∗ ow c 0)
        -∗ wp frame (wpE (defs₀ (F := F)) 𝒱₀ (c : Thread nD τ) none) Set.univ (s2.tail (F := F) c v19 v37 v39 v655 c8) Q)
      -∗ wp frame (wpE (defs₀ (F := F)) 𝒱₀ (c : Thread nD τ) none) Set.univ (body0 (F := F)) Q) := by
  unfold kvSems
  iintro ⟨Hlev, ⟨Hw0, Hw1, Hw2, Hw3⟩, ⟨Hg1, Hg2⟩, ⟨Hkv, Hk, Hv⟩, ⟨Hs0, Hs1⟩, HO⟩ HQ
  rw [flat.eq, s1.eq]
  ihave Hkv := (halves c) $$ Hkv
  icases Hkv with ⟨Hkv0, Hkv1⟩
  iapply (s1_spec c f0 f1 g1 g2 _ _ Q) $$ [Hlev Hw0 Hw1 Hg1 Hg2 Hkv0 Hkv1 Hk Hv Hs0 Hs1 HO]
  · isplitl [Hlev]; · iexact Hlev
    isplitl [Hw0]; · iexact Hw0
    isplitl [Hw1]; · iexact Hw1
    isplitl [Hg1]; · iexact Hg1
    isplitl [Hg2]; · iexact Hg2
    isplitl [Hkv0]; · iexact Hkv0
    isplitl [Hkv1]; · iexact Hkv1
    isplitl [Hk]; · iexact Hk
    isplitl [Hv]; · iexact Hv
    isplitl [Hs0]; · iexact Hs0
    isplitl [Hs1]; · iexact Hs1
    iexact HO
  iintro %v19 %v37 %v39 ⟨Hw0, Hw1, Hg1, Hg2, Hkv0, Hkv1, Hk, Hv, Hs0, Hs1, HO⟩
  ihave Hkv := (halves_join (F := F) c) $$ [Hkv0 Hkv1]
  · isplitl [Hkv0]; · iexact Hkv0
    iexact Hkv1
  rw [s2.eq]
  iapply (s2_spec c _ _ _ _ _ fo _ _ Q) $$ [Hk Hv Hw2 Hw3]
  · isplitl [Hk]; · iexact Hk
    isplitl [Hv]; · iexact Hv
    isplitl [Hw2]; · iexact Hw2
    iexact Hw3
  iintro %v655 %c8 ⟨Hk, Hv, Hw2, Hw3⟩
  iapply HQ
  isplitl [Hw0 Hw1 Hw2 Hw3]
  · isplitl [Hw0]; · iexact Hw0
    isplitl [Hw1]; · iexact Hw1
    isplitl [Hw2]; · iexact Hw2
    iexact Hw3
  isplitl [Hg1 Hg2]
  · isplitl [Hg1]; · iexact Hg1
    iexact Hg2
  isplitl [Hkv Hk Hv]
  · isplitl [Hkv]; · iexact Hkv
    isplitl [Hk]; · iexists _; iexact Hk
    iexists _; iexact Hv
  isplitl [Hs0 Hs1]
  · isplitl [Hs0]; · iexact Hs0
    iexact Hs1
  iexact HO

/-- The body, run on device `c`: it ends, with the result `A6` in its block and every round over. -/
theorem body_spec (K : GSem nD τ sig → ℕ) (c : Dev nD) (f0 : (cc0_stg0_0 : Ref sig .tc).ty.Contents (Elt F)) (f1 : (cc0_stg1_0 : Ref sig .tc).ty.Contents (Elt F))
    (fo : (cc0_stg2_0 : Ref sig .tc).ty.Contents (Elt F)) (g1 g2 : KvC F)
    (hA : attnOut (qOf f0 f1) maskW (localOf c g1) (localOf c g2) fo = A0 c) (Q : PUnit → sProp 𝕄) :
    iprop(allInvs A0 K ∗ opened c ∗ scratch c ∗ kvSems (F := F) c ∗ (pt c cc0_stg0_0 f0 ∗ pt c cc0_stg1_0 f1 ∗ pt c cc0_stg2_0 fo ∗ ∃ f, pt c cc0_stg3_0 f)
      ∗ (pt c main_v1 g1 ∗ pt c main_v2 g2) ∗ ow c 0)
    ⊢ iprop((iprop(finished c ∗ scratch c ∗ kvSems (F := F) c ∗ (pt c cc0_stg0_0 f0 ∗ pt c cc0_stg1_0 f1 ∗ pt c cc0_stg2_0 fo ∗ pt c cc0_stg3_0 (A6 A0 c))
          ∗ (pt c main_v1 g1 ∗ pt c main_v2 g2) ∗ ow c 28) -∗ Q ⟨⟩)
      -∗ wp frame (wpE (defs₀ (F := F)) 𝒱₀ (c : Thread nD τ) none) Set.univ (body0 (F := F)) Q) := by
  unfold opened scratch
  iintro ⟨#HI, ⟨Hb, Hf, Hwb, Hwf, #Hfr, Hk, Hr⟩, ⟨Hc, Hst, Hkv⟩, Hs, Hw, Hg, HO⟩ HQ
  ihave Hi := (Entails.of_eq (show allInvs A0 K = iprop((bigSep (barCells ∪ scCells) fun g => cellInv (ET (F := F)) (Rd A0) (K g) g) ∗ levAts L lv) from rfl)) $$ HI
  icases Hi with ⟨-, #Hlev⟩
  iapply (heads_spec c f0 f1 fo g1 g2 Q) $$ [Hw Hg Hkv Hs HO]
  · isplitr; · iexact Hlev
    isplitl [Hw]; · iexact Hw
    isplitl [Hg]; · iexact Hg
    isplitl [Hkv]; · iexact Hkv
    isplitl [Hs]; · iexact Hs
    iexact HO
  rw [hA]
  iintro %v19 %v37 %v39 %v655 %c8 ⟨⟨Hw0, Hw1, Hw2, Hw3⟩, Hg, Hkv, Hs, HO⟩
  rw [s3.eq]
  ihave Hc := (slots_gifts (F := F) c) $$ [Hc Hr]
  · unfold slots
    isplitl [Hc]; · iexact Hc
    iexact Hr
  iapply (first_spec A0 K c _ _ Q) $$ [Hb Hwb Hc HO]
  · isplitr; · iexact HI
    isplitl [Hb]; · iexact Hb
    isplitl [Hwb]; · iexact Hwb
    isplitr; · iexact Hfr
    isplitl [Hc]; · iexact Hc
    iexact HO
  iintro ⟨HO, Hdb, Hc, Hp⟩
  ihave Hk := (Entails.of_eq (all14_sep (kit (F := F) c) (fun k => gift (F := F) (dst k c) k)).symm) $$ [Hk Hc]
  · isplitl [Hk]; · iexact Hk
    iexact Hc
  iapply (sums_spec A0 K c _ _ _ _ _ Q) $$ [Hk Hst Hw3 HO]
  · isplitr; · iexact HI
    isplitl [Hk]; · iexact Hk
    isplitl [Hst]; · iexact Hst
    isplitl [Hw3]; · iexact Hw3
    iexact HO
  iintro ⟨Ho, Hst, Hw3, HO⟩
  ihave Hf := (Entails.of_eq (all7_sep (fun q => dutyTok (ET (F := F)) (finCell (partner q c)) 0 (inv q)) (fun q => reached (ET (F := F)) (finCell (partner q c)) 0)).symm) $$ [Hf Hp]
  · isplitl [Hf]; · iexact Hf
    iexact Hp
  iapply (last_spec A0 K c Q) $$ [Hf Hwf HO]
  · isplitr; · iexact HI
    isplitl [Hf]; · iexact Hf
    isplitl [Hwf]; · iexact Hwf
    iexact HO
  iintro ⟨HO, Hdf⟩
  ihave Ho := (Entails.of_eq (show all14 (over A0 c) = _ from all14_sep (fun k => iprop(done (F := F) c (.dma (sendS k)) ∗ done (F := F) c (.dma (recvS k)))) (fun k => commPts c k (Cm A0 c)))) $$ Ho
  icases Ho with ⟨Hd, Hc⟩
  iapply HQ
  isplitl [Hdb Hdf Hd]
  · unfold finished
    isplitl [Hdb]; · iexact Hdb
    isplitl [Hdf]; · iexact Hdf
    iexact Hd
  isplitl [Hc Hst Hkv]
  · isplitl [Hc]
    · iexists (Cm A0 c)
      iapply (Entails.of_eq ((comm_slots c (Cm A0 c)).trans (bigSep14 _)).symm)
      iexact Hc
    isplitl [Hst]; · iexact Hst
    iexact Hkv
  isplitl [Hs]; · iexact Hs
  isplitl [Hw0 Hw1 Hw2 Hw3]
  · isplitl [Hw0]; · iexact Hw0
    isplitl [Hw1]; · iexact Hw1
    isplitl [Hw2]; · iexact Hw2
    iexact Hw3
  isplitl [Hg]; · iexact Hg
  iexact HO

end Cert.KernelIdeal.Body

end
-- ==== Proof.Ghost.lean ====
module

public import proofs.«01_k».proof.Proof.Whole
public import Idealize.ShloMosaic.Lib.Pipeline.RegionTalk
public import Idealize.ShloMosaic.Harness.Basic

/-!
What a device holds of the protocol: what it enters the kernel's region with, how its semaphores start their
first rounds there, and how they end at zero.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

variable (A0 : Dev nD → OutC F)

/-! ## The semaphores of the kernel's region -/

/-- The copies' semaphores and the second barrier's: first the fourteen of the sends, then those of the receives, then the barrier's. -/
def scIdx : Fin 14 ⊕ (Fin 14 ⊕ Unit) ≃ Fin 29 :=
  Equiv.ofBijective (Sum.elim (fun k => ⟨k.val, by omega⟩) (Sum.elim (fun k => ⟨14 + k.val, by omega⟩) (fun _ => 28))) (by decide +kernel)

/-- An assertion for each of them is one for each copy's two and one for the barrier's. -/
theorem sc_split (Φ : SemLoc sig → sProp 𝕄) :
    bigSep Finset.univ (fun x : Fin 29 => Φ (scSem x))
      = iprop(all14 (fun k => Φ (.dma (sendS k))) ∗ all14 (fun k => Φ (.dma (recvS k))) ∗ Φ (.reg finS)) := by
  rw [bigSep_univ_equiv scIdx, bigSep_univ_sum, bigSep_univ_sum, ← bigSep14, ← bigSep14]
  have h1 : (bigSep Finset.univ fun k : Fin 14 => Φ (scSem (scIdx (.inl k)))) = bigSep Finset.univ fun k => Φ (.dma (sendS k)) :=
    bigSep_congr fun k _ => congrArg Φ (scSem_send k)
  have h2 : (bigSep Finset.univ fun k : Fin 14 => Φ (scSem (scIdx (.inr (.inl k))))) = bigSep Finset.univ fun k => Φ (.dma (recvS k)) :=
    bigSep_congr fun k _ => congrArg Φ (scSem_recv k)
  have h3 : (bigSep Finset.univ fun k : Unit => Φ (scSem (scIdx (.inr (.inr k))))) = Φ (.reg finS) := by
    rw [show (Finset.univ : Finset Unit) = {()} from rfl, bigSep_singleton]; rfl
  rw [h1, h2, h3]
  rfl

/-- The region's own semaphores: those, and the two that the loads of the heads use. -/
def osem : Fin 29 ⊕ Fin 2 → SemLoc sig := Sum.elim scSem (fun k => if k = 0 then .dma kvS0 else .dma kvS1)

theorem osem_facts : Pipeline.OwnSemFacts spec0 osem := by decide +kernel

theorem ownSems_split (c : Dev nD) : (Pipeline.ownSems0 osem c : sProp 𝕄)
    = iprop(bigSep Finset.univ (fun x : Fin 29 => semVal ((c : Thread nD τ), scSem x) 0) ∗ kvSems c) := by
  unfold Pipeline.ownSems0 kvSems
  rw [bigSep_univ_sum, bigSep_univ_two (fun k : Fin 2 => (semVal ((c.tc : Thread nD τ), osem (.inr k)) 0 : sProp 𝕄))]
  rfl

/-! ## A device's part of the protocol, before the kernel and after it -/

/-- The duties that device `c` discharges. -/
def tokens (c : Dev nD) : sProp 𝕄 :=
  iprop(bigSep Finset.univ (fun q : Fin 7 => dutyTok (ET (F := F)) (barCell (partner q c)) 0 (inv q))
    ∗ bigSep Finset.univ (fun q : Fin 7 => dutyTok (ET (F := F)) (finCell (partner q c)) 0 (inv q))
    ∗ bigSep Finset.univ (fun k : Fin 14 => dutyTok (ET (F := F)) (sendCell c k) 0 0)
    ∗ bigSep Finset.univ (fun k : Fin 14 => dutyTok (ET (F := F)) (recvCell (Body.dst k c) k) 0 0))

/-- What device `c` may wait for. -/
def credits (c : Dev nD) : sProp 𝕄 :=
  iprop(cred (tallyAt (barCell c) () 7) ∗ cred (tallyAt (finCell c) () 7)
    ∗ bigSep Finset.univ (fun k : Fin 14 => cred (tallyAt (recvCell c k) () (amt k))))

/-- Device `c`'s own part of the protocol: its place in its barrier's rounds, the right to start each semaphore of the region, its duties. -/
def linear (c : Dev nD) : sProp 𝕄 :=
  iprop(atPos (ET (F := F)) (barCell c) 0 ∅ 0 ∗ bigSep Finset.univ (fun x : Fin 29 => openTok (ET (F := F)) ((c : Thread nD τ), scSem x))
    ∗ tokens c)

/-- Everything of the protocol that device `c` has before the kernel starts. -/
def start (c : Dev nD) : sProp 𝕄 :=
  iprop((∃ K, allInvs A0 K ∗ bigSep Finset.univ (fun q : Fin 7 => reached (ET (F := F)) (barCell (partner q c)) 0) ∗ linear c) ∗ credits c)

/-- Every semaphore of the region starts its first round. -/
theorem open_all (K : GSem nD τ sig → ℕ) (c : Dev nD) :
    iprop(allInvs A0 K ∗ bigSep Finset.univ (fun x : Fin 29 => openTok (ET (F := F)) ((c : Thread nD τ), scSem x))
        ∗ bigSep Finset.univ (fun x : Fin 29 => semVal ((c : Thread nD τ), scSem x) 0))
      ⊢ (|={Set.univ}=> (bigSep Finset.univ (fun x : Fin 29 => atPos (ET (F := F)) ((c : Thread nD τ), scSem x) 0 ∅ 0)
        ∗ bigSep Finset.univ (fun x : Fin 29 => reached (ET (F := F)) ((c : Thread nD τ), scSem x) 0)) : sProp 𝕄) := by
  iintro ⟨#HI, Ho, Hv⟩
  ihave H := (Entails.of_eq (bigSep_sep' Finset.univ (fun x : Fin 29 => openTok (ET (F := F)) ((c : Thread nD τ), scSem x))
    (fun x : Fin 29 => semVal ((c : Thread nD τ), scSem x) 0)).symm) $$ [Ho Hv]
  · isplitl [Ho] <;> iassumption
  rw [← bigSep_sep']
  iapply (bigSep_fupd (Finset.univ : Finset (Fin 29)) _)
  iapply (bigSep_with_persistent (R := allInvs A0 K)
    (Φ := fun x : Fin 29 => iprop(openTok (ET (F := F)) ((c : Thread nD τ), scSem x) ∗ semVal ((c : Thread nD τ), scSem x) 0)) fun x _ => by
      iintro ⟨#HI, Ho, Hv⟩
      iapply (Rounds.cell_open ET (Rd A0) (κ := K ((c : Thread nD τ), scSem x)) (g := ((c : Thread nD τ), scSem x)) (Set.mem_univ _))
      isplitr; · iapply (allInvs_cell A0 K c (scSem x) (sc_mem c x)); iexact HI
      isplitl [Ho] <;> iassumption)
  isplitr; · iexact HI
  iexact H

/-- Entering the kernel's region. -/
theorem opening (c : Dev nD) :
    iprop(start A0 c ∗ Pipeline.ownSems0 osem c ∗ levAts L lv) ⊢ (|={Set.univ}=> ((∃ K, allInvs A0 K) ∗ opened c ∗ kvSems c) : sProp 𝕄) := by
  unfold start linear credits tokens
  rw [ownSems_split]
  iintro ⟨⟨⟨%K, #HI, #Hrb, Hat, Ho, Ht1, Ht2, Ht3, Ht4⟩, Hc1, Hc2, Hc3⟩, ⟨Hs, Hkv⟩, -⟩
  imod (open_all A0 K c) $$ [Ho Hs] with ⟨Ha, #Hr⟩
  · isplitr; · iexact HI
    isplitl [Ho] <;> iassumption
  ihave Ha := (Entails.of_eq (sc_split (fun sm => atPos (ET (F := F)) ((c : Thread nD τ), sm) 0 ∅ 0))) $$ Ha
  icases Ha with ⟨Ha1, Ha2, Ha3⟩
  ihave Hr' := (Entails.of_eq (sc_split (fun sm => reached (ET (F := F)) ((c : Thread nD τ), sm) 0))) $$ Hr
  icases Hr' with ⟨#Hr1, #Hr2, #Hr3⟩
  imodintro
  isplitr; · iexists K; iexact HI
  isplitr [Hkv]
  · unfold opened kit sendKit waitKit
    rw [all7_sep, all14_sep, all14_sep, all14_sep, all14_sep, all14_sep]
    simp only [← bigSep7]
    rw [← bigSep14 (fun k => dutyTok (ET (F := F)) (sendCell c k) 0 0), ← bigSep14 (fun k => dutyTok (ET (F := F)) (recvCell (Body.dst k c) k) 0 0),
      ← bigSep14 (fun k => cred (tallyAt (recvCell c k) () (amt k)))]
    isplitl [Ht1]
    · isplitl [Ht1]; · iexact Ht1
      iexact Hrb
    isplitl [Ht2]; · iexact Ht2
    isplitl [Hc1 Hat]; · isplitl [Hc1] <;> iassumption
    isplitl [Hc2 Ha3]; · isplitl [Hc2] <;> iassumption
    isplitr; · iexact Hr3
    isplitl [Ht3 Ht4 Ha1 Ha2 Hc3]
    · isplitl [Ht3 Ht4]
      · isplitl [Ht3]; · iexact Ht3
        isplitr; · iexact Hr1
        iexact Ht4
      isplitl [Ha1]; · iexact Ha1
      isplitl [Hc3] <;> iassumption
    iexact Hr2
  iexact Hkv

/-- A semaphore whose round is over is at zero. -/
theorem close_one (K : GSem nD τ sig → ℕ) (c : Dev nD) (sm : SemLoc sig) (h : ((c : Thread nD τ), sm) ∈ barCells ∪ scCells) :
    iprop(allInvs A0 K ∗ done c sm) ⊢ (|={Set.univ}=> semVal ((c : Thread nD τ), sm) 0 : sProp 𝕄) := by
  unfold done
  iintro ⟨#HI, H⟩
  iapply (Rounds.cell_close ET (Rd A0) (κ := K ((c : Thread nD τ), sm)) (g := ((c : Thread nD τ), sm)) (Set.mem_univ _) id
    (R := 1) (duties_later A0 _))
  isplitr; · iapply (allInvs_cell A0 K c sm h); iexact HI
  iexact H

/-- Leaving it: every semaphore is at zero. -/
theorem closing (K : GSem nD τ sig → ℕ) (c : Dev nD) :
    iprop(allInvs A0 K ∗ finished c ∗ kvSems c) ⊢ (|={Set.univ}=> (semVal (barCell c) 0 ∗ Pipeline.ownSems0 osem c) : sProp 𝕄) := by
  unfold finished
  rw [ownSems_split, all14_sep]
  iintro ⟨#HI, ⟨Hb, Hf, Hs, Hr⟩, Hkv⟩
  ihave H := (Entails.of_eq (sc_split (fun sm => done (F := F) c sm)).symm) $$ [Hf Hs Hr]
  · isplitl [Hs]; · iexact Hs
    isplitl [Hr] <;> iassumption
  imod (close_one A0 K c (.reg barrier0) (bar_mem c)) $$ [Hb] with Hb
  · isplitr; · iexact HI
    iexact Hb
  ihave H := (bigSep_with_persistent (R := allInvs A0 K) (Φ := fun x : Fin 29 => done (F := F) c (scSem x))
    fun x _ => close_one A0 K c (scSem x) (sc_mem c x)) $$ [H]
  · isplitr; · iexact HI
    iexact H
  imod (bigSep_fupd (Finset.univ : Finset (Fin 29)) _) $$ [H] with H
  · iexact H
  imodintro
  isplitl [Hb]; · iexact Hb
  isplitl [H] <;> iassumption

end Cert.KernelIdeal.Body

end
-- ==== Proof.Data.lean ====
module

public import proofs.«01_k».proof.Proof.Ghost
public import proofs.«01_k».proof.Proof.Gen.KernelIdeal.Frame
public import proofs.«01_k».proof.Proof.Gen.KernelIdeal.Points

/-!
The pipeline's proof data on a device, and the body at its one point.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The three blocks that the pipeline brings in, at the types of their buffers. -/
def xIn (c : Dev nD) : (cc0_stg0_0 : Ref sig .tc).ty.Contents (Elt F) := iblk m c 0 t0_0
def wqIn (c : Dev nD) : (cc0_stg1_0 : Ref sig .tc).ty.Contents (Elt F) := iblk m c 1 t0_0
def woIn (c : Dev nD) : (cc0_stg2_0 : Ref sig .tc).ty.Contents (Elt F) := iblk m c 2 t0_0

/-- The product of device `c`'s heads with its rows of the output projection: its part of the result's sum. -/
def partials (c : Dev nD) : OutC F :=
  attnOut (qOf (xIn m c) (wqIn m c)) maskW (localOf c (V m c main_v1)) (localOf c (V m c main_v2)) (woIn m c)

/-- What the kernel's body addresses beside its windows: its scratch buffers, the keys and values, the generator's register. -/
def around (c : Dev nD) : sProp 𝕄 :=
  iprop(scratch c ∗ (pt c main_v1 (V m c main_v1) ∗ pt c main_v2 (V m c main_v2)) ∗ ∃ r, prngReg c r)

/-- The body's invariant before it: the protocol is open. And after it: every semaphore is at zero. -/
def invBefore (c : Dev nD) : sProp 𝕄 := iprop((∃ K, allInvs (partials m) K) ∗ opened c ∗ kvSems c ∗ around m c)
def invAfter (c : Dev nD) : sProp 𝕄 := iprop((semVal (barCell c) 0 ∗ Pipeline.ownSems0 osem c) ∗ around m c)

/-- The pipeline of the one call, on device `c`: before its point the protocol is open and all payments are owed; after it every
semaphore is at zero and the window of the result holds the sum over the devices. -/
def dat (c : Dev nD) : Dat τ (Elt F) Unit ℕ UU ℕ cfg0 c where
  A w := V m c (Pipeline.arrRef spec0 w)
  after w _ := match w with
    | ⟨0, _⟩ => xIn m c
    | ⟨1, _⟩ => wqIn m c
    | ⟨2, _⟩ => woIn m c
    | ⟨3, _⟩ => A6 (partials m) c
  Φ t := match t with
    | ⟨0, _⟩ => invBefore m c
    | ⟨_ + 1, _⟩ => invAfter m c
  q _ := fullShare
  owed t := match t with
    | ⟨0, _⟩ => owed c 0
    | ⟨_ + 1, _⟩ => 0

theorem owed_first (c : Dev nD) : (dat (F := F) m c).owed t0_0.castSucc = owed c 0 := rfl
theorem owed_end (c : Dev nD) : (dat (F := F) m c).owed t0_0.succ = 0 := rfl

/-- What a core owes, as the pipeline states it at a point, and back. -/
theorem owesAt_intro (c : Dev nD) (t : Fin (cfg0.N + 1)) (O : CellTallies nD τ sig Unit) (h : (dat (F := F) m c).owed t = O) (W : Waits sig Unit) :
    (owes (c : Thread nD τ) O W : sProp 𝕄) ⊢ (dat m c).owesAt () t := by
  unfold Dat.owesAt Pipeline.owesWithin Dat.bound; rw [h]
  iintro H; iexists W
  isplitr; · ipureintro; exact fun _ _ => Or.inl trivial
  iexact H
theorem owesAt_elim (c : Dev nD) (t : Fin (cfg0.N + 1)) (O : CellTallies nD τ sig Unit) (h : (dat (F := F) m c).owed t = O) :
    ((dat m c).owesAt () t : sProp 𝕄) ⊢ iprop(∃ W, owes (c : Thread nD τ) O W) := by
  unfold Dat.owesAt Pipeline.owesWithin; rw [h]
  iintro ⟨%W, -, H⟩; iexists W; iexact H

/-- The three blocks are in their buffers when the body starts. -/
theorem before_x (c : Dev nD) (d) : (dat m c).before 0 t0_0 d = xIn m c :=
  ((dat m c).before_in_eq_fetched 0 rfl (fun _ => rfl) (fun _ _ _ => rfl) (fun t => by obtain rfl := fin_N0 t; rfl) t0_0 d).trans rfl
theorem before_wq (c : Dev nD) (d) : (dat m c).before 1 t0_0 d = wqIn m c :=
  ((dat m c).before_in_eq_fetched 1 rfl (fun _ => rfl) (fun _ _ _ => rfl) (fun t => by obtain rfl := fin_N0 t; rfl) t0_0 d).trans rfl
theorem before_wo (c : Dev nD) (d) : (dat m c).before 2 t0_0 d = woIn m c :=
  ((dat m c).before_in_eq_fetched 2 rfl (fun _ => rfl) (fun _ _ _ => rfl) (fun t => by obtain rfl := fin_N0 t; rfl) t0_0 d).trans rfl

/-- Owning a whole buffer at given contents. -/
theorem owns_pt (c : Dev nD) (b : Ref sig .tc) (X : b.ty.Contents (Elt F)) :
    (owns (Ix := Unit) (Name := ℕ) (U := UU) (Lvl := ℕ) (c : Thread nD τ) (Memref.whole b) fullShare X : sProp 𝕄) = pt c b X := by
  unfold owns pt
  simp only [Memref.view_whole, View.read_whole, View.set_whole]
  refine BI.equiv_iff.mp ⟨?_, ?_⟩
  · show iprop(∃ f : b.ty.Contents (Elt F), ⌜f = X⌝ ∗ pt c b f) ⊢ (pt c b X : sProp 𝕄)
    iintro ⟨%f, %hf, H⟩; subst hf; iexact H
  · show pt c b X ⊢ (iprop(∃ f : b.ty.Contents (Elt F), ⌜f = X⌝ ∗ pt c b f) : sProp 𝕄)
    iintro H; iexists X; isplitr; · ipureintro; rfl
    iexact H

theorem inv_first (c : Dev nD) : (dat (F := F) m c).Φ t0_0.castSucc = invBefore m c := rfl
theorem inv_end (c : Dev nD) : (dat (F := F) m c).Φ t0_0.succ = invAfter m c := rfl

/-- The body that the pipeline calls, and the buffers that it calls it with. -/
theorem prog_eq : defs₀ (F := F) Proc.tc cfg0.body (cfg0.bodyArgs t0_0 (cfg0.slots t0_0)) = bodyAt0 (F := F) t0_0 := rfl
theorem stage_x : (cfg0.win 0).stage (cfg0.slots t0_0 0) = Memref.whole cc0_stg0_0 := rfl
theorem stage_wq : (cfg0.win 1).stage (cfg0.slots t0_0 1) = Memref.whole cc0_stg1_0 := rfl
theorem stage_wo : (cfg0.win 2).stage (cfg0.slots t0_0 2) = Memref.whole cc0_stg2_0 := rfl
theorem stage_out : (cfg0.win 3).stage (cfg0.slots t0_0 3) = Memref.whole cc0_stg3_0 := rfl

/-- The body depends on its windows' buffers only through which they are. -/
theorem body_of {a0 : Memref sig .tc .vmem S2x256x512 .f32} {a1 : Memref sig .tc .vmem S512x256 .f32} {a2 : Memref sig .tc .vmem S256x512 .f32}
    {a3 : Memref sig .tc .vmem S512x512 .f32} (h0 : a0.IsWhole) (h1 : a1.IsWhole) (h2 : a2.IsWhole) (h3 : a3.IsWhole)
    (e0 : a0 = Memref.whole cc0_stg0_0) (e1 : a1 = Memref.whole cc0_stg1_0) (e2 : a2 = Memref.whole cc0_stg2_0) (e3 : a3 = Memref.whole cc0_stg3_0) :
    cc0_body (F := F) a0 h0 a1 h1 (Memref.whole main_v1) (Memref.isWhole_whole _) (Memref.whole main_v2) (Memref.isWhole_whole _) a2 h2 a3 h3
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scoped0
      = body0 (F := F) := by
  subst e0 e1 e2 e3; rfl

theorem prog_eq' : bodyAt0 (F := F) t0_0 = body0 (F := F) := by
  refine body_of (a0 := win0_0.stage (cfg0.slots t0_0 0)) (a1 := win0_1.stage (cfg0.slots t0_0 1)) (a2 := win0_2.stage (cfg0.slots t0_0 2))
    (a3 := win0_3.stage (cfg0.slots t0_0 3)) _ _ _ _ ?_ ?_ ?_ ?_
  · exact stage_x
  · exact stage_wq
  · exact stage_wo
  · exact stage_out
/-- What the body leaves in them. -/
theorem after_x (c : Dev nD) : (dat m c).after 0 t0_0 = xIn m c := by dsimp only [dat]
theorem after_wq (c : Dev nD) : (dat m c).after 1 t0_0 = wqIn m c := by dsimp only [dat]
theorem after_wo (c : Dev nD) : (dat m c).after 2 t0_0 = woIn m c := by dsimp only [dat]
theorem after_out (c : Dev nD) : (dat m c).after 3 t0_0 = A6 (partials m) c := by dsimp only [dat]

set_option maxRecDepth 20000 in
/-- The body at the pipeline's one point. -/
theorem body_point (c : Dev nD) : BodyObligation (dat (F := F) m c) (defs₀ (F := F)) 𝒱₀ () Set.univ := fun t => by
  obtain rfl := fin_N0 t
  rw [bigSep_W0, bigSep_W0, inv_first, inv_end]
  rw [prog_eq, prog_eq']
  show iprop(invBefore m c ∗ (dat m c).owesAt () t0_0.castSucc
      ∗ (∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d)))
    ⊢ wp frame (wpE (defs₀ (F := F)) 𝒱₀ (c : Thread nD τ) none) Set.univ (body0 (F := F)) (fun _ =>
      iprop(invAfter m c ∗ (dat m c).owesAt () t0_0.succ
      ∗ owns (c : Thread nD τ) ((cfg0.win 0).stage (cfg0.slots t0_0 0)) fullShare ((dat m c).after 0 t0_0)
      ∗ owns (c : Thread nD τ) ((cfg0.win 1).stage (cfg0.slots t0_0 1)) fullShare ((dat m c).after 1 t0_0)
      ∗ owns (c : Thread nD τ) ((cfg0.win 2).stage (cfg0.slots t0_0 2)) fullShare ((dat m c).after 2 t0_0)
      ∗ owns (c : Thread nD τ) ((cfg0.win 3).stage (cfg0.slots t0_0 3)) fullShare ((dat m c).after 3 t0_0)))
  simp only [stage_x, stage_wq, stage_wo, stage_out, before_x, before_wq, before_wo, after_x, after_wq, after_wo, after_out, owns_pt]
  unfold invBefore invAfter around
  iintro ⟨⟨⟨%K, #HI⟩, Hop, Hkv, Hs, Hv, Hp⟩, HO, ⟨%_, H0⟩, ⟨%_, H1⟩, ⟨%_, H2⟩, ⟨%d, H3⟩⟩
  ihave HO := (owesAt_elim m c _ _ (owed_first m c)) $$ HO
  ihave HO := (Entails.of_eq (show iprop(∃ W, owes (c : Thread nD τ) (owed c 0) W) = ow (F := F) c 0 from rfl)) $$ HO
  iapply wp_fupd
  iapply (body_spec (partials m) K c (xIn m c) (wqIn m c) (woIn m c) (V m c main_v1) (V m c main_v2) rfl _) $$ [Hop Hkv Hs Hv HO H0 H1 H2 H3]
  · isplitr; · iexact HI
    isplitl [Hop]; · iexact Hop
    isplitl [Hs]; · iexact Hs
    isplitl [Hkv]; · iexact Hkv
    isplitl [H0 H1 H2 H3]
    · isplitl [H0]; · iexact H0
      isplitl [H1]; · iexact H1
      isplitl [H2]; · iexact H2
      iexists _; iexact H3
    isplitl [Hv]; · iexact Hv
    iexact HO
  iintro ⟨Hf, Hs, Hkv, ⟨H0, H1, H2, H3⟩, Hv, HO⟩
  imod (closing (partials m) K c) $$ [Hf Hkv] with Hz
  · isplitr; · iexact HI
    isplitl [Hf] <;> iassumption
  imodintro
  isplitl [Hz Hs Hv Hp]
  · isplitl [Hz]; · iexact Hz
    isplitl [Hs]; · iexact Hs
    isplitl [Hv] <;> iassumption
  isplitl [HO]
  · unfold ow
    rw [owed_last]
    icases HO with ⟨%W, HO⟩
    iapply (owesAt_intro m c _ 0 (owed_end m c) W); iexact HO
  isplitl [H0]; · iexact H0
  isplitl [H1]; · iexact H1
  isplitl [H2] <;> iassumption

end Cert.KernelIdeal.Body

end
-- ==== Proof.Region.lean ====
module

public import proofs.«01_k».proof.Proof.Data

/-!
The program on a device in three parts: the host's operations before the call, the call, and those after it.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat m

/-- What a device's buffers hold after the call: the result's array what the pipeline wrote back, the others as before it. -/
def V1 (c : Dev nD) : Valuation τ sig (Elt F) := Function.update (V0 m c) (Proc.devRef .tc main_v3) ((dat m c).arrAt 3 cfg0.N)
/-- And after the last operation of the host. -/
def V2 (c : Dev nD) : Valuation τ sig (Elt F) := StableHlo.after hostOps1 (V1 m c)

/-- The arrays of keys and values, which the body reads itself; and all buffers that no window stages. -/
def kvRefs : Finset (DevRef τ sig) := {Proc.devRef .tc main_v1, Proc.devRef .tc main_v2}
def otherRefs : Finset (DevRef τ sig) := Pipeline.ucRefs τ sig \ Pipeline.arrRefs spec0

theorem kv_ne : (Proc.devRef .tc main_v1 : DevRef τ sig) ∉ ({Proc.devRef .tc main_v2} : Finset (DevRef τ sig)) := by decide

theorem held_kv (c : Dev nD) (W : Valuation τ sig (Elt F)) : (StableHlo.held (c.tc : Thread nD τ) kvRefs W : sProp 𝕄)
    = iprop(pt c main_v1 (W (Proc.devRef .tc main_v1)) ∗ pt c main_v2 (W (Proc.devRef .tc main_v2))) := by
  unfold StableHlo.held kvRefs
  rw [bigSep_insert kv_ne, bigSep_singleton]
  rfl

theorem kv_sub : kvRefs ⊆ otherRefs := by decide +kernel

theorem arr_sub : Pipeline.arrRefs (τ := τ) spec0 ⊆ Pipeline.ucRefs τ sig := Pipeline.arrRefs_sub_ucRefs spec0 launch0.win.arr_unscoped

theorem v3_not_other : ∀ b ∈ otherRefs, b ≠ (Proc.devRef .tc main_v3 : DevRef τ sig) := by decide +kernel

/-- No buffer but the result's array changes. -/
theorem V1_other (c : Dev nD) (b : DevRef τ sig) (h : b ≠ Proc.devRef .tc main_v3) : V1 m c b = V0 m c b := Function.update_of_ne h ..
theorem V1_out (c : Dev nD) : V1 m c (Proc.devRef .tc main_v3) = (dat m c).arrAt 3 cfg0.N := Function.update_self ..

theorem scopedRest_scratch (c : Dev nD) : (Pipeline.scopedRest (Ix := Unit) (Name := ℕ) (U := UU) (Lvl := ℕ) (Val := Elt F) spec0 c : sProp 𝕄) = scratch c := by
  rw [scopedRest0_eq]; rfl

theorem entering (c : Dev nD) :
    iprop(Pipeline.scopedRest (Pipeline.pin (pcfgs (F := F)) adm 0).spec c ∗ (∃ r, prngReg c r) ∗ StableHlo.held (c.tc : Thread nD τ) kvRefs (V0 m c)
        ∗ ((∃ K, allInvs (partials m) K) ∗ opened c ∗ kvSems c)) ⊢ ((pdats m 0 c).Φ 0 : sProp 𝕄) := by
  rw [show (pdats m 0 c).Φ 0 = invBefore m c from rfl, held_kv]
  unfold invBefore around
  iintro ⟨Hs, Hp, Hv, HI, Ho, Hkv⟩
  ihave Hs := (Entails.of_eq (scopedRest_scratch c)) $$ Hs
  isplitl [HI]; · iexact HI
  isplitl [Ho]; · iexact Ho
  isplitl [Hkv]; · iexact Hkv
  isplitl [Hs]; · iexact Hs
  isplitl [Hv] <;> iassumption

theorem leaving (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) kvRefs (V1 m c)
        ∗ Pipeline.ownSems0 osem c ∗ semVal (barCell c) 0) := by
  rw [show (pdats m 0 c).Φ (Fin.last _) = invAfter m c from rfl, held_kv, V1_other m c _ (by decide), V1_other m c _ (by decide)]
  unfold invAfter around
  iintro ⟨⟨Hb, Hos⟩, Hs, Hv, Hp⟩
  ihave Hs := (Entails.of_eq (scopedRest_scratch c).symm) $$ Hs
  isplitl [Hs]; · iexact Hs
  isplitl [Hp]; · iexact Hp
  isplitl [Hv]; · iexact Hv
  isplitl [Hos] <;> iassumption

theorem pay_level : ∀ x : Fin 28, 0 < lvOf (useOf (paySem x)) := by decide +kernel
theorem stage_level : ∀ (w : Fin 4) (s : Fin ((spec0 w).nbuf)), lvOf (useOf (.dma ((spec0 w).sem s))) = 0 := by decide +kernel

theorem owed_cases (c : Dev nD) (t : Fin (cfg0.N + 1)) : (dat (F := F) m c).owed t = owed c 0 ∨ (dat (F := F) m c).owed t = 0 := by
  rcases t with ⟨_ | n, h⟩
  · left; dsimp only [dat]
  · right; dsimp only [dat]

/-- Everything that a device may owe at the pipeline's points lies above the pipeline's own waits. -/
theorem cut : Pipeline.LevelCutOwed (pcfgs (F := F)) adm (pdats m) () L lv 0 (fun _ => 0) where
  hι c w s := by rw [L_tc]; exact Finset.mem_singleton_self _
  hιb c w s := le_of_eq (stage_level w s)
  hD c t g i h := by
    change 0 < (dat (F := F) m c).owed t g i at h
    rcases owed_cases (F := F) m c t with e | e
    · rw [e] at h
      obtain ⟨x, -, rfl⟩ := owed_pos h
      exact ⟨by rw [payCell, L_tc]; exact Finset.mem_singleton_self _, pay_level x⟩
    · rw [e] at h
      exact absurd h (Nat.lt_irrefl 0)

theorem arr_start (c : Dev nD) (w : Fin cfg0.W) : (dat m c).arrAt w 0 = V0 m c (Proc.devRef .tc (Pipeline.arrRef spec0 w)) := rfl
theorem arr_end (c : Dev nD) (w : Fin cfg0.W) : (dat m c).arrAt w cfg0.N = V1 m c (Proc.devRef .tc (Pipeline.arrRef spec0 w)) := by
  match w with
  | ⟨0, _⟩ => exact ((dat m c).arrAt_in 0 rfl _).trans (V1_other m c (Proc.devRef .tc main_arg0) (by decide)).symm
  | ⟨1, _⟩ => exact ((dat m c).arrAt_in 1 rfl _).trans (V1_other m c (Proc.devRef .tc main_arg1) (by decide)).symm
  | ⟨2, _⟩ => exact ((dat m c).arrAt_in 2 rfl _).trans (V1_other m c (Proc.devRef .tc main_arg4) (by decide)).symm
  | ⟨3, _⟩ => exact (V1_out m c).symm

set_option backward.isDefEq.respectTransparency.types false in
/-- The call, as a part of the program in which the devices talk. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    kvRefs otherRefs kv_sub launch0.toP rfl (fun c => (body_point m c).loose)
    (fun _ => 0) (fun c => owed c 0) (fun c => (show (dat (F := F) m c).owed 0 = owed c 0 from rfl).trans (zero_add _).symm) (fun c => rfl) (fun _ => rfl) (fun c w => by match w with
      | ⟨0, _⟩ => rfl
      | ⟨1, _⟩ => rfl
      | ⟨2, _⟩ => rfl
      | ⟨3, _⟩ => rfl)
    (V0 m) (V1 m) (fun c b hb => V1_other m c b (v3_not_other b (Finset.mem_sdiff.mp hb).1))
    (start (partials m)) (fun c => semVal (barCell c) 0) (fun c => iprop((∃ K, allInvs (partials m) K) ∗ opened c ∗ kvSems c)) (fun c => semVal (barCell c) 0)
    (opening (partials m)) (entering m) (leaving m) (fun c => by iintro H; imodintro; iexact H)
    (fun _ => 0) (cut m) (fun _ => iprop(emp)) (fun c w => arr_start m c w) (fun c w => arr_end m c w)

local notation "ℍ" => Pipeline.HostSeg (Name := ℕ) (U := UU) (pcfgs (F := F)) defs₀ 𝒱₀ L lv

/-- The host's operations before the call, and after it. -/
def host0 : ℍ := Pipeline.HostSeg.ofOps _ _ _ _ _ (Pipeline.ucRefs τ sig) hostOps0
  (fun op h => Pipeline.sub_ucRefs op ((List.forall_iff_forall_mem.mp hostOps0_sub) op h)) (fun op h => (List.forall_iff_forall_mem.mp hostOps0_fresh) op h)
  (fun c b => m (c, b)) (fun c => iprop((∃ r, prngReg c r) ∗ start (partials m) c ∗ ∃ W, owes (c : Thread nD τ) (owed c 0) W))
def host1 : ℍ := Pipeline.HostSeg.ofOps _ _ _ _ _ (Pipeline.ucRefs τ sig) hostOps1
  (fun op h => Pipeline.sub_ucRefs op ((List.forall_iff_forall_mem.mp hostOps1_sub) op h)) (fun op h => (List.forall_iff_forall_mem.mp hostOps1_fresh) op h)
  (V1 m) (fun c => iprop(semVal (barCell c) 0 ∗ ∃ W, owes (c : Thread nD τ) (0 : CellTallies nD τ sig Unit) W))

/-- The buffers split into the windows' arrays and the others. -/
theorem held_split (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) otherRefs W) :=
  StableHlo.held_sub_split (c.tc : Thread nD τ) arr_sub W

theorem host0_region (c : Dev nD) : (host0 m).post c ⊢ (region m).pre c := by
  show iprop(StableHlo.held (c.tc : Thread nD τ) (Pipeline.ucRefs τ sig) (V0 m c) ∗ (∃ r, prngReg c r) ∗ start (partials m) c
      ∗ ∃ W, owes (c : Thread nD τ) (owed c 0) W)
    ⊢ iprop(StableHlo.held (c.tc : Thread nD τ) (Pipeline.arrRefs spec0) (V0 m c) ∗ (∃ r, prngReg c r)
      ∗ (StableHlo.held (c.tc : Thread nD τ) otherRefs (V0 m c) ∗ emp) ∗ start (partials m) c ∗ ∃ W, owes (c : Thread nD τ) (0 + owed c 0) W)
  rw [held_split, zero_add]
  iintro ⟨⟨Ha, Hr⟩, Hp, Hs, HO⟩
  isplitl [Ha]; · iexact Ha
  isplitl [Hp]; · iexact Hp
  isplitl [Hr]
  · isplitl [Hr]; · iexact Hr
    iempintro
  isplitl [Hs] <;> iassumption

theorem region_host1 (c : Dev nD) : (region m).post c ⊢ (host1 m).pre c := by
  show iprop(StableHlo.held (c.tc : Thread nD τ) (Pipeline.arrRefs spec0) (V1 m c) ∗ (∃ r, prngReg c r)
      ∗ (StableHlo.held (c.tc : Thread nD τ) otherRefs (V1 m c) ∗ emp) ∗ semVal (barCell c) 0 ∗ ∃ W, owes (c : Thread nD τ) (0 : CellTallies nD τ sig Unit) W)
    ⊢ iprop(StableHlo.held (c.tc : Thread nD τ) (Pipeline.ucRefs τ sig) (V1 m c) ∗ semVal (barCell c) 0
      ∗ ∃ W, owes (c : Thread nD τ) (0 : CellTallies nD τ sig Unit) W)
  rw [held_split]
  iintro ⟨Ha, -, ⟨Hr, -⟩, Hb, HO⟩
  isplitl [Ha Hr]; · isplitl [Ha] <;> iassumption
  isplitl [Hb] <;> iassumption

end Cert.KernelIdeal.Body

end
-- ==== Proof.Deal.lean ====
module

public import proofs.«01_k».proof.Proof.Ghost

/-!
How the protocol is dealt out at the launch: the duties to the devices that discharge them, the credits to those that wait.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

/-! ## The duties -/

/-- A device's semaphore duties: of its barrier, of its second barrier, of its sends, of its receives. -/
abbrev TK : Type := (Fin 7 ⊕ Fin 7) ⊕ (Fin 14 ⊕ Fin 14)

def tkSem : TK → SemLoc sig := Sum.elim (Sum.elim (fun _ => .reg barrier0) (fun _ => .reg finS)) (Sum.elim (fun k => .dma (sendS k)) (fun k => .dma (recvS k)))
def tkDuty : TK → Fin 7 := Sum.elim (Sum.elim id id) (fun _ => 0)

theorem tk_inj : Function.Injective (fun t : TK => (tkSem t, tkDuty t)) := by decide +kernel

def toks : Finset (GSem nD τ sig × ℕ × Fin 7) :=
  Finset.univ.map ⟨fun ct : Dev nD × TK => (((ct.1 : Thread nD τ), tkSem ct.2), 0, tkDuty ct.2), fun _ _ h =>
    Prod.ext (congrArg (fun t : GSem nD τ sig × ℕ × Fin 7 => t.1.1.1) h)
      (tk_inj (Prod.ext (congrArg (fun t : GSem nD τ sig × ℕ × Fin 7 => t.1.2) h) (congrArg (fun t : GSem nD τ sig × ℕ × Fin 7 => t.2.2) h)))⟩

/-- Something for every device and partner is the same thing for every device as partner. -/
def eq7 : Dev nD × Fin 7 ≃ Dev nD × Fin 7 where
  toFun p := (partner p.2 p.1, inv p.2)
  invFun p := (partner p.2 p.1, inv p.2)
  left_inv p := Prod.ext (partner_inv p.2 p.1) (inv_inv p.2)
  right_inv p := Prod.ext (partner_inv p.2 p.1) (inv_inv p.2)

def eq14 : Dev nD × Fin 14 ≃ Dev nD × Fin 14 where
  toFun p := (Body.dst p.2 p.1, p.2)
  invFun p := (src p.2 p.1, p.2)
  left_inv p := Prod.ext (src_dst p.2 p.1) rfl
  right_inv p := Prod.ext (dst_src p.2 p.1) rfl

theorem around7 (Φ : Dev nD → Fin 7 → sProp 𝕄) :
    (bigSep Finset.univ fun c : Dev nD => bigSep Finset.univ fun q : Fin 7 => Φ c q)
      = bigSep Finset.univ fun c : Dev nD => bigSep Finset.univ fun q : Fin 7 => Φ (partner q c) (inv q) := by
  rw [← bigSep_univ_prod (fun p : Dev nD × Fin 7 => Φ p.1 p.2), bigSep_univ_equiv eq7, bigSep_univ_prod]
  rfl

theorem around14 (Φ : Dev nD → Fin 14 → sProp 𝕄) :
    (bigSep Finset.univ fun c : Dev nD => bigSep Finset.univ fun k : Fin 14 => Φ c k)
      = bigSep Finset.univ fun c : Dev nD => bigSep Finset.univ fun k : Fin 14 => Φ (Body.dst k c) k := by
  rw [← bigSep_univ_prod (fun p : Dev nD × Fin 14 => Φ p.1 p.2), bigSep_univ_equiv eq14, bigSep_univ_prod]
  rfl

/-- All the duties, each given to the device that discharges it. -/
theorem toks_dealt :
    bigSep toks (fun x => (dutyTok (ET (F := F)) x.1 x.2.1 x.2.2 : sProp 𝕄)) ⊢ bigSep Finset.univ fun c : Dev nD => tokens (F := F) c := by
  unfold toks tokens
  rw [BI.bigSep_map, bigSep_univ_prod]
  have h (c : Dev nD) : (bigSep Finset.univ fun t : TK => (dutyTok (ET (F := F)) ((c : Thread nD τ), tkSem t) 0 (tkDuty t) : sProp 𝕄))
      = iprop((bigSep Finset.univ (fun q : Fin 7 => dutyTok (ET (F := F)) (barCell c) 0 q)
          ∗ bigSep Finset.univ (fun q : Fin 7 => dutyTok (ET (F := F)) (finCell c) 0 q))
        ∗ (bigSep Finset.univ (fun k : Fin 14 => dutyTok (ET (F := F)) (sendCell c k) 0 0)
          ∗ bigSep Finset.univ (fun k : Fin 14 => dutyTok (ET (F := F)) (recvCell c k) 0 0))) := by
    rw [bigSep_univ_sum, bigSep_univ_sum, bigSep_univ_sum]
    rfl
  refine (Entails.of_eq (bigSep_congr fun c _ => h c)).trans ?_
  rw [bigSep_sep', bigSep_sep', bigSep_sep', bigSep_sep', bigSep_sep', bigSep_sep', around7 (fun c q => dutyTok (ET (F := F)) (barCell c) 0 q),
    around7 (fun c q => dutyTok (ET (F := F)) (finCell c) 0 q), around14 (fun c k => dutyTok (ET (F := F)) (recvCell c k) 0 0)]
  iintro ⟨⟨H1, H2⟩, H3⟩
  isplitl [H1]; · iexact H1
  isplitl [H2] <;> iassumption

/-! ## What the devices may wait for -/

/-- What all the devices owe to one semaphore: each of the 28 payments reaches each device once. -/
theorem owed_sum (c : Dev nD) (sm : SemLoc sig) :
    ∑ d : Dev nD, owed d 0 ((c : Thread nD τ), sm) () = ∑ x : Fin 28, if paySem x = sm then payAmt x else 0 := by
  unfold owed
  simp only [Nat.zero_le, Finset.filter_true, Finset.sum_apply, Finsupp.finset_sum_apply]
  rw [Finset.sum_comm]
  refine Finset.sum_congr rfl fun x _ => ?_
  by_cases h : paySem x = sm
  · rw [if_pos h, Finset.sum_eq_single (partner (inv (payTo x)) c)]
    · rw [tallyAt_apply, if_pos]
      unfold payCell; rw [partner_inv', h]; exact ⟨rfl, rfl⟩
    · intro d _ hd
      rw [tallyAt_apply, if_neg]
      rintro ⟨e, -⟩
      refine hd ?_
      have e' : partner (payTo x) d = c := (congrArg (fun g : GSem nD τ sig => g.1.1) e).symm
      rw [← e', partner_inv]
    · intro h'; exact absurd (Finset.mem_univ _) h'
  · rw [if_neg h]
    refine Finset.sum_eq_zero fun d _ => ?_
    rw [tallyAt_apply, if_neg]
    rintro ⟨e, -⟩
    exact h (congrArg Prod.snd e).symm

theorem paid_bar : (∑ x : Fin 28, if paySem x = (.reg barrier0 : SemLoc sig) then payAmt x else 0) = 7 := by decide +kernel
theorem paid_fin : (∑ x : Fin 28, if paySem x = (.reg finS : SemLoc sig) then payAmt x else 0) = 7 := by decide +kernel
theorem paid_recv (k : Fin 14) : (∑ x : Fin 28, if paySem x = (.dma (recvS k) : SemLoc sig) then payAmt x else 0) = amt k := by
  revert k; decide +kernel

theorem launch_at (c : Dev nD) (sm : SemLoc sig) (n : ℕ) (h : (∑ x : Fin 28, if paySem x = sm then payAmt x else 0) = n) :
    tallyOn ((c : Thread nD τ), sm) (launchCredit (Pipeline.owing fun d => owed d 0) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same]
  exact (owed_sum c sm).trans h

theorem scSem_ne_bar : ∀ x : Fin 29, scSem x ≠ .reg barrier0 := by decide +kernel

/-- Device `c`'s credit at the launch. -/
theorem creds (c : Dev nD) : (Pipeline.launchCred (fun d => owed d 0) c : sProp 𝕄) ⊢ credits c := by
  unfold Pipeline.launchCred credits
  rw [bigSep_univ_at _ (SemLoc.reg barrier0), launch_at c _ 7 paid_bar]
  refine sep_mono_right ?_
  have hsub : Finset.univ.image scSem ⊆ (Finset.univ.erase (SemLoc.reg barrier0) : Finset (SemLoc sig)) := by
    intro sm h
    obtain ⟨x, -, rfl⟩ := Finset.mem_image.mp h
    exact Finset.mem_erase.mpr ⟨scSem_ne_bar x, Finset.mem_univ _⟩
  refine (bigSep_subset hsub).trans ?_
  rw [bigSep_image_of_injOn (fun a _ b _ e => scSem_inj e), sc_split (fun sm => cred (tallyOn ((c : Thread nD τ), sm)
    (launchCredit (Pipeline.owing fun d => owed d 0) 0 ((c : Thread nD τ), sm)))), launch_at c (.reg finS) 7 paid_fin, ← bigSep14 (fun k => cred
    (tallyOn ((c : Thread nD τ), .dma (recvS k)) (launchCredit (Pipeline.owing fun d => owed d 0) 0 ((c : Thread nD τ), .dma (recvS k)))))]
  simp only [launch_at c (.dma (recvS _)) _ (paid_recv _)]
  show iprop(all14 (fun k => cred (tallyOn ((c : Thread nD τ), .dma (sendS k)) (launchCredit (Pipeline.owing fun d => owed d 0) 0 ((c : Thread nD τ), .dma (sendS k)))))
      ∗ bigSep Finset.univ (fun k : Fin 14 => cred (tallyAt (recvCell c k) () (amt k))) ∗ cred (tallyAt (finCell c) () 7))
    ⊢ (iprop(cred (tallyAt (finCell c) () 7) ∗ bigSep Finset.univ (fun k : Fin 14 => cred (tallyAt (recvCell c k) () (amt k)))) : sProp 𝕄)
  iintro ⟨-, Hr, Hf⟩
  isplitl [Hf] <;> iassumption

end Cert.KernelIdeal.Body

end
-- ==== Proof.Run.lean ====
module

public import proofs.«01_k».proof.Proof.Region
public import proofs.«01_k».proof.Proof.Deal

/-!
The run of the whole program on all devices, at any float values.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-- The program on a device, in its three parts. -/
def segs : List (Pipeline.Seg (pcfgs (F := F)) adm (pdats m) () defs₀ 𝒱₀ L lv) := [.host (host0 m), .region (region m), .host (host1 m)]

theorem main_eq (c : Dev nD) : main (F := F) c = Pipeline.Seg.run (segs m) :=
  main_segs adm (pdats m) () 𝒱₀ L lv (host0 m) (host1 m) (region m) rfl rfl c

/-! ## What the machine starts with -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact scSem_ne_bar ck.2 (congrArg Prod.snd h)

/-- The ghost state at the launch. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- The protocol's part of it. -/
def ghost₀ : sProp 𝕄 := BI.own (ET (F := F) (launchOf barCells scCells toks))

/-- An assertion that device 0 alone holds. -/
def atZero (X : sProp 𝕄) (c : Dev nD) : sProp 𝕄 := if c = 0 then X else iprop(emp)
theorem atZero_all (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

theorem ghost_start : (ownU (u₀ (F := F)) : sProp 𝕄) ⊢ iprop(BI.own (EP (F := F) (u₀ (F := F)).1) ∗ ghost₀) := by
  unfold u₀ ghost₀
  iintro Hu
  ihave H := (ownU_pair _ _) $$ Hu
  icases H with ⟨HP, HX⟩
  ihave H2 := (own_pair_emb _ _ _) $$ HX
  icases H2 with ⟨HT, -⟩
  isplitl [HP]; · iexact HP
  iexact HT

theorem unscoped_eq : ∀ sm : SemLoc sig, sm.isScoped .tc = false → sm = .reg barrier0 := by decide +kernel

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

/-! ## Dealing it out -/

/-- What every device may know: the invariants of all semaphores, and that every barrier is in its first round. -/
def records (K : GSem nD τ sig → ℕ) : sProp 𝕄 :=
  iprop(allInvs (partials m) K ∗ bigSep barCells fun g => reached (ET (F := F)) g 0)

instance records_persistent (K : GSem nD τ sig → ℕ) : BI.Persistent (records m K) := by unfold records; infer_instance

theorem reached_all (c : Dev nD) : (bigSep barCells fun g => (reached (ET (F := F)) g 0 : sProp 𝕄))
    ⊢ bigSep Finset.univ (fun q : Fin 7 => reached (ET (F := F)) (barCell (partner q c)) 0) := by
  iintro #H
  iapply (bigSep_with_persistent (R := bigSep barCells fun g => (reached (ET (F := F)) g 0 : sProp 𝕄)) (Φ := fun _ : Fin 7 => (iprop(emp) : sProp 𝕄))
    (S := Finset.univ) fun q _ => by
      iintro ⟨#H, -⟩
      iapply (show (bigSep barCells fun g => (reached (ET (F := F)) g 0 : sProp 𝕄)) ⊢ reached (ET (F := F)) (barCell (partner q c)) 0 from
        bigSep_elim (Finset.mem_map_of_mem barEmb (Finset.mem_univ _)))
      iexact H)
  isplitr; · iexact H
  rw [show (bigSep Finset.univ fun _ : Fin 7 => (iprop(emp) : sProp 𝕄)) = iprop(emp) from BI.bigSep_emp_const _]
  iempintro

/-- What a device has beside its part of the protocol. -/
def bundle (c : Dev nD) : sProp 𝕄 :=
  iprop(StableHlo.held (c : Thread nD τ) (Pipeline.ucRefs τ sig) (fun b => m (c, b)) ∗ credits (F := F) c ∗ owes (c : Thread nD τ) (owed c 0) ∅
    ∗ ∃ r, prngReg c r)

theorem bundle_start (K : GSem nD τ sig → ℕ) (c : Dev nD) : iprop(records m K ∗ (linear c ∗ bundle m c)) ⊢ (host0 m).pre c := by
  show iprop(records m K ∗ (linear c ∗ bundle m c))
    ⊢ (iprop(StableHlo.held (c : Thread nD τ) (Pipeline.ucRefs τ sig) (fun b => m (c, b)) ∗ (∃ r, prngReg c r) ∗ start (partials m) c
      ∗ ∃ W, owes (c : Thread nD τ) (owed c 0) W) : sProp 𝕄)
  unfold records bundle start
  iintro ⟨⟨#HI, #HR⟩, Hl, Hh, Hc, HO, Hp⟩
  isplitl [Hh]; · iexact Hh
  isplitl [Hp]; · iexact Hp
  isplitr [HO]
  · isplitl [Hl]
    · iexists K
      isplitr; · iexact HI
      isplitr; · iapply (reached_all (F := F) c); iexact HR
      iexact Hl
    iexact Hc
  iexists ∅; iexact HO

theorem deal_one (c : Dev nD) : iprop(unscopedBufs c (fun b => m ((c : Thread nD τ).loc b)) ∗ unscopedSems0 c
      ∗ owes (c : Thread nD τ) (owed c 0) ∅ ∗ Pipeline.launchCred (fun d => owed d 0) c ∗ prngReg c (ρ c) ∗ atZero ghost₀ c)
    ⊢ (iprop(bundle m c ∗ (semVal (barCell c) 0 ∗ atZero ghost₀ c)) : sProp 𝕄) := by
  rw [show unscopedBufs c (fun b => m ((c : Thread nD τ).loc b)) = StableHlo.held (c : Thread nD τ) (Pipeline.ucRefs τ sig) (fun b => m (c, b)) from
    Pipeline.unscopedBufs_held c (fun b => m (c, b)), unscopedSems_bar]
  unfold bundle
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus] <;> iassumption

theorem on_bars (Φ : GSem nD τ sig → sProp 𝕄) : bigSep barCells Φ = bigSep Finset.univ fun c : Dev nD => Φ (barCell c) := BI.bigSep_map barEmb
theorem on_scs (Φ : GSem nD τ sig → sProp 𝕄) :
    bigSep scCells Φ = bigSep Finset.univ fun c : Dev nD => bigSep Finset.univ fun x : Fin 29 => Φ ((c : Thread nD τ), scSem x) := by
  unfold scCells
  rw [BI.bigSep_map, bigSep_univ_prod]
  rfl

/-- The launch: all devices get their part. -/
theorem init :
    iprop((bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ atZero ghost₀ c)) ∗ levAts L lv)
      ⊢ (|={Set.univ}=> bigSep Finset.univ (host0 m).pre : sProp 𝕄) := by
  iintro ⟨H, #Hlev⟩
  ihave H := (show (bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ atZero ghost₀ c))
      ⊢ (bigSep Finset.univ fun c : Dev nD => iprop(bundle m c ∗ (semVal (barCell c) 0 ∗ atZero ghost₀ c)) : sProp 𝕄) from
    bigSep_mono fun c _ => deal_one m ρ c) $$ H
  ihave H := (Entails.of_eq (bigSep_sep' _ _ _)) $$ H
  icases H with ⟨HB, H⟩
  ihave H := (Entails.of_eq (bigSep_sep' _ _ _)) $$ H
  icases H with ⟨Hv, HG⟩
  ihave Hu := (Entails.of_eq (atZero_all (F := F) ghost₀)) $$ HG
  ihave Hv := (Entails.of_eq (on_bars (F := F) (fun g => semVal g 0)).symm) $$ Hv
  imod (Rounds.fund_launch ET (Rd (partials m)) disjoint_cells (fun g _ h => h) toks) $$ [Hv Hu] with ⟨%K, -, #Hinv, #Hr, Hat, Hopen, Htok⟩
  · isplitl [Hv]; · iexact Hv
    iapply (Entails.of_eq (show (ghost₀ : sProp 𝕄) = BI.own (ET (F := F) (launchOf barCells scCells toks)) from rfl)) $$ Hu
  imodintro
  iapply (bigSep_with_persistent (R := records m K) (Φ := fun c => iprop(linear c ∗ bundle m c)) fun c _ => bundle_start m K c)
  isplitr
  · unfold records
    isplitr
    · iapply (Entails.of_eq (show iprop((bigSep (barCells ∪ scCells) fun g => cellInv ET (Rd (partials m)) (K g) g) ∗ levAts L lv) = allInvs (partials m) K from rfl))
      isplitr; · iexact Hinv
      iexact Hlev
    iexact Hr
  iapply (Entails.of_eq (bigSep_sep' _ _ _).symm)
  isplitr [HB]
  · unfold linear
    iapply (Entails.of_eq (bigSep_sep' _ _ _).symm)
    isplitl [Hat]; · iapply (Entails.of_eq (on_bars (F := F) _)) $$ Hat
    iapply (Entails.of_eq (bigSep_sep' _ _ _).symm)
    isplitl [Hopen]; · iapply (Entails.of_eq (on_scs (F := F) _)) $$ Hopen
    iapply (toks_dealt (F := F)) $$ Htok
  iexact HB

/-! ## The run -/

/-- The buffers that the claims speak of: the arguments and the result. -/
def seen : Finset (DevRef τ sig) :=
  {Proc.devRef .tc main_arg0, Proc.devRef .tc main_arg1, Proc.devRef .tc main_arg2, Proc.devRef .tc main_arg3, Proc.devRef .tc main_arg4,
    Proc.devRef .tc main_v4}

theorem seen_sub : seen ⊆ Pipeline.ucRefs τ sig := by decide +kernel

/-- A buffer that is held has its contents in the machine's memory. -/
theorem held_seen (c : Dev nD) (W : Valuation τ sig (Elt F)) : (StableHlo.held (c : Thread nD τ) seen W : sProp 𝕄)
    = iprop(pt c main_arg0 (W (Proc.devRef .tc main_arg0)) ∗ pt c main_arg1 (W (Proc.devRef .tc main_arg1)) ∗ pt c main_arg2 (W (Proc.devRef .tc main_arg2))
      ∗ pt c main_arg3 (W (Proc.devRef .tc main_arg3)) ∗ pt c main_arg4 (W (Proc.devRef .tc main_arg4)) ∗ pt c main_v4 (W (Proc.devRef .tc main_v4))) := by
  unfold StableHlo.held seen
  rw [bigSep_insert (by decide), bigSep_insert (by decide), bigSep_insert (by decide), bigSep_insert (by decide), bigSep_insert (by decide), bigSep_singleton]
  rfl

/-- What the memory `s` holds on device `c` at the end: the arguments and the result as computed. -/
abbrev Ends (c : Dev nD) (s : (ℓ : Loc nD τ sig) → Buf (Elt F) ℓ) : Prop :=
  s ((c : Thread nD τ).loc main_arg0) = V2 m c (Proc.devRef .tc main_arg0) ∧ s ((c : Thread nD τ).loc main_arg1) = V2 m c (Proc.devRef .tc main_arg1)
    ∧ s ((c : Thread nD τ).loc main_arg2) = V2 m c (Proc.devRef .tc main_arg2) ∧ s ((c : Thread nD τ).loc main_arg3) = V2 m c (Proc.devRef .tc main_arg3)
    ∧ s ((c : Thread nD τ).loc main_arg4) = V2 m c (Proc.devRef .tc main_arg4) ∧ s ((c : Thread nD τ).loc main_v4) = V2 m c (Proc.devRef .tc main_v4)

/-- What a device is left with. -/
abbrev last (c : Dev nD) : sProp 𝕄 := iprop(StableHlo.held (c : Thread nD τ) (Pipeline.ucRefs τ sig) (V2 m c) ∗ semVal (barCell c) 0)

theorem host1_last (c : Dev nD) : (host1 m).post c ⊢ iprop(last m c ∗ ∃ W, owes (c : Thread nD τ) (0 : CellTallies nD τ sig Unit) W) := by
  show iprop(StableHlo.held (c : Thread nD τ) (Pipeline.ucRefs τ sig) (V2 m c)
      ∗ (semVal (barCell c) 0 ∗ ∃ W, owes (c : Thread nD τ) (0 : CellTallies nD τ sig Unit) W))
    ⊢ (iprop(last m c ∗ ∃ W, owes (c : Thread nD τ) (0 : CellTallies nD τ sig Unit) W) : sProp 𝕄)
  iintro ⟨Hh, Hb, HO⟩
  isplitr [HO]
  · isplitl [Hh] <;> iassumption
  iexact HO

set_option backward.isDefEq.respectTransparency.types false in
/-- The run: every fair execution on the 32 devices ends, with the arguments and the result as computed, every semaphore at zero. -/
theorem run_main : θ_run defs (onTc (τ := τ) (main (F := F))) ⟨m, fun _ => 0, ρ⟩
    (fun r => (∀ c : Dev nD, Ends m c r.2.mem) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 0) (hL := L_of_ne) (G := atZero ghost₀) (u₀ := u₀)
    (hu₀ := by
      iintro Hu
      ihave H := (ghost_start (F := F)) $$ Hu
      icases H with ⟨HP, HX⟩
      imodintro
      isplitl [HP]; · iexact HP
      rw [atZero_all]; iexact HX)
    (T₀ := (host0 m).pre) (Tₙ := last m)
    (hch := ⟨fun c => .rfl, fun c => host0_region m c, fun c => region_host1 m c, fun c => host1_last m c⟩)
    (hinit := init m ρ)
    (QY := fun c s => Ends m c s.mem ∧ s.sem (barCell c) = 0)
    (hfin := fun c s' => by
      dsimp only [last]; rw [StableHlo.held_sub_split (c : Thread nD τ) seen_sub, held_seen]
      iintro ⟨⟨⟨⟨H0, H1, H2, H3, H4, H5⟩, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => (h c).1, sem_eq_zero hs fun c sm hsm => by
        obtain rfl := unscoped_eq sm hsm
        exact (h c).2⟩)

end Cert.KernelIdeal.Body

end
-- ==== Proof.Frames.lean ====
module

public import proofs.«01_k».proof.Proof.Run

/-!
The run, with the arguments as they were at the start.
-/

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- The host's last operation writes the result alone. -/
theorem V2_other (c : Dev nD) (b : Ref sig .tc) (h4 : b ≠ main_v4) (h3 : b ≠ main_v3) : V2 m c (Proc.devRef .tc b) = V m c b := by
  refine (StableHlo.after_of_forall_not_mem (b := Proc.devRef .tc b) _ _ (List.forall_iff_forall_mem.mp ?_)).trans
    (V1_other m c _ (StableHlo.devRef_ne_of_ne h3))
  simp only [hostOps1, List.Forall, StableHlo.reshape_writes, Finset.mem_singleton]
  exact StableHlo.devRef_ne_of_ne h4

/-- The run leaves every argument as it was, and every semaphore at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_v4) = V2 m c (Proc.devRef .tc main_v4)) ∧ r.2.sem = fun _ => 0) :=
  (θ_run defs _ _).mono (fun _ h => ⟨fun c => by
    obtain ⟨h0, h1, h2, h3, h4, h5⟩ := h.1 c
    exact ⟨h0.trans ((V2_other m c main_arg0 (by decide) (by decide)).trans (V_main_arg0 m c)),
      h1.trans ((V2_other m c main_arg1 (by decide) (by decide)).trans (V_main_arg1 m c)),
      h2.trans ((V2_other m c main_arg2 (by decide) (by decide)).trans (V_main_arg2 m c)),
      h3.trans ((V2_other m c main_arg3 (by decide) (by decide)).trans (V_main_arg3 m c)),
      h4.trans ((V2_other m c main_arg4 (by decide) (by decide)).trans (V_main_arg4 m c)), h5⟩, h.2⟩) (run_main m ρ)

/-- The same, of the arguments alone. -/
theorem run_args : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => by
    obtain ⟨h0, h1, h2, h3, h4, -⟩ := h.1 c
    exact ⟨h0, h1, h2, h3, h4⟩, h.2⟩) (run_frame m ρ)

end Cert.KernelIdeal.Body

end
-- ==== Proof.Same.lean ====
module

public import proofs.«01_k».proof.Defs
public import proofs.«01_k».proof.Proof.Gen.Kernel
public import proofs.«01_k».proof.Proof.Gen.KernelIdeal

/-!
The kernel's program and the one that is read over the extended reals are the same, at any float values.
-/

@[expose] public section

noncomputable section

namespace Cert.Proof

open Cert.KernelIdeal Idealize.ShloMosaic Idealize.SL.Sem

variable {F : FTy → Type} [FloatOps F]

/-- The body of the call is the same. -/
theorem body_same : Cert.Kernel.cc0_body (F := F) = Cert.KernelIdeal.cc0_body (F := F) := by
  delta Cert.Kernel.cc0_body Cert.KernelIdeal.cc0_body
  rfl

/-- So are the programs that the labels name. -/
theorem defs₀_same : Cert.Kernel.defs₀ (F := F) = Cert.KernelIdeal.defs₀ (F := F) := by
  delta Cert.Kernel.defs₀ Cert.KernelIdeal.defs₀
  refine congrArg Defs.onTc (funext fun l => funext fun ts => ?_)
  match l, ts with
  | ⟨0, _⟩, (t, s) => exact congrArg (fun f : type_of% (Cert.KernelIdeal.cc0_body (F := F)) => f (win0_0.stage (s 0)) _ (win0_1.stage (s 1)) _ (Memref.whole main_v1) (Memref.isWhole_whole _) (Memref.whole main_v2) (Memref.isWhole_whole _) (win0_2.stage (s 2)) _ (win0_3.stage (s 3)) _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scoped0) body_same

theorem defs_same : Cert.Kernel.defs (F := F) = Cert.KernelIdeal.defs (F := F) := by
  unfold Cert.Kernel.defs Cert.KernelIdeal.defs
  exact congrArg (Pipeline.defs Cert.KernelIdeal.pcfgs) defs₀_same

theorem main_same : Cert.Kernel.main (F := F) = Cert.KernelIdeal.main (F := F) := rfl

end Cert.Proof

end
-- ==== Proof.Reduce.lean ====
module

public import proofs.«01_k».proof.Proof.Values
public import Idealize.ShloMosaic.Lib.WritesUnit
public import Idealize.ShloMosaic.Lib.Pointwise

/-!
What the six exchanges compute, over the extended reals: in the end every device holds, at every place of the result's
buffer, the sum over all devices of what they held there at the start.
-/

@[expose] public section

noncomputable section

namespace Cert.KernelIdeal.Body

open Cert.KernelIdeal Cert.KernelIdeal.Gen
open Idealize.ShloMosaic
open Idealize.ShloMosaic.TcCoe

/-! ## Where the blocks lie -/

/-- The place of the block of number `w` among four: the two bits change places. -/
def place (w : ℕ) : ℕ := 2 * (w % 2) + w / 2

theorem off1_eq (c : Dev nD) : k0_off1 c = ![256 * (1 - xOf c), 0] := by revert c; decide +kernel
theorem off2_eq (c : Dev nD) : k0_off2 c = ![256 * xOf c, 0] := by revert c; decide +kernel
theorem off4_eq (c : Dev nD) : k0_off4 c = ![256 * xOf c + 64 * place (yOf c), 0] := by revert c; decide +kernel
theorem off6_eq (c : Dev nD) : k0_off6 c = ![256 * xOf c + 64 * place (yOf c) + 16 * place (zOf c), 0] := by revert c; decide +kernel
theorem off3_eq (c : Dev nD) (i : Fin 3) : k0_off3 c (BitVec.ofNat 32 (1 + i.val)) = ![256 * xOf c + 64 * place ((yOf c + 1 + i.val) % 4), 0] := by
  revert c i; decide +kernel
theorem off5_eq (c : Dev nD) (i : Fin 3) :
    k0_off5 c (BitVec.ofNat 32 (1 + i.val)) = ![256 * xOf c + 64 * place (yOf c) + 16 * place ((zOf c + 1 + i.val) % 4), 0] := by
  revert c i; decide +kernel
theorem off7_eq (c : Dev nD) (i : Fin 3) :
    k0_off7 c (BitVec.ofNat 32 (1 + i.val)) = ![256 * xOf c + 64 * place (yOf c) + 16 * place ((zOf c + 3 - i.val) % 4), 0] := by
  revert c i; decide +kernel
theorem off8_eq (c : Dev nD) (i : Fin 3) : k0_off8 c (BitVec.ofNat 32 (1 + i.val)) = ![256 * xOf c + 64 * place ((yOf c + 3 - i.val) % 4), 0] := by
  revert c i; decide +kernel

/-! ## The coordinates of the sources -/

theorem x_lt (c : Dev nD) : xOf c < 2 := Nat.mod_lt _ (by decide)
theorem y_lt (c : Dev nD) : yOf c < 4 := Nat.mod_lt _ (by decide)
theorem z_lt (c : Dev nD) : zOf c < 4 := by revert c; decide +kernel

/-- The source of the first exchange, and of the last, is on the other side. -/
theorem side (c : Dev nD) : xOf (src 0 c) = 1 - xOf c ∧ xOf (src 13 c) = 1 - xOf c := by revert c; decide +kernel
/-- The sources of the second exchange are on the same side, in the other rows; so are those of the fifth. -/
def rowSrc (i : Fin 3) : Fin 14 := (![1, 2, 3] : Fin 3 → Fin 14) i
def rowSrc' (i : Fin 3) : Fin 14 := (![10, 11, 12] : Fin 3 → Fin 14) i
theorem row (c : Dev nD) (i : Fin 3) : xOf (src (rowSrc i) c) = xOf c ∧ yOf (src (rowSrc i) c) = (yOf c + 3 - i.val) % 4 := by
  revert c i; decide +kernel
theorem row' (c : Dev nD) (i : Fin 3) : xOf (src (rowSrc' i) c) = xOf c ∧ yOf (src (rowSrc' i) c) = (yOf c + 3 - i.val) % 4 := by
  revert c i; decide +kernel
/-- The sources of the third exchange are on the same side and in the same row, in the other planes; so are those of the
    fourth. -/
def planeSrc (i : Fin 3) : Fin 14 := (![4, 5, 6] : Fin 3 → Fin 14) i
def planeSrc' (i : Fin 3) : Fin 14 := (![7, 8, 9] : Fin 3 → Fin 14) i
theorem plane (c : Dev nD) (i : Fin 3) : xOf (src (planeSrc i) c) = xOf c ∧ yOf (src (planeSrc i) c) = yOf c
    ∧ zOf (src (planeSrc i) c) = (zOf c + 3 - i.val) % 4 := by
  revert c i; decide +kernel
theorem plane' (c : Dev nD) (i : Fin 3) : xOf (src (planeSrc' i) c) = xOf c ∧ yOf (src (planeSrc' i) c) = yOf c
    ∧ zOf (src (planeSrc' i) c) = (zOf c + 3 - i.val) % 4 := by
  revert c i; decide +kernel

/-- One step on and back again, among four. -/
theorem back (w : ℕ) (hw : w < 4) (i : Fin 3) : ((w + 3 - i.val) % 4 + 1 + i.val) % 4 = w := by have := i.isLt; omega

theorem place_lt (w : ℕ) (hw : w < 4) : place w < 4 := by unfold place; omega

/-- A place among four that is at none of three steps back is the own place. -/
theorem place_own (w p : ℕ) (hw : w < 4) (hp : p < 4) (h : ∀ i : Fin 3, p ≠ place ((w + 3 - i.val) % 4)) : p = place w := by
  have : ∀ w p : Fin 4, (∀ i : Fin 3, p.val ≠ place ((w.val + 3 - i.val) % 4)) → p.val = place w.val := by decide
  exact this ⟨w, hw⟩ ⟨p, hp⟩ h

/-! ## Blocks of rows, stored and read -/

/-- One element of a result's buffer. -/
def cell (f : OutC Ideal) (r e : Fin 512) : EReal := f (ix2 r e : S512x512.Idx)

/-- A row of the newest block stored. -/
theorem put_hit {n o : ℕ} {off : Fin 2 → ℕ} {h : ∀ a, off a + (![n, 512] : Fin 2 → ℕ) a ≤ S512x512.size a} (f : OutC Ideal)
    (w : (Rect.unit (s := S512x512) off ![n, 512] h).shape.Idx → Elt Ideal .f32) (L) (ho : off = ![o, 0]) (r e : Fin 512) (a : Fin n)
    (hr : r.val = o + a.val) :
    cell ((Memref.whole cc0_stg3_0).view.writes (Elt Ideal) f (⟨Rect.unit (s := S512x512) off ![n, 512] h, w⟩ :: L)) r e
      = w (ix2 a e : (⟨2, ![n, 512]⟩ : Shape).Idx) :=
  View.read_writes_cons_rows_of_mem (Memref.whole cc0_stg3_0).view f h w L (ix2 r e : S512x512.Idx) (ix2 a e : (⟨2, ![n, 512]⟩ : Shape).Idx) ho hr rfl

/-- A row outside the newest block stored. -/
theorem put_miss {n o : ℕ} {off : Fin 2 → ℕ} {h : ∀ a, off a + (![n, 512] : Fin 2 → ℕ) a ≤ S512x512.size a} (f : OutC Ideal)
    (w : (Rect.unit (s := S512x512) off ![n, 512] h).shape.Idx → Elt Ideal .f32) (L) (ho : off = ![o, 0]) (r e : Fin 512)
    (hr : r.val < o ∨ o + n ≤ r.val) :
    cell ((Memref.whole cc0_stg3_0).view.writes (Elt Ideal) f (⟨Rect.unit (s := S512x512) off ![n, 512] h, w⟩ :: L)) r e
      = cell ((Memref.whole cc0_stg3_0).view.writes (Elt Ideal) f L) r e :=
  View.read_writes_cons_rows_of_not_mem (Memref.whole cc0_stg3_0).view f h w L (ix2 r e : S512x512.Idx) ho rfl hr

/-- A row of a block that is read. -/
theorem got {n o : ℕ} {off : Fin 2 → ℕ} (h : ∀ a, off a + (![n, 512] : Fin 2 → ℕ) a ≤ S512x512.size a) (f : OutC Ideal) (ho : off = ![o, 0])
    (r e : Fin 512) (a : Fin n) (hr : r.val = o + a.val) :
    View.readAt (Elt Ideal) (Memref.whole cc0_stg3_0).view (Rect.unit (s := S512x512) off ![n, 512] h).toLoadRect f
      (ix2 a e : (⟨2, ![n, 512]⟩ : Shape).Idx) = cell f r e := by
  subst ho
  refine congrArg f (funext fun b => Fin.ext ?_)
  match b with
  | 0 => show o + 1 * a.val = r.val; omega
  | 1 => show 0 + 1 * e.val = e.val; omega

/-! ## The payloads: nothing is rounded over the extended reals -/

theorem pay65_eq (v) (j) : k0_pay65 (F := Ideal) v j = v j := by pointwise [k0_pay65]
theorem pay66_eq (v w) (j) : k0_pay66 (F := Ideal) v w j = v j + w j := by pointwise [k0_pay66]
theorem pay67_eq (v) (j) : k0_pay67 (F := Ideal) v j = v j := by pointwise [k0_pay67]
theorem pay70_eq (v w w1 w2) (j) : k0_pay70 (F := Ideal) v w w1 w2 j = v j + w j + w1 j + w2 j := by pointwise [k0_pay70]
theorem pay71_eq (v) (j) : k0_pay71 (F := Ideal) v j = v j := by pointwise [k0_pay71]
theorem pay74_eq (v w w1 w2) (j) : k0_pay74 (F := Ideal) v w w1 w2 j = v j + w j + w1 j + w2 j := by pointwise [k0_pay74]
theorem pay75_eq (v) (j) : k0_pay75 (F := Ideal) v j = v j := by pointwise [k0_pay75]
theorem pay79_eq (v) (j) : k0_pay79 (F := Ideal) v j = v j := by pointwise [k0_pay79]
theorem pay82_eq (v) (j) : k0_pay82 (F := Ideal) v j = v j := by pointwise [k0_pay82]
theorem pay86_eq (v) (j) : k0_pay86 (F := Ideal) v j = v j := by pointwise [k0_pay86]
theorem pay89_eq (v) (j) : k0_pay89 (F := Ideal) v j = v j := by pointwise [k0_pay89]
theorem pay90_eq (v) (j) : k0_pay90 (F := Ideal) v j = v j := by pointwise [k0_pay90]

/-! ## The sums grow -/

variable (A0 : Dev nD → OutC Ideal)

/-- The own half after the first exchange. -/
theorem A1_half (c : Dev nD) (r e : Fin 512) (hx : r.val / 256 = xOf c) :
    cell (A1 A0 c) r e = cell (A0 c) r e + cell (A0 (src 0 c)) r e := by
  have hr : r.val = 256 * xOf c + (⟨r.val % 256, Nat.mod_lt _ (by decide)⟩ : Fin 256).val := by show r.val = _ + r.val % 256; omega
  have hs := (side c).1
  have hx2 := x_lt c
  unfold A1
  refine (put_hit (n := 256) _ _ _ (off2_eq c) r e ⟨r.val % 256, Nat.mod_lt _ (by decide)⟩ hr).trans ((pay66_eq _ _ _).trans ?_)
  refine congrArg₂ (· + ·) (got (n := 256) _ _ (off2_eq c) r e _ hr) ?_
  unfold S0
  exact (pay65_eq _ _).trans (got (n := 256) _ _ (off1_eq _) r e _ (by show r.val = _ + r.val % 256; rw [hs]; omega))

/-- The own quarter after the second. -/
theorem A2_quarter (c : Dev nD) (r e : Fin 512) (hx : r.val / 256 = xOf c) (hy : r.val / 64 % 4 = place (yOf c)) :
    cell (A2 A0 c) r e = cell (A1 A0 c) r e + cell (A1 A0 (src 1 c)) r e
      + cell (A1 A0 (src 2 c)) r e + cell (A1 A0 (src 3 c)) r e := by
  have hr : r.val = 256 * xOf c + 64 * place (yOf c) + (⟨r.val % 64, Nat.mod_lt _ (by decide)⟩ : Fin 64).val := by show r.val = _ + r.val % 64; omega
  have hS : ∀ i : Fin 3, (S1 A0 i (src (rowSrc i) c) (ix2 ⟨r.val % 64, Nat.mod_lt _ (by decide)⟩ e : S64x512.Idx) : EReal)
      = cell (A1 A0 (src (rowSrc i) c)) r e := fun i => by
    obtain ⟨h1, h2⟩ := row c i
    have h3 := i.isLt
    unfold S1
    exact (pay67_eq _ _).trans (got (n := 64) _ _ (off3_eq _ i) r e _ (by show r.val = _ + r.val % 64; rw [h1, h2, back _ (y_lt c) i]; omega))
  unfold A2
  refine (put_hit (n := 64) _ _ _ (off4_eq c) r e ⟨r.val % 64, Nat.mod_lt _ (by decide)⟩ hr).trans ((pay70_eq _ _ _ _ _).trans ?_)
  exact congrArg₂ (· + ·) (congrArg₂ (· + ·) (congrArg₂ (· + ·) (got (n := 64) _ _ (off4_eq c) r e _ hr) (hS 0)) (hS 1)) (hS 2)

/-- The own sixteenth after the third. -/
theorem A3_sixteenth (c : Dev nD) (r e : Fin 512) (hx : r.val / 256 = xOf c) (hy : r.val / 64 % 4 = place (yOf c)) (hz : r.val / 16 % 4 = place (zOf c)) :
    cell (A3 A0 c) r e = cell (A2 A0 c) r e + cell (A2 A0 (src 4 c)) r e
      + cell (A2 A0 (src 5 c)) r e + cell (A2 A0 (src 6 c)) r e := by
  have hr : r.val = 256 * xOf c + 64 * place (yOf c) + 16 * place (zOf c) + (⟨r.val % 16, Nat.mod_lt _ (by decide)⟩ : Fin 16).val := by
    show r.val = _ + r.val % 16; omega
  have hS : ∀ i : Fin 3, (S2 A0 i (src (planeSrc i) c) (ix2 ⟨r.val % 16, Nat.mod_lt _ (by decide)⟩ e : S16x512.Idx) : EReal)
      = cell (A2 A0 (src (planeSrc i) c)) r e := fun i => by
    obtain ⟨h1, h2, h4⟩ := plane c i
    have h3 := i.isLt
    unfold S2
    exact (pay71_eq _ _).trans (got (n := 16) _ _ (off5_eq _ i) r e _ (by show r.val = _ + r.val % 16; rw [h1, h2, h4, back _ (z_lt c) i]; omega))
  unfold A3
  refine (put_hit (n := 16) _ _ _ (off6_eq c) r e ⟨r.val % 16, Nat.mod_lt _ (by decide)⟩ hr).trans ((pay74_eq _ _ _ _ _).trans ?_)
  exact congrArg₂ (· + ·) (congrArg₂ (· + ·) (congrArg₂ (· + ·) (got (n := 16) _ _ (off6_eq c) r e _ hr) (hS 0)) (hS 1)) (hS 2)

/-! ## All devices are reached, each once -/

/-- The devices whose parts meet in one: itself and three others, and so on. -/
def planes (k : Fin 4) (c : Dev nD) : Dev nD := (![c, src 4 c, src 5 c, src 6 c] : Fin 4 → Dev nD) k
def rows (k : Fin 4) (c : Dev nD) : Dev nD := (![c, src 1 c, src 2 c, src 3 c] : Fin 4 → Dev nD) k
def sides (k : Fin 2) (c : Dev nD) : Dev nD := (![c, src 0 c] : Fin 2 → Dev nD) k

theorem reached (c : Dev nD) : Function.Bijective fun p : Fin 4 × Fin 4 × Fin 2 => sides p.2.2 (rows p.2.1 (planes p.1 c)) := by
  rw [Fintype.bijective_iff_injective_and_card]
  refine ⟨?_, rfl⟩
  have h : ∀ (c : Dev nD) (p q : Fin 4 × Fin 4 × Fin 2), sides p.2.2 (rows p.2.1 (planes p.1 c)) = sides q.2.2 (rows q.2.1 (planes q.1 c)) → p = q := by
    decide +kernel
  exact fun p q => h c p q

/-- The sum over all devices, in the order in which the exchanges add. -/
theorem sum_devices (c : Dev nD) (g : Dev nD → EReal) :
    ∑ d, g d = ∑ i : Fin 4, ∑ j : Fin 4, ∑ k : Fin 2, g (sides k (rows j (planes i c))) := by
  rw [← (reached c).sum_comp g, Fintype.sum_prod_type]
  exact Finset.sum_congr rfl fun i _ => Fintype.sum_prod_type _

/-- What every device holds in the end. -/
def total (r e : Fin 512) : EReal := ∑ d : Dev nD, cell (A0 d) r e

/-- After the third exchange the own sixteenth is complete. -/
theorem A3_total (c : Dev nD) (r e : Fin 512) (hx : r.val / 256 = xOf c) (hy : r.val / 64 % 4 = place (yOf c)) (hz : r.val / 16 % 4 = place (zOf c)) :
    cell (A3 A0 c) r e = total A0 r e := by
  have h1 : ∀ d : Dev nD, xOf d = xOf c → cell (A1 A0 d) r e = ∑ k : Fin 2, cell (A0 (sides k d)) r e := fun d h => by
    rw [Fin.sum_univ_two]
    exact A1_half A0 d r e (hx.trans h.symm)
  have h2 : ∀ d : Dev nD, xOf d = xOf c → yOf d = yOf c → cell (A2 A0 d) r e
      = ∑ j : Fin 4, ∑ k : Fin 2, cell (A0 (sides k (rows j d))) r e := fun d h h' => by
    rw [Fin.sum_univ_four, A2_quarter A0 d r e (hx.trans h.symm) (hy.trans (congrArg place h').symm)]
    rw [h1 d h, h1 (src 1 d) ((row d 0).1.trans h), h1 (src 2 d) ((row d 1).1.trans h), h1 (src 3 d) ((row d 2).1.trans h)]
    rfl
  unfold total
  rw [sum_devices c, Fin.sum_univ_four, A3_sixteenth A0 c r e hx hy hz, h2 c rfl rfl, h2 (src 4 c) (plane c 0).1 (plane c 0).2.1,
    h2 (src 5 c) (plane c 1).1 (plane c 1).2.1, h2 (src 6 c) (plane c 2).1 (plane c 2).2.1]
  rfl

/-! ## The sums spread -/

/-- Three blocks stored, and what was there before: a property of a row that every one of them has. -/
theorem three_blocks {n : ℕ} {off : Fin 3 → Fin 2 → ℕ} {h : ∀ i a, off i a + (![n, 512] : Fin 2 → ℕ) a ≤ S512x512.size a} {o : Fin 3 → ℕ}
    (f : OutC Ideal) (w : ∀ i, (Rect.unit (s := S512x512) (off i) ![n, 512] (h i)).shape.Idx → Elt Ideal .f32)
    (ho : ∀ i, off i = ![o i, 0]) (r e : Fin 512) (T : EReal)
    (hw : ∀ (i : Fin 3) (a : Fin n), r.val = o i + a.val → w i (ix2 a e : (⟨2, ![n, 512]⟩ : Shape).Idx) = T)
    (hf : (∀ i : Fin 3, r.val < o i ∨ o i + n ≤ r.val) → cell f r e = T) :
    cell ((Memref.whole cc0_stg3_0).view.writes (Elt Ideal) f [⟨Rect.unit (s := S512x512) (off 2) ![n, 512] (h 2), w 2⟩,
      ⟨Rect.unit (s := S512x512) (off 1) ![n, 512] (h 1), w 1⟩, ⟨Rect.unit (s := S512x512) (off 0) ![n, 512] (h 0), w 0⟩]) r e = T := by
  have hin : ∀ i : Fin 3, ¬ (r.val < o i ∨ o i + n ≤ r.val) → ∃ a : Fin n, r.val = o i + a.val := fun i hi =>
    ⟨⟨r.val - o i, by omega⟩, by show r.val = o i + (r.val - o i); omega⟩
  by_cases m2 : r.val < o 2 ∨ o 2 + n ≤ r.val
  · rw [put_miss f (w 2) _ (ho 2) r e m2]
    by_cases m1 : r.val < o 1 ∨ o 1 + n ≤ r.val
    · rw [put_miss f (w 1) _ (ho 1) r e m1]
      by_cases m0 : r.val < o 0 ∨ o 0 + n ≤ r.val
      · rw [put_miss f (w 0) _ (ho 0) r e m0]
        refine hf fun i => ?_
        match i with
        | 0 => exact m0
        | 1 => exact m1
        | 2 => exact m2
      · obtain ⟨a, ha⟩ := hin 0 m0
        exact (put_hit f (w 0) _ (ho 0) r e a ha).trans (hw 0 a ha)
    · obtain ⟨a, ha⟩ := hin 1 m1
      exact (put_hit f (w 1) _ (ho 1) r e a ha).trans (hw 1 a ha)
  · obtain ⟨a, ha⟩ := hin 2 m2
    exact (put_hit f (w 2) _ (ho 2) r e a ha).trans (hw 2 a ha)

/-- After the fourth exchange the own quarter is complete. -/
theorem A4_total (c : Dev nD) (r e : Fin 512) (hx : r.val / 256 = xOf c) (hy : r.val / 64 % 4 = place (yOf c)) :
    cell (A4 A0 c) r e = total A0 r e := by
  have hz := z_lt c
  unfold A4
  refine three_blocks (n := 16) (off := fun i => k0_off7 c (BitVec.ofNat 32 (1 + i.val))) (h := fun i => k0_off7_inb c i)
    (A3 A0 c) (fun i => k0_pay79 (S3 A0 (src (planeSrc' i) c))) (off7_eq c) r e _ ?_ ?_
  · intro i a ha
    obtain ⟨h1, h2, h3⟩ := plane' c i
    have hi := i.isLt
    have hr : r.val = 256 * xOf (src (planeSrc' i) c) + 64 * place (yOf (src (planeSrc' i) c)) + 16 * place (zOf (src (planeSrc' i) c)) + a.val := by
      rw [h1, h2, h3]; exact ha
    refine (pay79_eq _ _).trans ?_
    unfold S3
    refine (pay75_eq _ _).trans ((got (n := 16) _ _ (off6_eq _) r e a hr).trans (A3_total A0 _ r e (hx.trans h1.symm) (hy.trans (congrArg place h2).symm) ?_))
    have := a.isLt
    have := place_lt _ (Nat.mod_lt (zOf c + 3 - i.val) (by decide : 0 < 4))
    have := place_lt _ (y_lt c)
    rw [h3]; omega
  · intro hm
    refine A3_total A0 c r e hx hy (place_own _ _ hz (Nat.mod_lt _ (by decide)) fun i hi => ?_)
    have := hm i
    omega

/-- After the fifth exchange the own half is complete. -/
theorem A5_total (c : Dev nD) (r e : Fin 512) (hx : r.val / 256 = xOf c) : cell (A5 A0 c) r e = total A0 r e := by
  have hy := y_lt c
  unfold A5
  refine three_blocks (n := 64) (off := fun i => k0_off8 c (BitVec.ofNat 32 (1 + i.val))) (h := fun i => k0_off8_inb c i)
    (A4 A0 c) (fun i => k0_pay86 (S4 A0 (src (rowSrc' i) c))) (off8_eq c) r e _ ?_ ?_
  · intro i a ha
    obtain ⟨h1, h2⟩ := row' c i
    have hi := i.isLt
    have hr : r.val = 256 * xOf (src (rowSrc' i) c) + 64 * place (yOf (src (rowSrc' i) c)) + a.val := by rw [h1, h2]; exact ha
    refine (pay86_eq _ _).trans ?_
    unfold S4
    refine (pay82_eq _ _).trans ((got (n := 64) _ _ (off4_eq _) r e a hr).trans (A4_total A0 _ r e (hx.trans h1.symm) ?_))
    have := a.isLt
    have := place_lt _ (Nat.mod_lt (yOf c + 3 - i.val) (by decide : 0 < 4))
    rw [h2]; omega
  · intro hm
    refine A4_total A0 c r e hx (place_own _ _ hy (Nat.mod_lt _ (by decide)) fun i hi => ?_)
    have := hm i
    omega

/-- After the last exchange every device holds, at every place, the sum over all devices. -/
theorem A6_total (c : Dev nD) (r e : Fin 512) : cell (A6 A0 c) r e = ∑ d : Dev nD, cell (A0 d) r e := by
  have hx := x_lt c
  have hr := r.isLt
  have hs := (side c).2
  unfold A6
  by_cases h : r.val / 256 = xOf c
  · have h1 : r.val < 256 * (1 - xOf c) ∨ 256 * (1 - xOf c) + 256 ≤ r.val := by omega
    refine (put_miss (n := 256) (A5 A0 c) _ [] (off1_eq c) r e h1).trans ?_
    rw [View.writes_nil]
    exact A5_total A0 c r e h
  · refine (put_hit (n := 256) (A5 A0 c) _ [] (off1_eq c) r e ⟨r.val % 256, Nat.mod_lt _ (by decide)⟩ (by show r.val = _ + r.val % 256; omega)).trans ?_
    have hr' : r.val = 256 * xOf (src 13 c) + (⟨r.val % 256, Nat.mod_lt _ (by decide)⟩ : Fin 256).val := by
      show r.val = _ + r.val % 256; rw [hs]; omega
    refine (pay90_eq _ _).trans ?_
    unfold S5
    refine (pay89_eq _ _).trans ?_
    refine (got (n := 256) (k0_off2_inb (src 13 c)) (A5 A0 (src 13 c)) (off2_eq (src 13 c)) r e ⟨r.val % 256, Nat.mod_lt _ (by decide)⟩ hr').trans ?_
    exact A5_total A0 (src 13 c) r e (by rw [hs]; omega)

end Cert.KernelIdeal.Body

end
-- ==== Proof.Mathematics.lean ====
module

public import Idealize.ShloMosaic.Lib.Pointwise

/-!
The attention of one query over the extended reals, and the whole result that the devices compute together, as functions
of the five arrays' elements.
-/

@[expose] public section

noncomputable section

namespace Cert.Proof

open Idealize.ShloMosaic

/-- The scale of the scores, the score of what is masked away, and the value that a maximum starts from. -/
def scale : EReal := Ideal.ofBits .f32 1040187392#32
def masked : EReal := Ideal.ofBits .f32 3463342888#32
def floorMax : EReal := Ideal.ofBits .f32 4286578688#32

/-- Whether the positions `i` and `j` lie in the same block of 64, as a bit. -/
def same (i j : Fin 256) : BitVec 1 := if i.val / 64 = j.val / 64 then 1#1 else 0#1

theorem same_self (i : Fin 256) : same i i = 1#1 := if_pos rfl

/-- The score of position `j` for the query `q` at position `i`. -/
def score (q : Fin 64 → EReal) (K : Fin 256 → Fin 64 → EReal) (i j : Fin 256) : EReal :=
  Scalar.select (same i j) ((∑ l, q l * K j l) * scale) masked

/-- The exponential of a score less the largest. -/
def weight (q : Fin 64 → EReal) (K : Fin 256 → Fin 64 → EReal) (i j : Fin 256) : EReal :=
  Ideal.exp (score q K i j - Finset.fold max floorMax (fun k => score q K i k) Finset.univ)

/-- The attention of the query `q` at position `i`: the values' mean with the normalised weights. -/
def attend (q : Fin 64 → EReal) (K V : Fin 256 → Fin 64 → EReal) (i : Fin 256) (l : Fin 64) : EReal :=
  ∑ j, Ideal.div (weight q K i j) (∑ k, weight q K i k) * V j l

/-- Where lane `l` of the head that column `n` belongs to is among the 8192 columns. -/
def lane (n : Fin 8192) (l : Fin 64) : Fin 8192 := ⟨64 * (n.val / 64) + l.val, by have := n.isLt; have := l.isLt; omega⟩
/-- The head that a column belongs to, and its lane in it. -/
def headOf (n : Fin 8192) : Fin 128 := ⟨n.val / 64, by have := n.isLt; omega⟩
def laneOf (n : Fin 8192) : Fin 64 := ⟨n.val % 64, Nat.mod_lt _ (by decide)⟩

abbrev X3 : Shape := ⟨3, ![2, 256, 512]⟩
abbrev Q2 : Shape := ⟨2, ![512, 8192]⟩
abbrev K4 : Shape := ⟨4, ![2, 256, 128, 64]⟩
abbrev O2 : Shape := ⟨2, ![8192, 512]⟩

variable (x : X3.Idx → EReal) (wq : Q2.Idx → EReal) (k v : K4.Idx → EReal) (wo : O2.Idx → EReal)

/-- Column `n` of the context of position `i` of batch entry `b`. -/
def context (b : Fin 2) (i : Fin 256) (n : Fin 8192) : EReal :=
  attend (fun l => ∑ e : Fin 512, x (ix3 b i e) * wq (ix2 e (lane n l))) (fun j l => k (ix4 b j (headOf n) l))
    (fun j l => v (ix4 b j (headOf n) l)) i (laneOf n)

/-- The result: the context times the output projection. -/
def result (b : Fin 2) (i : Fin 256) (e : Fin 512) : EReal := ∑ n : Fin 8192, context x wq k v b i n * wo (ix2 n e)

/-- Column `t` of the 256 that device `d` has. -/
def ofDev (d : Fin 32) (t : Fin 256) : Fin 8192 := ⟨256 * d.val + t.val, by have := d.isLt; have := t.isLt; omega⟩

/-- The part of the result that the columns of device `d` give. -/
def part (d : Fin 32) (b : Fin 2) (i : Fin 256) (e : Fin 512) : EReal :=
  ∑ t : Fin 256, context x wq k v b i (ofDev d t) * wo (ix2 (ofDev d t) e)

/-- The columns of the devices are all the columns, each once. -/
theorem ofDev_bijective : Function.Bijective fun p : Fin 32 × Fin 256 => ofDev p.1 p.2 := by
  rw [Fintype.bijective_iff_injective_and_card]
  refine ⟨fun p q h => ?_, by simp⟩
  have h' : 256 * p.1.val + p.2.val = 256 * q.1.val + q.2.val := congrArg Fin.val h
  have h1 := p.2.isLt; have h2 := q.2.isLt
  exact Prod.ext (Fin.ext (by omega)) (Fin.ext (by omega))

/-- The devices' parts add up to the result. -/
theorem sum_part (b : Fin 2) (i : Fin 256) (e : Fin 512) : ∑ d, part x wq k v wo d b i e = result x wq k v wo b i e := by
  unfold part result
  rw [← ofDev_bijective.sum_comp fun n => context x wq k v b i n * wo (ix2 n e), Fintype.sum_prod_type]

end Cert.Proof

end
-- ==== Proof.HeadValue.lean ====
module

public import proofs.«01_k».proof.Proof.Attention
public import proofs.«01_k».proof.Proof.Reduce
public import proofs.«01_k».proof.Proof.Mathematics
public import Idealize.ShloMosaic.Lib.Pointwise

/-!
What a device computes for itself, over the extended reals: the mask is the two positions' lying in one block of 64; the
product with the matrix of zeros and ones selects the device's heads; and its partial result is its part of the result.
-/

@[expose] public section

set_option maxRecDepth 16384

noncomputable section

namespace Cert.KernelIdeal.Body

open Cert.KernelIdeal Cert.KernelIdeal.Gen
open Idealize.ShloMosaic
open Idealize.ShloMosaic.TcCoe
open Cert.Proof

/-! ## The mask -/

/-- A position's block, as the kernel computes it from the position: a division that rounds down. -/
def blockWord (i : BitVec 32) : BitVec 32 :=
  Scalar.select
    (IntOp.andi
      (IntOp.cmpi .ne (IntOp.subi (BitVec.setWidth 32 (IntOp.cmpi .sgt i 0#32)) (BitVec.setWidth 32 (IntOp.cmpi .slt i 0#32)))
        (Scalar.subi (Scalar.extui (Scalar.cmpi .sgt 64#32 0#32)) (Scalar.extui (Scalar.cmpi .slt 64#32 0#32))))
      (IntOp.cmpi .ne (IntOp.remsi .vector i 64#32) 0#32))
    (IntOp.subi (IntOp.divsi .vector i 64#32) 1#32) (IntOp.divsi .vector i 64#32)

theorem blockWord_eq (i : Fin 256) : blockWord (BitVec.ofNat 32 i.val) = BitVec.ofNat 32 (i.val / 64) := by
  revert i; decide +kernel

theorem maskRow_apply (i j : Fin 256) : maskRow (ix2 i j : S256x256.Idx) = blockWord (BitVec.ofNat 32 i.val) := by
  unfold maskRow blockWord
  pointwise [k0_pay4, k0_pay3, k0_pay2]

theorem pay5_apply (i j : Fin 256) : k0_pay5 (ix2 i j : S256x256.Idx) = blockWord (BitVec.ofNat 32 j.val) := by
  unfold blockWord
  pointwise [k0_pay5]

/-- The bit of the mask, from the two blocks. -/
def maskBit (a b : BitVec 32) : BitVec 1 :=
  k0_pay8 (fun _ => a) (fun _ => IntOp.cmpi .eq a b) 4#32 (fun _ => IntOp.remsi .vector b (Scalar.select (Scalar.cmpi .eq 4#32 0#32) 1#32 4#32)) 0#32
    (ix2 0 0 : S256x256.Idx)

theorem mask_apply (i j : Fin 256) : maskW (ix2 i j : S256x256.Idx) = same i j := by
  have h : ∀ a b : Fin 4, maskBit (BitVec.ofNat 32 a.val) (BitVec.ofNat 32 b.val) = if a.val = b.val then 1#1 else 0#1 := by
    unfold maskBit
    pointwise [k0_pay8]
    decide +kernel
  have e : maskW (ix2 i j : S256x256.Idx) = maskBit (blockWord (BitVec.ofNat 32 i.val)) (blockWord (BitVec.ofNat 32 j.val)) := by
    unfold maskW maskBit
    pointwise [k0_pay8, k0_pay7]
    rw [maskRow_apply, pay5_apply]
  have hi := i.isLt; have hj := j.isLt
  rw [e, blockWord_eq, blockWord_eq]
  exact h ⟨i.val / 64, by omega⟩ ⟨j.val / 64, by omega⟩

/-! ## The device's heads -/

/-- The buffers' contents, as functions of the arrays' indices. -/
abbrev asX (f : (cc0_stg0_0 : Ref sig .tc).ty.Contents (Elt Ideal)) : S2x256x512.Idx → EReal := f
abbrev asWq (f : (cc0_stg1_0 : Ref sig .tc).ty.Contents (Elt Ideal)) : S512x256.Idx → EReal := f
abbrev asWo (f : (cc0_stg2_0 : Ref sig .tc).ty.Contents (Elt Ideal)) : S256x512.Idx → EReal := f
abbrev asKv (f : KvC Ideal) : S2x256x64x128.Idx → EReal := f

theorem selected_bit : ∀ (c : Dev nD) (h : Fin 4) (p : Fin 128),
    IntOp.cmpi .eq (BitVec.ofNat 32 p.val) (IntOp.addi (Scalar.muli (Scalar.remsi (Scalar.divsi (Dev.word c) 1#32) 32#32) 4#32) (BitVec.ofNat 32 h.val))
      = if p.val = 4 * c.val + h.val then 1#1 else 0#1 := by
  decide +kernel

/-- The head of all that is head `h` of device `c`. -/
def ownHead (c : Dev nD) (h : Fin 4) : Fin 128 := ⟨4 * c.val + h.val, by have : c.val < 32 := c.isLt; have := h.isLt; omega⟩

theorem selW_apply (c : Dev nD) (h : Fin 4) (p : Fin 128) :
    (selW (F := Ideal) c (ix2 h p : S4x128.Idx) : EReal) = if p = ownHead c h then 1 else 0 := by
  unfold selW
  pointwise [k0_pay9]
  rw [selected_bit]
  by_cases e : p = ownHead c h
  · rw [if_pos e, if_pos (show p.val = 4 * c.val + h.val from congrArg Fin.val e)]
    show (((BitVec.setWidth 32 1#1).toInt : ℝ) : EReal) = 1
    norm_num
  · rw [if_neg e, if_neg fun h' : p.val = 4 * c.val + h.val => e (Fin.ext h')]
    show (((BitVec.setWidth 32 0#1).toInt : ℝ) : EReal) = 0
    norm_num

/-- The device's four heads of a chunk are the chunk's heads of those numbers. -/
theorem headsOf_apply (c : Dev nD) (g : KvC Ideal) (b sh : Fin 2) (h : Fin 4) (p : Fin 128) (l : Fin 64) (P : Fin 256) (hP : P.val = 128 * sh.val + p.val) :
    (headsOf c g b sh (ix3 h p l : S4x128x64.Idx) : EReal) = asKv g (ix4 b P l (ownHead c h)) := by
  unfold headsOf
  pointwise [k0_pay10]
  rw [Finset.sum_eq_single (ownHead c h)]
  · rw [selW_apply, if_pos rfl, one_mul]
    refine congrArg g (funext fun a => Fin.ext ?_)
    match a with
    | 0 => show b.val + 1 * 0 = b.val; omega
    | 1 => show 128 * sh.val + 1 * p.val = P.val; omega
    | 2 => show 0 + 1 * l.val = l.val; omega
    | 3 => show 0 + 1 * (ownHead c h).val = (ownHead c h).val; omega
  · intro q _ hq
    rw [selW_apply, if_neg hq, zero_mul]
  · exact fun h => absurd (Finset.mem_univ _) h

theorem localOf_apply (c : Dev nD) (g : KvC Ideal) (b : Fin 2) (P : Fin 256) (h : Fin 4) (l : Fin 64) (t : Fin 256) (ht : t.val = 64 * h.val + l.val) :
    (localOf c g (ix3 b P t : S2x256x256.Idx) : EReal) = asKv g (ix4 b P l (ownHead c h)) := by
  have hl := l.isLt
  have e1 : (⟨t.val / 64, by omega⟩ : Fin 4) = h := Fin.ext (by show t.val / 64 = h.val; omega)
  have e2 : (⟨t.val % 64, Nat.mod_lt _ (by decide)⟩ : Fin 64) = l := Fin.ext (by show t.val % 64 = l.val; omega)
  refine Eq.trans ?_ (headsOf_apply c g b ⟨P.val / 128, by omega⟩ h ⟨P.val % 128, Nat.mod_lt _ (by decide)⟩ l P (by show P.val = 128 * (P.val / 128) + P.val % 128; omega))
  exact congrArg₂ (fun (h : Fin 4) (l : Fin 64) => headsOf c g b ⟨P.val / 128, by omega⟩ (ix3 h ⟨P.val % 128, Nat.mod_lt _ (by decide)⟩ l : S4x128x64.Idx)) e1 e2

/-! ## The attention of one head -/

variable (q : FVec Ideal S512x256 .f32) (fk fv : HeadsC Ideal)

/-- Column `t` of a row of 256: lane `l` of head `h`. -/
def col (h : Fin 4) (l : Fin 64) : Fin 256 := ⟨64 * h.val + l.val, by have := h.isLt; have := l.isLt; omega⟩
/-- Row `i` of batch entry `b` among the 512. -/
def rowOf (b : Fin 2) (i : Fin 256) : Fin 512 := ⟨256 * b.val + i.val, by have := b.isLt; have := i.isLt; omega⟩

theorem headSlice_apply (f : HeadsC Ideal) (b : Fin 2) (h : Fin 4) (a : Fin 1) (i : Fin 256) (l : Fin 64) :
    (headSlice f b h (ix3 a i l : S1x256x64.Idx) : EReal) = f (ix3 b i (col h l) : S2x256x256.Idx) := by
  unfold headSlice
  refine congrArg f (funext fun y => Fin.ext ?_)
  have := a.isLt
  match y with
  | 0 => show b.val + 1 * a.val = b.val; omega
  | 1 => show 0 + 1 * i.val = i.val; omega
  | 2 => show 64 * h.val + 1 * l.val = 64 * h.val + l.val; omega

theorem querySlice_apply (b : Fin 2) (h : Fin 4) (i : Fin 256) (l : Fin 64) :
    (querySlice q b h (ix2 i l : S256x64.Idx) : EReal) = q (ix2 (rowOf b i) (col h l) : S512x256.Idx) := by
  unfold querySlice
  pointwise
  rfl

theorem headOut_apply (b : Fin 2) (h : Fin 4) (i : Fin 256) (l : Fin 64) :
    (headOut q maskW fk fv b h (ix2 i l : S256x64.Idx) : EReal)
      = attend (fun l => q (ix2 (rowOf b i) (col h l) : S512x256.Idx)) (fun j l => fk (ix3 b j (col h l) : S2x256x256.Idx))
          (fun j l => fv (ix3 b j (col h l) : S2x256x256.Idx)) i l := by
  unfold headOut
  pointwise [k0_pay62]
  simp only [mask_apply, headSlice_apply, querySlice_apply]
  rfl

theorem batchOut_apply (mk : IVec S256x256 1) (b : Fin 2) (i : Fin 256) (h : Fin 4) (l : Fin 64) :
    batchOut q mk fk fv b (ix2 i (col h l) : S256x256.Idx) = headOut q mk fk fv b h (ix2 i l : S256x64.Idx) := by
  have hc : (col h l).val = 64 * h.val + l.val := rfl
  have hl := l.isLt; have hh := h.isLt
  unfold batchOut
  pointwise
  have key : ∀ (h' : Fin 4) (l' : Fin 64), h'.val = h.val → l'.val = l.val →
      headOut q mk fk fv b h' (ix2 i l' : S256x64.Idx) = headOut q mk fk fv b h (ix2 i l : S256x64.Idx) := fun h' l' e1 e2 => by
    rw [Fin.ext e1, Fin.ext e2]
  generalize col h l = t at hc ⊢
  by_cases h0 : t.val < 64
  · rw [dif_pos h0]
    exact key 0 ⟨t.val, _⟩ (by show 0 = h.val; omega) (by show t.val = l.val; omega)
  rw [dif_neg h0]
  by_cases h1 : t.val - 64 < 64
  · rw [dif_pos h1]
    exact key 1 ⟨t.val - 64, _⟩ (by show 1 = h.val; omega) (by show t.val - 64 = l.val; omega)
  rw [dif_neg h1]
  by_cases h2 : t.val - 64 - 64 < 64
  · rw [dif_pos h2]
    exact key 2 ⟨t.val - 64 - 64, _⟩ (by show 2 = h.val; omega) (by show t.val - 64 - 64 = l.val; omega)
  rw [dif_neg h2]
  exact key 3 ⟨t.val - 64 - 64 - 64, _⟩ (by show 3 = h.val; omega) (by show t.val - 64 - 64 - 64 = l.val; omega)

/-! ## The whole partial result -/

theorem qOf_apply (f0 : (cc0_stg0_0 : Ref sig .tc).ty.Contents (Elt Ideal)) (f1 : (cc0_stg1_0 : Ref sig .tc).ty.Contents (Elt Ideal))
    (b : Fin 2) (i : Fin 256) (t : Fin 256) :
    (qOf f0 f1 (ix2 (rowOf b i) t : S512x256.Idx) : EReal)
      = ∑ e : Fin 512, asX f0 (ix3 b i e) * asWq f1 (ix2 e t) := by
  have hi := i.isLt
  unfold qOf
  pointwise [k0_pay1]
  refine Finset.sum_congr rfl fun e _ => congrArg₂ (fun a b : EReal => a * b) (congrArg f0 (funext fun a => Fin.ext ?_)) (congrArg f1 (funext fun a => Fin.ext ?_))
  · match a with
    | 0 => show 0 + 1 * ((256 * b.val + i.val) / 256) = b.val; omega
    | 1 => show 0 + 1 * ((256 * b.val + i.val) % 256) = i.val; omega
    | 2 => show 0 + 1 * e.val = e.val; omega
  · match a with
    | 0 => show 0 + 1 * e.val = e.val; omega
    | 1 => show 0 + 1 * t.val = t.val; omega

theorem attnOut_apply (mk : IVec S256x256 1) (fo : (cc0_stg2_0 : Ref sig .tc).ty.Contents (Elt Ideal)) (b : Fin 2) (i : Fin 256) (e : Fin 512) :
    cell (attnOut q mk fk fv fo) (rowOf b i) e
      = ∑ t : Fin 256, (batchOut q mk fk fv b (ix2 i t : S256x256.Idx) : EReal) * asWo fo (ix2 t e) := by
  have hi := i.isLt
  have hr : (rowOf b i).val = 256 * b.val + i.val := rfl
  unfold cell attnOut
  pointwise
  refine Finset.sum_congr rfl fun t _ => congrArg₂ (fun a b : EReal => a * b) ?_ (congrArg fo (funext fun a => Fin.ext ?_))
  · by_cases h : (rowOf b i).val < 256
    · rw [dif_pos h]
      obtain rfl : b = 0 := Fin.ext (by show b.val = 0; omega)
      exact congrArg (fun i => batchOut q mk fk fv 0 (ix2 i t : S256x256.Idx)) (Fin.ext (by show (rowOf 0 i).val = i.val; rw [hr]; show 256 * 0 + i.val = i.val; omega))
    · rw [dif_neg h]
      obtain rfl : b = 1 := Fin.ext (by show b.val = 1; have := b.isLt; omega)
      exact congrArg (fun i => batchOut q mk fk fv 1 (ix2 i t : S256x256.Idx)) (Fin.ext (by show (rowOf 1 i).val - 256 = i.val; rw [hr]; show 256 * 1 + i.val - 256 = i.val; omega))
  · match a with
    | 0 => show 0 + 1 * t.val = t.val; omega
    | 1 => show 0 + 1 * e.val = e.val; omega

/-- A device's partial result is its part of the result: of arrays whose blocks and rearrangements it holds. -/
theorem partial_apply (c : Dev nD) (f0 : (cc0_stg0_0 : Ref sig .tc).ty.Contents (Elt Ideal)) (f1 : (cc0_stg1_0 : Ref sig .tc).ty.Contents (Elt Ideal))
    (gk gv : KvC Ideal) (fo : (cc0_stg2_0 : Ref sig .tc).ty.Contents (Elt Ideal))
    (x : X3.Idx → EReal) (wq : Q2.Idx → EReal) (k v : K4.Idx → EReal) (wo : O2.Idx → EReal)
    (hx : ∀ (b : Fin 2) (i : Fin 256) (e : Fin 512), asX f0 (ix3 b i e) = x (ix3 b i e))
    (hq : ∀ (e : Fin 512) (t : Fin 256), asWq f1 (ix2 e t) = wq (ix2 e (ofDev c t)))
    (hk : ∀ (b : Fin 2) (P : Fin 256) (h : Fin 128) (l : Fin 64), asKv gk (ix4 b P l h) = k (ix4 b P h l))
    (hv : ∀ (b : Fin 2) (P : Fin 256) (h : Fin 128) (l : Fin 64), asKv gv (ix4 b P l h) = v (ix4 b P h l))
    (ho : ∀ (t : Fin 256) (e : Fin 512), asWo fo (ix2 t e) = wo (ix2 (ofDev c t) e))
    (b : Fin 2) (i : Fin 256) (e : Fin 512) :
    cell (attnOut (qOf f0 f1) maskW (localOf c gk) (localOf c gv) fo) (rowOf b i) e = part x wq k v wo c b i e := by
  rw [attnOut_apply]
  refine Finset.sum_congr rfl fun t _ => congrArg₂ (fun a b : EReal => a * b) ?_ (ho t e)
  obtain ⟨h, l, rfl⟩ : ∃ (h : Fin 4) (l : Fin 64), t = col h l :=
    ⟨⟨t.val / 64, by omega⟩, ⟨t.val % 64, Nat.mod_lt _ (by decide)⟩, Fin.ext (by show t.val = 64 * (t.val / 64) + t.val % 64; omega)⟩
  have hl := l.isLt; have hh := h.isLt; have hd : c.val < 32 := c.isLt
  have e1 : headOf (ofDev c (col h l)) = ownHead c h := Fin.ext (by show (256 * c.val + (64 * h.val + l.val)) / 64 = 4 * c.val + h.val; omega)
  have e2 : laneOf (ofDev c (col h l)) = l := Fin.ext (by show (256 * c.val + (64 * h.val + l.val)) % 64 = l.val; omega)
  have e3 : ∀ l', lane (ofDev c (col h l)) l' = ofDev c (col h l') := fun l' => Fin.ext (by
    show 64 * ((256 * c.val + (64 * h.val + l.val)) / 64) + l'.val = 256 * c.val + (64 * h.val + l'.val); omega)
  rw [batchOut_apply, headOut_apply]
  unfold context
  rw [e1, e2]
  simp only [e3, qOf_apply, hx, hq, localOf_apply c gk _ _ _ _ (col _ _) rfl, localOf_apply c gv _ _ _ _ (col _ _) rfl, hk, hv]

end Cert.KernelIdeal.Body

end
-- ==== Proof.Result.lean ====
module

public import proofs.«01_k».proof.Proof.Frames
public import proofs.«01_k».proof.Proof.HeadValue
public import Idealize.ShloMosaic.Lib.Pipeline.ValueKit

/-!
What a device's result array holds when the program has ended, over the extended reals: the mathematical result of the
whole arrays of which the devices' arguments are the blocks.
-/

@[expose] public section

set_option maxRecDepth 16384

noncomputable section

namespace Cert.KernelIdeal.Body

open Cert.KernelIdeal Cert.KernelIdeal.Gen
open Idealize.ShloMosaic
open Idealize.ShloMosaic.TcCoe
open Cert.Proof

variable {F : FTy → Type} [FloatOps F] (m : (ℓ : Loc nD τ sig) → Buf (Elt F) ℓ)

/-! ## The arrays that the program's parts read and leave -/

/-- The call's three blocks are the three arguments whole. -/
theorem xIn_eq (c : Dev nD) : xIn m c = m ((c : Thread nD τ).loc main_arg0) := by
  rw [← V_main_arg0 m c]
  exact Memref.read_access_unit_zero (Elt F) main_arg0
    (show (fun a => (win0_0.index t0_0) a * main_arg0.ty.shape.size a) = fun _ => 0 from funext fun a => by fin_cases a <;> decide)
    (fun a => by fin_cases a <;> decide) _
theorem wqIn_eq (c : Dev nD) : wqIn m c = m ((c : Thread nD τ).loc main_arg1) := by
  rw [← V_main_arg1 m c]
  exact Memref.read_access_unit_zero (Elt F) main_arg1
    (show (fun a => (win0_1.index t0_0) a * main_arg1.ty.shape.size a) = fun _ => 0 from funext fun a => by fin_cases a <;> decide)
    (fun a => by fin_cases a <;> decide) _
theorem woIn_eq (c : Dev nD) : woIn m c = m ((c : Thread nD τ).loc main_arg4) := by
  rw [← V_main_arg4 m c]
  exact Memref.read_access_unit_zero (Elt F) main_arg4
    (show (fun a => (win0_2.index t0_0) a * main_arg4.ty.shape.size a) = fun _ => 0 from funext fun a => by fin_cases a <;> decide)
    (fun a => by fin_cases a <;> decide) _

/-- The keys and the values with their last two axes exchanged, as the call finds them. -/
theorem keys_eq (c : Dev nD) : V m c main_v1
    = transpose S2x256x64x128 [0, 1, 3, 2] (m ((c : Thread nD τ).loc main_arg2)) transposes_S2x256x128x64_S2x256x64x128_0_1_3_2 := by
  show StableHlo.after hostOps0 (fun b => m (c, b)) (Proc.devRef .tc main_v1) = _
  after_results
theorem values_eq (c : Dev nD) : V m c main_v2
    = transpose S2x256x64x128 [0, 1, 3, 2] (m ((c : Thread nD τ).loc main_arg3)) transposes_S2x256x128x64_S2x256x64x128_0_1_3_2 := by
  show StableHlo.after hostOps0 (fun b => m (c, b)) (Proc.devRef .tc main_v2) = _
  after_results

/-- The call leaves the sum over the devices in its result's array. -/
theorem out_eq (c : Dev nD) : (dat m c).arrAt 3 cfg0.N = A6 (partials m) c := by
  refine (dat m c).arrAt_eq_of_after_last 3 t0_0 (by decide +kernel) _ fun j => ?_
  rw [after_out]
  blk_simp

/-- The result's array is that one, cut at row 256 into the batch's two entries. -/
theorem final_eq (c : Dev nD) : V2 m c (Proc.devRef .tc main_v4) = shapeCast S2x256x512 (A6 (partials m) c) shapeCasts_S512x512_S2x256x512 := by
  rw [← out_eq, ← V1_out]
  unfold V2
  after_results
  rfl

/-! ## Over the extended reals -/

/-- An element of a device's result is the sum of the devices' parts of it. -/
theorem final_apply (m : (ℓ : Loc nD τ sig) → Buf (Elt Ideal) ℓ) (c : Dev nD) (b : Fin 2) (i : Fin 256) (e : Fin 512) :
    asX (V2 m c (Proc.devRef .tc main_v4)) (ix3 b i e) = ∑ d : Dev nD, cell (partials m d) (rowOf b i) e := by
  rw [final_eq, ← A6_total (partials m) c]
  unfold asX cell rowOf
  pointwise
  rw [show (⟨b.val * 256 + i.val, by have := b.isLt; have := i.isLt; omega⟩ : Fin 512) = rowOf b i from Fin.ext (by show b.val * 256 + i.val = 256 * b.val + i.val; omega)]
  rfl

/-- A device's partial product is its part of the result of the whole arrays. -/
theorem partials_apply (m : (ℓ : Loc nD τ sig) → Buf (Elt Ideal) ℓ) (c : Dev nD)
    (x : X3.Idx → EReal) (wq : Q2.Idx → EReal) (k v : K4.Idx → EReal) (wo : O2.Idx → EReal)
    (hx : m ((c : Thread nD τ).loc main_arg0) = x) (hq : m ((c : Thread nD τ).loc main_arg1) = Layout.block ⟨2, ![512, 256]⟩ ⟨2, ![512, 8192]⟩ 1 32 c wq)
    (hk : m ((c : Thread nD τ).loc main_arg2) = k) (hv : m ((c : Thread nD τ).loc main_arg3) = v)
    (ho : m ((c : Thread nD τ).loc main_arg4) = Layout.block ⟨2, ![256, 512]⟩ ⟨2, ![8192, 512]⟩ 0 32 c wo)
    (b : Fin 2) (i : Fin 256) (e : Fin 512) : cell (partials m c) (rowOf b i) e = part x wq k v wo c b i e := by
  refine partial_apply c _ _ _ _ _ x wq k v wo (fun b i e => ?_) (fun e t => ?_) (fun b P h l => ?_) (fun b P h l => ?_) (fun t e => ?_) b i e
  · rw [xIn_eq, hx]
  · rw [wqIn_eq, hq]
    show wq _ = _
    refine congrArg wq (funext fun a => Fin.ext ?_)
    match a with
    | 0 => rfl
    | 1 => show c.val * 256 + t.val = 256 * c.val + t.val; omega
  · rw [keys_eq, hk]
    unfold asKv
    pointwise
  · rw [values_eq, hv]
    unfold asKv
    pointwise
  · rw [woIn_eq, ho]
    show wo _ = _
    refine congrArg wo (funext fun a => Fin.ext ?_)
    match a with
    | 0 => show c.val * 256 + t.val = 256 * c.val + t.val; omega
    | 1 => rfl

/-- A device's result, element by element, is the mathematical result of the whole arrays. -/
theorem result_apply (m : (ℓ : Loc nD τ sig) → Buf (Elt Ideal) ℓ)
    (x : X3.Idx → EReal) (wq : Q2.Idx → EReal) (k v : K4.Idx → EReal) (wo : O2.Idx → EReal)
    (h : ∀ c : Dev nD, m ((c : Thread nD τ).loc main_arg0) = x
      ∧ m ((c : Thread nD τ).loc main_arg1) = Layout.block ⟨2, ![512, 256]⟩ ⟨2, ![512, 8192]⟩ 1 32 c wq
      ∧ m ((c : Thread nD τ).loc main_arg2) = k ∧ m ((c : Thread nD τ).loc main_arg3) = v
      ∧ m ((c : Thread nD τ).loc main_arg4) = Layout.block ⟨2, ![256, 512]⟩ ⟨2, ![8192, 512]⟩ 0 32 c wo)
    (c : Dev nD) (b : Fin 2) (i : Fin 256) (e : Fin 512) :
    asX (V2 m c (Proc.devRef .tc main_v4)) (ix3 b i e) = result x wq k v wo b i e := by
  rw [final_apply, ← sum_part]
  refine Finset.sum_congr rfl fun d _ => ?_
  obtain ⟨hx, hq, hk, hv, ho⟩ := h d
  exact partials_apply m d x wq k v wo hx hq hk hv ho b i e

end Cert.KernelIdeal.Body

end
-- ==== Proof.RefValue.lean ====
module

public import proofs.«01_k».proof.Proof.Mathematics
public import proofs.«01_k».proof.Proof.Gen.ReferenceIdeal.Run

/-!
The reference's result over the extended reals: its element is the mathematical result of the five arguments.
-/

@[expose] public section

set_option maxRecDepth 16384

noncomputable section

namespace Cert.ReferenceIdeal.Value

open Cert.ReferenceIdeal Cert.ReferenceIdeal.Gen
open Idealize.ShloMosaic
open Idealize.ShloMosaic.TcCoe
open Cert.Proof

/-! ## The mask -/

/-- The positions' blocks: a division by 64 that rounds down. -/
def blocks : IVec S256 32 :=
  select
    (andi
      (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The number that the blocks' remainders are taken by: 4. -/
def four : IVec S_ 32 :=
  select (cmpi .eq (id (constantI S_ 32 4#32)) (constantI S_ 32 0#32)) (constantI S_ 32 1#32) (id (constantI S_ 32 4#32))

/-- The remainders of an array of numbers by 4, of the sign of 4. -/
def remainders {s : Shape} (h : S_.BroadcastsInDim s (![] : Fin 0 → Fin s.rank)) (w : IVec s 32) : IVec s 32 :=
  select
    (andi
      (cmpi .ne (cmpi .slt (Host.remsi w (broadcastInDim s ![] h four)) (broadcastInDim s ![] h (constantI S_ 32 0#32)))
        (broadcastInDim s ![] h (cmpi .slt four (constantI S_ 32 0#32))))
      (cmpi .ne (Host.remsi w (broadcastInDim s ![] h four)) (broadcastInDim s ![] h (constantI S_ 32 0#32))))
    (addi (Host.remsi w (broadcastInDim s ![] h four)) (broadcastInDim s ![] h four))
    (Host.remsi w (broadcastInDim s ![] h four))

/-- The mask: the two blocks are equal, or their remainders by 4 are. -/
def keep : IVec S256x256 1 :=
  ori
    (cmpi .eq (broadcastInDim S256x256 ![0, 1] bcast_S256x1_S256x256_0_1 (broadcastInDim S256x1 ![0] bcast_S256_S256x1_0 blocks))
      (broadcastInDim S256x256 ![0, 1] bcast_S1x256_S256x256_0_1 (broadcastInDim S1x256 ![1] bcast_S256_S1x256_1 blocks)))
    (cmpi .eq
      (broadcastInDim S256x256 ![0, 1] bcast_S1x256_S256x256_0_1
        (remainders bcast_S_S1x256 (broadcastInDim S1x256 ![1] bcast_S256_S1x256_1 blocks)))
      (broadcastInDim S256x256 ![0, 1] bcast_S256x1_S256x256_0_1
        (remainders bcast_S_S256x1 (broadcastInDim S256x1 ![0] bcast_S256_S256x1_0 blocks))))

/-- The positions that keep at least one position. -/
def keeps : IVec S256 1 := Host.reduce IntOp.ori keep (constantI S_ 1 0#1) reducesTo_S256x256_S256_d1 h_S_

/-- The same, along the rows of every head. -/
def keepsRow : IVec S1x1x256x1 1 := broadcastInDim S1x1x256x1 ![2] bcast_S256_S1x1x256x1_2 keeps

/-! ## The attention -/

section

variable {F : FTy → Type} [FloatOps F]

/-- The masked scores of the queries. -/
def scores (x : FVec F S2x256x512 .f32) (wq : FVec F S512x8192 .f32) (k : FVec F S2x256x128x64 .f32) : FVec F S2x128x256x256 .f32 :=
  select
    (broadcastInDim S2x128x256x256 ![0, 1, 2, 3] bcast_S1x1x256x256_S2x128x256x256_0_1_2_3
      (broadcastInDim S1x1x256x256 ![2, 3] bcast_S256x256_S1x1x256x256_2_3 keep))
    (mulf
      (Host.dotGeneral dot_S2x256x128x64_S2x256x128x64_S2x128x256x256_3_3_1_1_02_02 none
        (shapeCast _ (Host.dotGeneral dot_S2x256x512_S512x8192_S2x256x8192_2_0_01_1_n_n none x wq) shapeCasts_S2x256x8192_S2x256x128x64) k)
      (broadcastInDim S2x128x256x256 ![] bcast_S_S2x128x256x256 (constant S_ .f32 0x3E000000#32)))
    (broadcastInDim S2x128x256x256 ![] bcast_S_S2x128x256x256 (id (constant S_ .f32 0xCE6E6B28#32)))

/-- The exponentials of the scores less their rows' largest. -/
def exps (s : FVec F S2x128x256x256 .f32) : FVec F S2x128x256x256 .f32 :=
  Host.exp (subf s
    (broadcastInDim S2x128x256x256 ![0, 1, 2, 3] bcast_S2x128x256x1_S2x128x256x256_0_1_2_3
      (broadcastInDim S2x128x256x1 ![0, 1, 2] bcast_S2x128x256_S2x128x256x1_0_1_2
        (Host.reduce FloatOps.maximumf s (constant S_ .f32 0xFF800000#32) reducesTo_S2x128x256x256_S2x128x256_d3 h_S_))))

/-- The exponentials over their rows' sums, where a row keeps a position. -/
def shares (w : FVec F S2x128x256x256 .f32) : FVec F S2x128x256x256 .f32 :=
  select (broadcastInDim S2x128x256x256 ![0, 1, 2, 3] bcast_S1x1x256x1_S2x128x256x256_0_1_2_3 keepsRow)
    (Host.divf w
      (broadcastInDim S2x128x256x256 ![0, 1, 2, 3] bcast_S2x128x256x1_S2x128x256x256_0_1_2_3
        (select (broadcastInDim S2x128x256x1 ![0, 1, 2, 3] bcast_S1x1x256x1_S2x128x256x1_0_1_2_3 keepsRow)
          (broadcastInDim S2x128x256x1 ![0, 1, 2] bcast_S2x128x256_S2x128x256x1_0_1_2
            (Host.reduceAdd w (constant S_ .f32 0x00000000#32) reducesTo_S2x128x256x256_S2x128x256_d3 h_S_))
          (broadcastInDim S2x128x256x1 ![] bcast_S_S2x128x256x1 (id (constant S_ .f32 0x3F800000#32))))))
    (broadcastInDim S2x128x256x256 ![] bcast_S_S2x128x256x256 (id (constant S_ .f32 0x00000000#32)))

/-- The heads' contexts: the values' means with those shares. -/
def contexts (v : FVec F S2x256x128x64 .f32) (p : FVec F S2x128x256x256 .f32) : FVec F S2x128x64x256 .f32 :=
  Host.dotGeneral dot_S2x256x128x64_S2x128x256x256_S2x128x64x256_1_3_3_2_02_01 none v p

/-- The heads side by side, times the output projection. -/
def project (t : FVec F S2x128x64x256 .f32) (wo : FVec F S8192x512 .f32) : FVec F S2x256x512 .f32 :=
  Host.dotGeneral dot_S2x256x8192_S8192x512_S2x256x512_2_0_01_1_n_n none
    (shapeCast _ (transpose S2x256x128x64 [0, 3, 1, 2] t transposes_S2x128x64x256_S2x256x128x64_0_3_1_2) shapeCasts_S2x256x128x64_S2x256x8192) wo

/-- The reference's result is made of these. -/
theorem res_eq (m : (ℓ : Loc nD τ sig) → Buf (Elt F) ℓ) (c : Dev nD) :
    res_main_v39 m c
      = project (contexts (m ((c.tc : Thread nD τ).loc main_arg3))
          (shares (exps (scores (m ((c.tc : Thread nD τ).loc main_arg0)) (m ((c.tc : Thread nD τ).loc main_arg1)) (m ((c.tc : Thread nD τ).loc main_arg2))))))
        (m ((c.tc : Thread nD τ).loc main_arg4)) := by
  unfold res_main_v39
  rfl

end

/-! ## Element by element -/

theorem blocks_apply (i : Fin 256) : blocks (ix1 i : S256.Idx) = BitVec.ofNat 32 (i.val / 64) := by
  unfold blocks
  pointwise [id_eq]
  revert i
  decide +kernel

/-- The bit of the mask, from the two blocks' numbers. -/
def keepBit (a b : BitVec 32) : BitVec 1 :=
  IntOp.ori (IntOp.cmpi .eq a b)
    (IntOp.cmpi .eq (remainders bcast_S_S1x256 (fun _ => b) (ix2 0 0 : S1x256.Idx)) (remainders bcast_S_S1x256 (fun _ => a) (ix2 0 0 : S1x256.Idx)))

theorem keepBit_eq : ∀ a b : Fin 4, keepBit (BitVec.ofNat 32 a.val) (BitVec.ofNat 32 b.val) = if a.val = b.val then 1#1 else 0#1 := by
  unfold keepBit remainders four
  pointwise [id_eq]
  decide +kernel

theorem keep_apply (i j : Fin 256) : keep (ix2 i j : S256x256.Idx) = same i j := by
  have e : keep (ix2 i j : S256x256.Idx) = keepBit (blocks (ix1 i)) (blocks (ix1 j)) := by
    unfold keep keepBit remainders four
    pointwise [id_eq]
  have hi := i.isLt; have hj := j.isLt
  rw [e, blocks_apply, blocks_apply]
  exact keepBit_eq ⟨i.val / 64, by omega⟩ ⟨j.val / 64, by omega⟩

theorem keeps_apply (i : Fin 256) : keeps (ix1 i : S256.Idx) = 1#1 := by
  unfold keeps
  pointwise
  rw [← Finset.insert_erase (Finset.mem_univ i), Finset.fold_insert (Finset.notMem_erase i _), keep_apply, same_self]
  exact (by decide : ∀ a : BitVec 1, IntOp.ori 1#1 a = 1#1) _

theorem keepsRow_apply (i : Fin 256) : keepsRow (ix4 0 0 i 0 : S1x1x256x1.Idx) = 1#1 := by
  unfold keepsRow
  pointwise [keeps_apply]

section

variable (x : FVec Ideal S2x256x512 .f32) (wq : FVec Ideal S512x8192 .f32) (k v : FVec Ideal S2x256x128x64 .f32) (wo : FVec Ideal S8192x512 .f32)

/-- Lane `l` of the query of head `h` at position `i`. -/
def queryOf (b : Fin 2) (h : Fin 128) (i : Fin 256) (l : Fin 64) : EReal :=
  ∑ e : Fin 512, x (ix3 b i e) * wq (ix2 e ⟨h.val * 64 + l.val, by have := h.isLt; have := l.isLt; omega⟩)

theorem scores_apply (b : Fin 2) (h : Fin 128) (i j : Fin 256) :
    (scores x wq k (ix4 b h i j : S2x128x256x256.Idx) : EReal) = score (queryOf x wq b h i) (fun j l => k (ix4 b j h l)) i j := by
  unfold scores
  pointwise [id_eq, keep_apply]
  rfl

theorem exps_apply (s : FVec Ideal S2x128x256x256 .f32) (b : Fin 2) (h : Fin 128) (i j : Fin 256) :
    (exps s (ix4 b h i j : S2x128x256x256.Idx) : EReal)
      = Ideal.exp ((s (ix4 b h i j) : EReal) - Finset.fold max floorMax (fun k => (s (ix4 b h i k) : EReal)) Finset.univ) := by
  unfold exps
  pointwise
  rfl

theorem shares_apply (w : FVec Ideal S2x128x256x256 .f32) (b : Fin 2) (h : Fin 128) (i j : Fin 256) :
    (shares w (ix4 b h i j : S2x128x256x256.Idx) : EReal)
      = Ideal.div (w (ix4 b h i j)) (∑ k, (w (ix4 b h i k) : EReal)) := by
  unfold shares
  pointwise [keepsRow_apply]

theorem contexts_apply (p : FVec Ideal S2x128x256x256 .f32) (b : Fin 2) (h : Fin 128) (l : Fin 64) (i : Fin 256) :
    (contexts v p (ix4 b h l i : S2x128x64x256.Idx) : EReal) = ∑ j : Fin 256, (v (ix4 b j h l) : EReal) * p (ix4 b h i j) := by
  unfold contexts
  pointwise

theorem project_apply (t : FVec Ideal S2x128x64x256 .f32) (b : Fin 2) (i : Fin 256) (e : Fin 512) :
    (project t wo (ix3 b i e : S2x256x512.Idx) : EReal) = ∑ n : Fin 8192, (t (ix4 b (headOf n) (laneOf n) i) : EReal) * wo (ix2 n e) := by
  unfold project
  pointwise
  rfl

/-- The query of a column's head takes the lanes of that head. -/
theorem queryOf_head (b : Fin 2) (n : Fin 8192) (i : Fin 256) :
    queryOf x wq b (headOf n) i = fun l => ∑ e : Fin 512, x (ix3 b i e) * wq (ix2 e (lane n l)) := by
  funext l
  unfold queryOf
  refine Finset.sum_congr rfl fun e _ => ?_
  rw [show (⟨(headOf n).val * 64 + l.val, by have := (headOf n).isLt; have := l.isLt; omega⟩ : Fin 8192) = lane n l from
    Fin.ext (by show n.val / 64 * 64 + l.val = 64 * (n.val / 64) + l.val; omega)]

/-- The whole, element by element, is the mathematical result. -/
theorem whole_apply (b : Fin 2) (i : Fin 256) (e : Fin 512) :
    (project (contexts v (shares (exps (scores x wq k)))) wo (ix3 b i e : S2x256x512.Idx) : EReal) = result x wq k v wo b i e := by
  rw [project_apply]
  unfold result
  refine Finset.sum_congr rfl fun n _ => congrArg (· * (wo (ix2 n e) : EReal)) ?_
  rw [contexts_apply]
  unfold context attend weight
  refine Finset.sum_congr rfl fun j _ => ?_
  rw [shares_apply, mul_comm]
  simp only [exps_apply, scores_apply, queryOf_head]

end

end Cert.ReferenceIdeal.Value

end
-- ==== Proof.lean ====
/- The kernel and its reference: each runs to its end, and over the extended reals they compute the same. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Same
public import proofs.«01_k».proof.Proof.Result
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel over the extended reals ends, with its arguments unchanged and every semaphore at zero. -/
theorem frame_ideal : Cert.quiescent_KernelIdeal := fun m ρ _ => Cert.KernelIdeal.Body.run_args (F := Ideal) m ρ

/-- So does the kernel over the machine's floats: the run is the same one. -/
theorem frame_kernel : Cert.quiescent_Kernel := by
  intro m ρ _
  rw [defs_same, main_same]
  exact Cert.KernelIdeal.Body.run_args (F := Bits) m ρ

/-- So does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- On blocks of the reference's arguments every device ends with the reference's whole result. -/
theorem algebraic : Cert.algebraic_KernelIdeal_ReferenceIdeal := by
  intro m g m' g' _ h
  refine ⟨Cert.ReferenceIdeal.Value.res_main_v39 m' 0,
    (θ_run Cert.KernelIdeal.defs _ _).mono (fun r hr c => ?_) (Cert.KernelIdeal.Body.run_frame (F := Ideal) m g),
    (θ_run Cert.ReferenceIdeal.defs _ _).mono (fun r hr => hr 0) (Cert.ReferenceIdeal.Value.run m' g')⟩
  obtain ⟨h0, h1, h2, h3, h4, h5⟩ := hr.1 c
  refine ⟨h5.trans ?_, h0, h1, h2, h3, h4⟩
  rw [Cert.ReferenceIdeal.Value.res_eq]
  funext j
  idx_vars j
  exact (Cert.KernelIdeal.Body.result_apply m _ _ _ _ _ h c _ _ _).trans (Cert.ReferenceIdeal.Value.whole_apply _ _ _ _ _ _ _ _).symm

/-- All that is claimed. -/
theorem claim : Cert.Claim :=
  ⟨Cert.Kernel.Gen.facts, Cert.KernelIdeal.Gen.facts, Cert.ReferenceIdeal.Gen.facts, frame_kernel, frame_ideal, frame_reference, trivial, algebraic⟩

end Cert.Proof

end
